-- ==== Defs.lean ====
def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_SampleGate (m : (ℓ : Loc Cert.SampleGate.nD Cert.SampleGate.τ Cert.SampleGate.sig) → Buf (Elt Bits) ℓ) : Prop :=
  True

def Pre_SampleGateIdeal (m : (ℓ : Loc Cert.SampleGateIdeal.nD Cert.SampleGateIdeal.τ Cert.SampleGateIdeal.sig) → Buf (Elt Ideal) ℓ) : Prop :=
  True

def Pre_SampleGateRefIdeal (m : (ℓ : Loc Cert.SampleGateRefIdeal.nD Cert.SampleGateRefIdeal.τ Cert.SampleGateRefIdeal.sig) → Buf (Elt Ideal) ℓ) : Prop :=
  True

def Pre_SampleAttn (m : (ℓ : Loc Cert.SampleAttn.nD Cert.SampleAttn.τ Cert.SampleAttn.sig) → Buf (Elt Bits) ℓ) : Prop :=
  True

def Pre_SampleAttnIdeal (m : (ℓ : Loc Cert.SampleAttnIdeal.nD Cert.SampleAttnIdeal.τ Cert.SampleAttnIdeal.sig) → Buf (Elt Ideal) ℓ) : Prop :=
  True

def Pre_SampleAttnIdeal_finite [hPre_finite : Cert.Pre_finite.Facts] (m : (ℓ : Loc Cert.SampleAttnIdeal.nD Cert.SampleAttnIdeal.τ Cert.SampleAttnIdeal.sig) → Buf (Elt Ideal) ℓ) : Prop :=
  ∀ c : Dev Cert.SampleAttnIdeal.nD,
    (Cert.Pre_finite.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4))).1 = (fun _ => 1#1)
    ∧ (Cert.Pre_finite.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4))).2.1 = (fun _ => 1#1)
    ∧ (Cert.Pre_finite.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4))).2.2 = (fun _ => 1#1)

def Pre_SampleAttnRefIdeal (m : (ℓ : Loc Cert.SampleAttnRefIdeal.nD Cert.SampleAttnRefIdeal.τ Cert.SampleAttnRefIdeal.sig) → Buf (Elt Ideal) ℓ) : Prop :=
  True

def Pre_SampleAttnRefIdeal_finite [hPre_finite : Cert.Pre_finite.Facts] (m : (ℓ : Loc Cert.SampleAttnRefIdeal.nD Cert.SampleAttnRefIdeal.τ Cert.SampleAttnRefIdeal.sig) → Buf (Elt Ideal) ℓ) : Prop :=
  ∀ c : Dev Cert.SampleAttnRefIdeal.nD,
    (Cert.Pre_finite.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4))).1 = (fun _ => 1#1)
    ∧ (Cert.Pre_finite.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4))).2.1 = (fun _ => 1#1)
    ∧ (Cert.Pre_finite.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4))).2.2 = (fun _ => 1#1)

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_SampleXattn (m : (ℓ : Loc Cert.SampleXattn.nD Cert.SampleXattn.τ Cert.SampleXattn.sig) → Buf (Elt Bits) ℓ) : Prop :=
  True

def Pre_SampleXattnIdeal (m : (ℓ : Loc Cert.SampleXattnIdeal.nD Cert.SampleXattnIdeal.τ Cert.SampleXattnIdeal.sig) → Buf (Elt Ideal) ℓ) : Prop :=
  True

def Pre_SampleXattnIdeal_finite_memory [hPre_finite_memory : Cert.Pre_finite_memory.Facts] (m : (ℓ : Loc Cert.SampleXattnIdeal.nD Cert.SampleXattnIdeal.τ Cert.SampleXattnIdeal.sig) → Buf (Elt Ideal) ℓ) : Prop :=
  ∀ c : Dev Cert.SampleXattnIdeal.nD,
    (Cert.Pre_finite_memory.fn (F := Ideal) (m ((c.tc : Thread Cert.SampleXattnIdeal.nD Cert.SampleXattnIdeal.τ).loc Cert.SampleXattnIdeal.main_arg0)) (m ((c.tc : Thread Cert.SampleXattnIdeal.nD Cert.SampleXattnIdeal.τ).loc Cert.SampleXattnIdeal.main_arg1)) (m ((c.tc : Thread Cert.SampleXattnIdeal.nD Cert.SampleXattnIdeal.τ).loc Cert.SampleXattnIdeal.main_arg2))).1 = (fun _ => 1#1)
    ∧ (Cert.Pre_finite_memory.fn (F := Ideal) (m ((c.tc : Thread Cert.SampleXattnIdeal.nD Cert.SampleXattnIdeal.τ).loc Cert.SampleXattnIdeal.main_arg0)) (m ((c.tc : Thread Cert.SampleXattnIdeal.nD Cert.SampleXattnIdeal.τ).loc Cert.SampleXattnIdeal.main_arg1)) (m ((c.tc : Thread Cert.SampleXattnIdeal.nD Cert.SampleXattnIdeal.τ).loc Cert.SampleXattnIdeal.main_arg2))).2 = (fun _ => 1#1)

def Pre_SampleXattnRefIdeal (m : (ℓ : Loc Cert.SampleXattnRefIdeal.nD Cert.SampleXattnRefIdeal.τ Cert.SampleXattnRefIdeal.sig) → Buf (Elt Ideal) ℓ) : Prop :=
  True

def Pre_SampleXattnRefIdeal_finite_memory [hPre_finite_memory : Cert.Pre_finite_memory.Facts] (m : (ℓ : Loc Cert.SampleXattnRefIdeal.nD Cert.SampleXattnRefIdeal.τ Cert.SampleXattnRefIdeal.sig) → Buf (Elt Ideal) ℓ) : Prop :=
  ∀ c : Dev Cert.SampleXattnRefIdeal.nD,
    (Cert.Pre_finite_memory.fn (F := Ideal) (m ((c.tc : Thread Cert.SampleXattnRefIdeal.nD Cert.SampleXattnRefIdeal.τ).loc Cert.SampleXattnRefIdeal.main_arg0)) (m ((c.tc : Thread Cert.SampleXattnRefIdeal.nD Cert.SampleXattnRefIdeal.τ).loc Cert.SampleXattnRefIdeal.main_arg1)) (m ((c.tc : Thread Cert.SampleXattnRefIdeal.nD Cert.SampleXattnRefIdeal.τ).loc Cert.SampleXattnRefIdeal.main_arg2))).1 = (fun _ => 1#1)
    ∧ (Cert.Pre_finite_memory.fn (F := Ideal) (m ((c.tc : Thread Cert.SampleXattnRefIdeal.nD Cert.SampleXattnRefIdeal.τ).loc Cert.SampleXattnRefIdeal.main_arg0)) (m ((c.tc : Thread Cert.SampleXattnRefIdeal.nD Cert.SampleXattnRefIdeal.τ).loc Cert.SampleXattnRefIdeal.main_arg1)) (m ((c.tc : Thread Cert.SampleXattnRefIdeal.nD Cert.SampleXattnRefIdeal.τ).loc Cert.SampleXattnRefIdeal.main_arg2))).2 = (fun _ => 1#1)

def Pre_ProjResNorm (m : (ℓ : Loc Cert.ProjResNorm.nD Cert.ProjResNorm.τ Cert.ProjResNorm.sig) → Buf (Elt Bits) ℓ) : Prop :=
  True

def Pre_ProjResNormIdeal (m : (ℓ : Loc Cert.ProjResNormIdeal.nD Cert.ProjResNormIdeal.τ Cert.ProjResNormIdeal.sig) → Buf (Elt Ideal) ℓ) : Prop :=
  True

def Pre_ProjResNormRefIdeal (m : (ℓ : Loc Cert.ProjResNormRefIdeal.nD Cert.ProjResNormRefIdeal.τ Cert.ProjResNormRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_WriteTail (m : (ℓ : Loc Cert.WriteTail.nD Cert.WriteTail.τ Cert.WriteTail.sig) → Buf (Elt Bits) ℓ) : Prop :=
  True

def Pre_WriteTailIdeal (m : (ℓ : Loc Cert.WriteTailIdeal.nD Cert.WriteTailIdeal.τ Cert.WriteTailIdeal.sig) → Buf (Elt Ideal) ℓ) : Prop :=
  True

def Pre_WriteTailRefIdeal (m : (ℓ : Loc Cert.WriteTailRefIdeal.nD Cert.WriteTailRefIdeal.τ Cert.WriteTailRefIdeal.sig) → Buf (Elt Ideal) ℓ) : Prop :=
  True

def Pre_StackNorm (m : (ℓ : Loc Cert.StackNorm.nD Cert.StackNorm.τ Cert.StackNorm.sig) → Buf (Elt Bits) ℓ) : Prop :=
  True

def Pre_StackNormIdeal (m : (ℓ : Loc Cert.StackNormIdeal.nD Cert.StackNormIdeal.τ Cert.StackNormIdeal.sig) → Buf (Elt Ideal) ℓ) : Prop :=
  True

def Pre_StackNormRefIdeal (m : (ℓ : Loc Cert.StackNormRefIdeal.nD Cert.StackNormRefIdeal.τ Cert.StackNormRefIdeal.sig) → Buf (Elt Ideal) ℓ) : Prop :=
  True

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_SampleGate [hSampleGate : Cert.SampleGate.Facts] : Prop :=
  ∀ (m : (ℓ : Loc Cert.SampleGate.nD Cert.SampleGate.τ Cert.SampleGate.sig) → Buf (Elt Bits) ℓ) (g : Dev Cert.SampleGate.nD → PrngReg), Pre_SampleGate m →
    θ_run (Cert.SampleGate.defs (F := Bits)) (onTc (τ := Cert.SampleGate.τ) (Cert.SampleGate.main (F := Bits))) ⟨m, fun _ => 0, g⟩ (fun r => (∀ c : Dev Cert.SampleGate.nD,
      r.2.mem ((c.tc : Thread Cert.SampleGate.nD Cert.SampleGate.τ).loc Cert.SampleGate.main_arg0) = m ((c.tc : Thread Cert.SampleGate.nD Cert.SampleGate.τ).loc Cert.SampleGate.main_arg0)
      ∧ r.2.mem ((c.tc : Thread Cert.SampleGate.nD Cert.SampleGate.τ).loc Cert.SampleGate.main_arg1) = m ((c.tc : Thread Cert.SampleGate.nD Cert.SampleGate.τ).loc Cert.SampleGate.main_arg1)
      ∧ r.2.mem ((c.tc : Thread Cert.SampleGate.nD Cert.SampleGate.τ).loc Cert.SampleGate.main_arg2) = m ((c.tc : Thread Cert.SampleGate.nD Cert.SampleGate.τ).loc Cert.SampleGate.main_arg2)
      ∧ r.2.mem ((c.tc : Thread Cert.SampleGate.nD Cert.SampleGate.τ).loc Cert.SampleGate.main_arg3) = m ((c.tc : Thread Cert.SampleGate.nD Cert.SampleGate.τ).loc Cert.SampleGate.main_arg3)
      ∧ r.2.mem ((c.tc : Thread Cert.SampleGate.nD Cert.SampleGate.τ).loc Cert.SampleGate.main_arg4) = m ((c.tc : Thread Cert.SampleGate.nD Cert.SampleGate.τ).loc Cert.SampleGate.main_arg4)
      ∧ r.2.mem ((c.tc : Thread Cert.SampleGate.nD Cert.SampleGate.τ).loc Cert.SampleGate.main_arg5) = m ((c.tc : Thread Cert.SampleGate.nD Cert.SampleGate.τ).loc Cert.SampleGate.main_arg5)
      ∧ r.2.mem ((c.tc : Thread Cert.SampleGate.nD Cert.SampleGate.τ).loc Cert.SampleGate.main_arg6) = m ((c.tc : Thread Cert.SampleGate.nD Cert.SampleGate.τ).loc Cert.SampleGate.main_arg6))
      ∧ r.2.sem = fun _ => 0)

def quiescent_SampleGateIdeal [hSampleGateIdeal : Cert.SampleGateIdeal.Facts] : Prop :=
  ∀ (m : (ℓ : Loc Cert.SampleGateIdeal.nD Cert.SampleGateIdeal.τ Cert.SampleGateIdeal.sig) → Buf (Elt Ideal) ℓ) (g : Dev Cert.SampleGateIdeal.nD → PrngReg), Pre_SampleGateIdeal m →
    θ_run (Cert.SampleGateIdeal.defs (F := Ideal)) (onTc (τ := Cert.SampleGateIdeal.τ) (Cert.SampleGateIdeal.main (F := Ideal))) ⟨m, fun _ => 0, g⟩ (fun r => (∀ c : Dev Cert.SampleGateIdeal.nD,
      r.2.mem ((c.tc : Thread Cert.SampleGateIdeal.nD Cert.SampleGateIdeal.τ).loc Cert.SampleGateIdeal.main_arg0) = m ((c.tc : Thread Cert.SampleGateIdeal.nD Cert.SampleGateIdeal.τ).loc Cert.SampleGateIdeal.main_arg0)
      ∧ r.2.mem ((c.tc : Thread Cert.SampleGateIdeal.nD Cert.SampleGateIdeal.τ).loc Cert.SampleGateIdeal.main_arg1) = m ((c.tc : Thread Cert.SampleGateIdeal.nD Cert.SampleGateIdeal.τ).loc Cert.SampleGateIdeal.main_arg1)
      ∧ r.2.mem ((c.tc : Thread Cert.SampleGateIdeal.nD Cert.SampleGateIdeal.τ).loc Cert.SampleGateIdeal.main_arg2) = m ((c.tc : Thread Cert.SampleGateIdeal.nD Cert.SampleGateIdeal.τ).loc Cert.SampleGateIdeal.main_arg2)
      ∧ r.2.mem ((c.tc : Thread Cert.SampleGateIdeal.nD Cert.SampleGateIdeal.τ).loc Cert.SampleGateIdeal.main_arg3) = m ((c.tc : Thread Cert.SampleGateIdeal.nD Cert.SampleGateIdeal.τ).loc Cert.SampleGateIdeal.main_arg3)
      ∧ r.2.mem ((c.tc : Thread Cert.SampleGateIdeal.nD Cert.SampleGateIdeal.τ).loc Cert.SampleGateIdeal.main_arg4) = m ((c.tc : Thread Cert.SampleGateIdeal.nD Cert.SampleGateIdeal.τ).loc Cert.SampleGateIdeal.main_arg4)
      ∧ r.2.mem ((c.tc : Thread Cert.SampleGateIdeal.nD Cert.SampleGateIdeal.τ).loc Cert.SampleGateIdeal.main_arg5) = m ((c.tc : Thread Cert.SampleGateIdeal.nD Cert.SampleGateIdeal.τ).loc Cert.SampleGateIdeal.main_arg5)
      ∧ r.2.mem ((c.tc : Thread Cert.SampleGateIdeal.nD Cert.SampleGateIdeal.τ).loc Cert.SampleGateIdeal.main_arg6) = m ((c.tc : Thread Cert.SampleGateIdeal.nD Cert.SampleGateIdeal.τ).loc Cert.SampleGateIdeal.main_arg6))
      ∧ r.2.sem = fun _ => 0)

def quiescent_SampleGateRefIdeal [hSampleGateRefIdeal : Cert.SampleGateRefIdeal.Facts] : Prop :=
  ∀ (m : (ℓ : Loc Cert.SampleGateRefIdeal.nD Cert.SampleGateRefIdeal.τ Cert.SampleGateRefIdeal.sig) → Buf (Elt Ideal) ℓ) (g : Dev Cert.SampleGateRefIdeal.nD → PrngReg), Pre_SampleGateRefIdeal m →
    θ_run (Cert.SampleGateRefIdeal.defs (F := Ideal)) (onTc (τ := Cert.SampleGateRefIdeal.τ) (Cert.SampleGateRefIdeal.main (F := Ideal))) ⟨m, fun _ => 0, g⟩ (fun r => (∀ c : Dev Cert.SampleGateRefIdeal.nD,
      r.2.mem ((c.tc : Thread Cert.SampleGateRefIdeal.nD Cert.SampleGateRefIdeal.τ).loc Cert.SampleGateRefIdeal.main_arg0) = m ((c.tc : Thread Cert.SampleGateRefIdeal.nD Cert.SampleGateRefIdeal.τ).loc Cert.SampleGateRefIdeal.main_arg0)
      ∧ r.2.mem ((c.tc : Thread Cert.SampleGateRefIdeal.nD Cert.SampleGateRefIdeal.τ).loc Cert.SampleGateRefIdeal.main_arg1) = m ((c.tc : Thread Cert.SampleGateRefIdeal.nD Cert.SampleGateRefIdeal.τ).loc Cert.SampleGateRefIdeal.main_arg1)
      ∧ r.2.mem ((c.tc : Thread Cert.SampleGateRefIdeal.nD Cert.SampleGateRefIdeal.τ).loc Cert.SampleGateRefIdeal.main_arg2) = m ((c.tc : Thread Cert.SampleGateRefIdeal.nD Cert.SampleGateRefIdeal.τ).loc Cert.SampleGateRefIdeal.main_arg2)
      ∧ r.2.mem ((c.tc : Thread Cert.SampleGateRefIdeal.nD Cert.SampleGateRefIdeal.τ).loc Cert.SampleGateRefIdeal.main_arg3) = m ((c.tc : Thread Cert.SampleGateRefIdeal.nD Cert.SampleGateRefIdeal.τ).loc Cert.SampleGateRefIdeal.main_arg3)
      ∧ r.2.mem ((c.tc : Thread Cert.SampleGateRefIdeal.nD Cert.SampleGateRefIdeal.τ).loc Cert.SampleGateRefIdeal.main_arg4) = m ((c.tc : Thread Cert.SampleGateRefIdeal.nD Cert.SampleGateRefIdeal.τ).loc Cert.SampleGateRefIdeal.main_arg4)
      ∧ r.2.mem ((c.tc : Thread Cert.SampleGateRefIdeal.nD Cert.SampleGateRefIdeal.τ).loc Cert.SampleGateRefIdeal.main_arg5) = m ((c.tc : Thread Cert.SampleGateRefIdeal.nD Cert.SampleGateRefIdeal.τ).loc Cert.SampleGateRefIdeal.main_arg5)
      ∧ r.2.mem ((c.tc : Thread Cert.SampleGateRefIdeal.nD Cert.SampleGateRefIdeal.τ).loc Cert.SampleGateRefIdeal.main_arg6) = m ((c.tc : Thread Cert.SampleGateRefIdeal.nD Cert.SampleGateRefIdeal.τ).loc Cert.SampleGateRefIdeal.main_arg6))
      ∧ r.2.sem = fun _ => 0)

def quiescent_SampleAttn [hSampleAttn : Cert.SampleAttn.Facts] : Prop :=
  ∀ (m : (ℓ : Loc Cert.SampleAttn.nD Cert.SampleAttn.τ Cert.SampleAttn.sig) → Buf (Elt Bits) ℓ) (g : Dev Cert.SampleAttn.nD → PrngReg), Pre_SampleAttn m →
    θ_run (Cert.SampleAttn.defs (F := Bits)) (onTc (τ := Cert.SampleAttn.τ) (Cert.SampleAttn.main (F := Bits))) ⟨m, fun _ => 0, g⟩ (fun r => (∀ c : Dev Cert.SampleAttn.nD,
      r.2.mem ((c.tc : Thread Cert.SampleAttn.nD Cert.SampleAttn.τ).loc Cert.SampleAttn.main_arg0) = m ((c.tc : Thread Cert.SampleAttn.nD Cert.SampleAttn.τ).loc Cert.SampleAttn.main_arg0)
      ∧ r.2.mem ((c.tc : Thread Cert.SampleAttn.nD Cert.SampleAttn.τ).loc Cert.SampleAttn.main_arg1) = m ((c.tc : Thread Cert.SampleAttn.nD Cert.SampleAttn.τ).loc Cert.SampleAttn.main_arg1)
      ∧ r.2.mem ((c.tc : Thread Cert.SampleAttn.nD Cert.SampleAttn.τ).loc Cert.SampleAttn.main_arg2) = m ((c.tc : Thread Cert.SampleAttn.nD Cert.SampleAttn.τ).loc Cert.SampleAttn.main_arg2)
      ∧ r.2.mem ((c.tc : Thread Cert.SampleAttn.nD Cert.SampleAttn.τ).loc Cert.SampleAttn.main_arg3) = m ((c.tc : Thread Cert.SampleAttn.nD Cert.SampleAttn.τ).loc Cert.SampleAttn.main_arg3)
      ∧ r.2.mem ((c.tc : Thread Cert.SampleAttn.nD Cert.SampleAttn.τ).loc Cert.SampleAttn.main_arg4) = m ((c.tc : Thread Cert.SampleAttn.nD Cert.SampleAttn.τ).loc Cert.SampleAttn.main_arg4))
      ∧ r.2.sem = fun _ => 0)

def quiescent_SampleAttnIdeal [hSampleAttnIdeal : Cert.SampleAttnIdeal.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
      ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
      ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4))
      ∧ r.2.sem = fun _ => 0)

def quiescent_SampleAttnIdeal_pre_finite [hSampleAttnIdeal : Cert.SampleAttnIdeal.Facts] [hPre_finite : Cert.Pre_finite.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal_finite m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
      ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
      ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4))
      ∧ r.2.sem = fun _ => 0)

def quiescent_SampleAttnRefIdeal [hSampleAttnRefIdeal : Cert.SampleAttnRefIdeal.Facts] : Prop :=
  ∀ (m : (ℓ : Loc Cert.SampleAttnRefIdeal.nD Cert.SampleAttnRefIdeal.τ Cert.SampleAttnRefIdeal.sig) → Buf (Elt Ideal) ℓ) (g : Dev Cert.SampleAttnRefIdeal.nD → PrngReg), Pre_SampleAttnRefIdeal m →
    θ_run (Cert.SampleAttnRefIdeal.defs (F := Ideal)) (onTc (τ := Cert.SampleAttnRefIdeal.τ) (Cert.SampleAttnRefIdeal.main (F := Ideal))) ⟨m, fun _ => 0, g⟩ (fun r => (∀ c : Dev Cert.SampleAttnRefIdeal.nD,
      r.2.mem ((c.tc : Thread Cert.SampleAttnRefIdeal.nD Cert.SampleAttnRefIdeal.τ).loc Cert.SampleAttnRefIdeal.main_arg0) = m ((c.tc : Thread Cert.SampleAttnRefIdeal.nD Cert.SampleAttnRefIdeal.τ).loc Cert.SampleAttnRefIdeal.main_arg0)
      ∧ r.2.mem ((c.tc : Thread Cert.SampleAttnRefIdeal.nD Cert.SampleAttnRefIdeal.τ).loc Cert.SampleAttnRefIdeal.main_arg1) = m ((c.tc : Thread Cert.SampleAttnRefIdeal.nD Cert.SampleAttnRefIdeal.τ).loc Cert.SampleAttnRefIdeal.main_arg1)
      ∧ r.2.mem ((c.tc : Thread Cert.SampleAttnRefIdeal.nD Cert.SampleAttnRefIdeal.τ).loc Cert.SampleAttnRefIdeal.main_arg2) = m ((c.tc : Thread Cert.SampleAttnRefIdeal.nD Cert.SampleAttnRefIdeal.τ).loc Cert.SampleAttnRefIdeal.main_arg2)
      ∧ r.2.mem ((c.tc : Thread Cert.SampleAttnRefIdeal.nD Cert.SampleAttnRefIdeal.τ).loc Cert.SampleAttnRefIdeal.main_arg3) = m ((c.tc : Thread Cert.SampleAttnRefIdeal.nD Cert.SampleAttnRefIdeal.τ).loc Cert.SampleAttnRefIdeal.main_arg3)
      ∧ r.2.mem ((c.tc : Thread Cert.SampleAttnRefIdeal.nD Cert.SampleAttnRefIdeal.τ).loc Cert.SampleAttnRefIdeal.main_arg4) = m ((c.tc : Thread Cert.SampleAttnRefIdeal.nD Cert.SampleAttnRefIdeal.τ).loc Cert.SampleAttnRefIdeal.main_arg4))
      ∧ r.2.sem = fun _ => 0)

def quiescent_SampleAttnRefIdeal_pre_finite [hSampleAttnRefIdeal : Cert.SampleAttnRefIdeal.Facts] [hPre_finite : Cert.Pre_finite.Facts] : Prop :=
  ∀ (m : (ℓ : Loc Cert.SampleAttnRefIdeal.nD Cert.SampleAttnRefIdeal.τ Cert.SampleAttnRefIdeal.sig) → Buf (Elt Ideal) ℓ) (g : Dev Cert.SampleAttnRefIdeal.nD → PrngReg), Pre_SampleAttnRefIdeal_finite m →
    θ_run (Cert.SampleAttnRefIdeal.defs (F := Ideal)) (onTc (τ := Cert.SampleAttnRefIdeal.τ) (Cert.SampleAttnRefIdeal.main (F := Ideal))) ⟨m, fun _ => 0, g⟩ (fun r => (∀ c : Dev Cert.SampleAttnRefIdeal.nD,
      r.2.mem ((c.tc : Thread Cert.SampleAttnRefIdeal.nD Cert.SampleAttnRefIdeal.τ).loc Cert.SampleAttnRefIdeal.main_arg0) = m ((c.tc : Thread Cert.SampleAttnRefIdeal.nD Cert.SampleAttnRefIdeal.τ).loc Cert.SampleAttnRefIdeal.main_arg0)
      ∧ r.2.mem ((c.tc : Thread Cert.SampleAttnRefIdeal.nD Cert.SampleAttnRefIdeal.τ).loc Cert.SampleAttnRefIdeal.main_arg1) = m ((c.tc : Thread Cert.SampleAttnRefIdeal.nD Cert.SampleAttnRefIdeal.τ).loc Cert.SampleAttnRefIdeal.main_arg1)
      ∧ r.2.mem ((c.tc : Thread Cert.SampleAttnRefIdeal.nD Cert.SampleAttnRefIdeal.τ).loc Cert.SampleAttnRefIdeal.main_arg2) = m ((c.tc : Thread Cert.SampleAttnRefIdeal.nD Cert.SampleAttnRefIdeal.τ).loc Cert.SampleAttnRefIdeal.main_arg2)
      ∧ r.2.mem ((c.tc : Thread Cert.SampleAttnRefIdeal.nD Cert.SampleAttnRefIdeal.τ).loc Cert.SampleAttnRefIdeal.main_arg3) = m ((c.tc : Thread Cert.SampleAttnRefIdeal.nD Cert.SampleAttnRefIdeal.τ).loc Cert.SampleAttnRefIdeal.main_arg3)
      ∧ r.2.mem ((c.tc : Thread Cert.SampleAttnRefIdeal.nD Cert.SampleAttnRefIdeal.τ).loc Cert.SampleAttnRefIdeal.main_arg4) = m ((c.tc : Thread Cert.SampleAttnRefIdeal.nD Cert.SampleAttnRefIdeal.τ).loc Cert.SampleAttnRefIdeal.main_arg4))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_SampleXattn [hSampleXattn : Cert.SampleXattn.Facts] : Prop :=
  ∀ (m : (ℓ : Loc Cert.SampleXattn.nD Cert.SampleXattn.τ Cert.SampleXattn.sig) → Buf (Elt Bits) ℓ) (g : Dev Cert.SampleXattn.nD → PrngReg), Pre_SampleXattn m →
    θ_run (Cert.SampleXattn.defs (F := Bits)) (onTc (τ := Cert.SampleXattn.τ) (Cert.SampleXattn.main (F := Bits))) ⟨m, fun _ => 0, g⟩ (fun r => (∀ c : Dev Cert.SampleXattn.nD,
      r.2.mem ((c.tc : Thread Cert.SampleXattn.nD Cert.SampleXattn.τ).loc Cert.SampleXattn.main_arg0) = m ((c.tc : Thread Cert.SampleXattn.nD Cert.SampleXattn.τ).loc Cert.SampleXattn.main_arg0)
      ∧ r.2.mem ((c.tc : Thread Cert.SampleXattn.nD Cert.SampleXattn.τ).loc Cert.SampleXattn.main_arg1) = m ((c.tc : Thread Cert.SampleXattn.nD Cert.SampleXattn.τ).loc Cert.SampleXattn.main_arg1)
      ∧ r.2.mem ((c.tc : Thread Cert.SampleXattn.nD Cert.SampleXattn.τ).loc Cert.SampleXattn.main_arg2) = m ((c.tc : Thread Cert.SampleXattn.nD Cert.SampleXattn.τ).loc Cert.SampleXattn.main_arg2))
      ∧ r.2.sem = fun _ => 0)

def quiescent_SampleXattnIdeal [hSampleXattnIdeal : Cert.SampleXattnIdeal.Facts] : Prop :=
  ∀ (m : (ℓ : Loc Cert.SampleXattnIdeal.nD Cert.SampleXattnIdeal.τ Cert.SampleXattnIdeal.sig) → Buf (Elt Ideal) ℓ) (g : Dev Cert.SampleXattnIdeal.nD → PrngReg), Pre_SampleXattnIdeal m →
    θ_run (Cert.SampleXattnIdeal.defs (F := Ideal)) (onTc (τ := Cert.SampleXattnIdeal.τ) (Cert.SampleXattnIdeal.main (F := Ideal))) ⟨m, fun _ => 0, g⟩ (fun r => (∀ c : Dev Cert.SampleXattnIdeal.nD,
      r.2.mem ((c.tc : Thread Cert.SampleXattnIdeal.nD Cert.SampleXattnIdeal.τ).loc Cert.SampleXattnIdeal.main_arg0) = m ((c.tc : Thread Cert.SampleXattnIdeal.nD Cert.SampleXattnIdeal.τ).loc Cert.SampleXattnIdeal.main_arg0)
      ∧ r.2.mem ((c.tc : Thread Cert.SampleXattnIdeal.nD Cert.SampleXattnIdeal.τ).loc Cert.SampleXattnIdeal.main_arg1) = m ((c.tc : Thread Cert.SampleXattnIdeal.nD Cert.SampleXattnIdeal.τ).loc Cert.SampleXattnIdeal.main_arg1)
      ∧ r.2.mem ((c.tc : Thread Cert.SampleXattnIdeal.nD Cert.SampleXattnIdeal.τ).loc Cert.SampleXattnIdeal.main_arg2) = m ((c.tc : Thread Cert.SampleXattnIdeal.nD Cert.SampleXattnIdeal.τ).loc Cert.SampleXattnIdeal.main_arg2))
      ∧ r.2.sem = fun _ => 0)

def quiescent_SampleXattnIdeal_pre_finite_memory [hSampleXattnIdeal : Cert.SampleXattnIdeal.Facts] [hPre_finite_memory : Cert.Pre_finite_memory.Facts] : Prop :=
  ∀ (m : (ℓ : Loc Cert.SampleXattnIdeal.nD Cert.SampleXattnIdeal.τ Cert.SampleXattnIdeal.sig) → Buf (Elt Ideal) ℓ) (g : Dev Cert.SampleXattnIdeal.nD → PrngReg), Pre_SampleXattnIdeal_finite_memory m →
    θ_run (Cert.SampleXattnIdeal.defs (F := Ideal)) (onTc (τ := Cert.SampleXattnIdeal.τ) (Cert.SampleXattnIdeal.main (F := Ideal))) ⟨m, fun _ => 0, g⟩ (fun r => (∀ c : Dev Cert.SampleXattnIdeal.nD,
      r.2.mem ((c.tc : Thread Cert.SampleXattnIdeal.nD Cert.SampleXattnIdeal.τ).loc Cert.SampleXattnIdeal.main_arg0) = m ((c.tc : Thread Cert.SampleXattnIdeal.nD Cert.SampleXattnIdeal.τ).loc Cert.SampleXattnIdeal.main_arg0)
      ∧ r.2.mem ((c.tc : Thread Cert.SampleXattnIdeal.nD Cert.SampleXattnIdeal.τ).loc Cert.SampleXattnIdeal.main_arg1) = m ((c.tc : Thread Cert.SampleXattnIdeal.nD Cert.SampleXattnIdeal.τ).loc Cert.SampleXattnIdeal.main_arg1)
      ∧ r.2.mem ((c.tc : Thread Cert.SampleXattnIdeal.nD Cert.SampleXattnIdeal.τ).loc Cert.SampleXattnIdeal.main_arg2) = m ((c.tc : Thread Cert.SampleXattnIdeal.nD Cert.SampleXattnIdeal.τ).loc Cert.SampleXattnIdeal.main_arg2))
      ∧ r.2.sem = fun _ => 0)

def quiescent_SampleXattnRefIdeal [hSampleXattnRefIdeal : Cert.SampleXattnRefIdeal.Facts] : Prop :=
  ∀ (m : (ℓ : Loc Cert.SampleXattnRefIdeal.nD Cert.SampleXattnRefIdeal.τ Cert.SampleXattnRefIdeal.sig) → Buf (Elt Ideal) ℓ) (g : Dev Cert.SampleXattnRefIdeal.nD → PrngReg), Pre_SampleXattnRefIdeal m →
    θ_run (Cert.SampleXattnRefIdeal.defs (F := Ideal)) (onTc (τ := Cert.SampleXattnRefIdeal.τ) (Cert.SampleXattnRefIdeal.main (F := Ideal))) ⟨m, fun _ => 0, g⟩ (fun r => (∀ c : Dev Cert.SampleXattnRefIdeal.nD,
      r.2.mem ((c.tc : Thread Cert.SampleXattnRefIdeal.nD Cert.SampleXattnRefIdeal.τ).loc Cert.SampleXattnRefIdeal.main_arg0) = m ((c.tc : Thread Cert.SampleXattnRefIdeal.nD Cert.SampleXattnRefIdeal.τ).loc Cert.SampleXattnRefIdeal.main_arg0)
      ∧ r.2.mem ((c.tc : Thread Cert.SampleXattnRefIdeal.nD Cert.SampleXattnRefIdeal.τ).loc Cert.SampleXattnRefIdeal.main_arg1) = m ((c.tc : Thread Cert.SampleXattnRefIdeal.nD Cert.SampleXattnRefIdeal.τ).loc Cert.SampleXattnRefIdeal.main_arg1)
      ∧ r.2.mem ((c.tc : Thread Cert.SampleXattnRefIdeal.nD Cert.SampleXattnRefIdeal.τ).loc Cert.SampleXattnRefIdeal.main_arg2) = m ((c.tc : Thread Cert.SampleXattnRefIdeal.nD Cert.SampleXattnRefIdeal.τ).loc Cert.SampleXattnRefIdeal.main_arg2))
      ∧ r.2.sem = fun _ => 0)

def quiescent_SampleXattnRefIdeal_pre_finite_memory [hSampleXattnRefIdeal : Cert.SampleXattnRefIdeal.Facts] [hPre_finite_memory : Cert.Pre_finite_memory.Facts] : Prop :=
  ∀ (m : (ℓ : Loc Cert.SampleXattnRefIdeal.nD Cert.SampleXattnRefIdeal.τ Cert.SampleXattnRefIdeal.sig) → Buf (Elt Ideal) ℓ) (g : Dev Cert.SampleXattnRefIdeal.nD → PrngReg), Pre_SampleXattnRefIdeal_finite_memory m →
    θ_run (Cert.SampleXattnRefIdeal.defs (F := Ideal)) (onTc (τ := Cert.SampleXattnRefIdeal.τ) (Cert.SampleXattnRefIdeal.main (F := Ideal))) ⟨m, fun _ => 0, g⟩ (fun r => (∀ c : Dev Cert.SampleXattnRefIdeal.nD,
      r.2.mem ((c.tc : Thread Cert.SampleXattnRefIdeal.nD Cert.SampleXattnRefIdeal.τ).loc Cert.SampleXattnRefIdeal.main_arg0) = m ((c.tc : Thread Cert.SampleXattnRefIdeal.nD Cert.SampleXattnRefIdeal.τ).loc Cert.SampleXattnRefIdeal.main_arg0)
      ∧ r.2.mem ((c.tc : Thread Cert.SampleXattnRefIdeal.nD Cert.SampleXattnRefIdeal.τ).loc Cert.SampleXattnRefIdeal.main_arg1) = m ((c.tc : Thread Cert.SampleXattnRefIdeal.nD Cert.SampleXattnRefIdeal.τ).loc Cert.SampleXattnRefIdeal.main_arg1)
      ∧ r.2.mem ((c.tc : Thread Cert.SampleXattnRefIdeal.nD Cert.SampleXattnRefIdeal.τ).loc Cert.SampleXattnRefIdeal.main_arg2) = m ((c.tc : Thread Cert.SampleXattnRefIdeal.nD Cert.SampleXattnRefIdeal.τ).loc Cert.SampleXattnRefIdeal.main_arg2))
      ∧ r.2.sem = fun _ => 0)

def quiescent_ProjResNorm [hProjResNorm : Cert.ProjResNorm.Facts] : Prop :=
  ∀ (m : (ℓ : Loc Cert.ProjResNorm.nD Cert.ProjResNorm.τ Cert.ProjResNorm.sig) → Buf (Elt Bits) ℓ) (g : Dev Cert.ProjResNorm.nD → PrngReg), Pre_ProjResNorm m →
    θ_run (Cert.ProjResNorm.defs (F := Bits)) (onTc (τ := Cert.ProjResNorm.τ) (Cert.ProjResNorm.main (F := Bits))) ⟨m, fun _ => 0, g⟩ (fun r => (∀ c : Dev Cert.ProjResNorm.nD,
      r.2.mem ((c.tc : Thread Cert.ProjResNorm.nD Cert.ProjResNorm.τ).loc Cert.ProjResNorm.main_arg0) = m ((c.tc : Thread Cert.ProjResNorm.nD Cert.ProjResNorm.τ).loc Cert.ProjResNorm.main_arg0)
      ∧ r.2.mem ((c.tc : Thread Cert.ProjResNorm.nD Cert.ProjResNorm.τ).loc Cert.ProjResNorm.main_arg1) = m ((c.tc : Thread Cert.ProjResNorm.nD Cert.ProjResNorm.τ).loc Cert.ProjResNorm.main_arg1)
      ∧ r.2.mem ((c.tc : Thread Cert.ProjResNorm.nD Cert.ProjResNorm.τ).loc Cert.ProjResNorm.main_arg2) = m ((c.tc : Thread Cert.ProjResNorm.nD Cert.ProjResNorm.τ).loc Cert.ProjResNorm.main_arg2)
      ∧ r.2.mem ((c.tc : Thread Cert.ProjResNorm.nD Cert.ProjResNorm.τ).loc Cert.ProjResNorm.main_arg3) = m ((c.tc : Thread Cert.ProjResNorm.nD Cert.ProjResNorm.τ).loc Cert.ProjResNorm.main_arg3))
      ∧ r.2.sem = fun _ => 0)

def quiescent_ProjResNormIdeal [hProjResNormIdeal : Cert.ProjResNormIdeal.Facts] : Prop :=
  ∀ (m : (ℓ : Loc Cert.ProjResNormIdeal.nD Cert.ProjResNormIdeal.τ Cert.ProjResNormIdeal.sig) → Buf (Elt Ideal) ℓ) (g : Dev Cert.ProjResNormIdeal.nD → PrngReg), Pre_ProjResNormIdeal m →
    θ_run (Cert.ProjResNormIdeal.defs (F := Ideal)) (onTc (τ := Cert.ProjResNormIdeal.τ) (Cert.ProjResNormIdeal.main (F := Ideal))) ⟨m, fun _ => 0, g⟩ (fun r => (∀ c : Dev Cert.ProjResNormIdeal.nD,
      r.2.mem ((c.tc : Thread Cert.ProjResNormIdeal.nD Cert.ProjResNormIdeal.τ).loc Cert.ProjResNormIdeal.main_arg0) = m ((c.tc : Thread Cert.ProjResNormIdeal.nD Cert.ProjResNormIdeal.τ).loc Cert.ProjResNormIdeal.main_arg0)
      ∧ r.2.mem ((c.tc : Thread Cert.ProjResNormIdeal.nD Cert.ProjResNormIdeal.τ).loc Cert.ProjResNormIdeal.main_arg1) = m ((c.tc : Thread Cert.ProjResNormIdeal.nD Cert.ProjResNormIdeal.τ).loc Cert.ProjResNormIdeal.main_arg1)
      ∧ r.2.mem ((c.tc : Thread Cert.ProjResNormIdeal.nD Cert.ProjResNormIdeal.τ).loc Cert.ProjResNormIdeal.main_arg2) = m ((c.tc : Thread Cert.ProjResNormIdeal.nD Cert.ProjResNormIdeal.τ).loc Cert.ProjResNormIdeal.main_arg2)
      ∧ r.2.mem ((c.tc : Thread Cert.ProjResNormIdeal.nD Cert.ProjResNormIdeal.τ).loc Cert.ProjResNormIdeal.main_arg3) = m ((c.tc : Thread Cert.ProjResNormIdeal.nD Cert.ProjResNormIdeal.τ).loc Cert.ProjResNormIdeal.main_arg3))
      ∧ r.2.sem = fun _ => 0)

def quiescent_ProjResNormRefIdeal [hProjResNormRefIdeal : Cert.ProjResNormRefIdeal.Facts] : Prop :=
  ∀ (m : (ℓ : Loc Cert.ProjResNormRefIdeal.nD Cert.ProjResNormRefIdeal.τ Cert.ProjResNormRefIdeal.sig) → Buf (Elt Ideal) ℓ) (g : Dev Cert.ProjResNormRefIdeal.nD → PrngReg), Pre_ProjResNormRefIdeal m →
    θ_run (Cert.ProjResNormRefIdeal.defs (F := Ideal)) (onTc (τ := Cert.ProjResNormRefIdeal.τ) (Cert.ProjResNormRefIdeal.main (F := Ideal))) ⟨m, fun _ => 0, g⟩ (fun r => (∀ c : Dev Cert.ProjResNormRefIdeal.nD,
      r.2.mem ((c.tc : Thread Cert.ProjResNormRefIdeal.nD Cert.ProjResNormRefIdeal.τ).loc Cert.ProjResNormRefIdeal.main_arg0) = m ((c.tc : Thread Cert.ProjResNormRefIdeal.nD Cert.ProjResNormRefIdeal.τ).loc Cert.ProjResNormRefIdeal.main_arg0)
      ∧ r.2.mem ((c.tc : Thread Cert.ProjResNormRefIdeal.nD Cert.ProjResNormRefIdeal.τ).loc Cert.ProjResNormRefIdeal.main_arg1) = m ((c.tc : Thread Cert.ProjResNormRefIdeal.nD Cert.ProjResNormRefIdeal.τ).loc Cert.ProjResNormRefIdeal.main_arg1)
      ∧ r.2.mem ((c.tc : Thread Cert.ProjResNormRefIdeal.nD Cert.ProjResNormRefIdeal.τ).loc Cert.ProjResNormRefIdeal.main_arg2) = m ((c.tc : Thread Cert.ProjResNormRefIdeal.nD Cert.ProjResNormRefIdeal.τ).loc Cert.ProjResNormRefIdeal.main_arg2)
      ∧ r.2.mem ((c.tc : Thread Cert.ProjResNormRefIdeal.nD Cert.ProjResNormRefIdeal.τ).loc Cert.ProjResNormRefIdeal.main_arg3) = m ((c.tc : Thread Cert.ProjResNormRefIdeal.nD Cert.ProjResNormRefIdeal.τ).loc Cert.ProjResNormRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_WriteTail [hWriteTail : Cert.WriteTail.Facts] : Prop :=
  ∀ (m : (ℓ : Loc Cert.WriteTail.nD Cert.WriteTail.τ Cert.WriteTail.sig) → Buf (Elt Bits) ℓ) (g : Dev Cert.WriteTail.nD → PrngReg), Pre_WriteTail m →
    θ_run (Cert.WriteTail.defs (F := Bits)) (onTc (τ := Cert.WriteTail.τ) (Cert.WriteTail.main (F := Bits))) ⟨m, fun _ => 0, g⟩ (fun r => (∀ c : Dev Cert.WriteTail.nD,
      r.2.mem ((c.tc : Thread Cert.WriteTail.nD Cert.WriteTail.τ).loc Cert.WriteTail.main_arg0) = m ((c.tc : Thread Cert.WriteTail.nD Cert.WriteTail.τ).loc Cert.WriteTail.main_arg0)
      ∧ r.2.mem ((c.tc : Thread Cert.WriteTail.nD Cert.WriteTail.τ).loc Cert.WriteTail.main_arg1) = m ((c.tc : Thread Cert.WriteTail.nD Cert.WriteTail.τ).loc Cert.WriteTail.main_arg1))
      ∧ r.2.sem = fun _ => 0)

def quiescent_WriteTailIdeal [hWriteTailIdeal : Cert.WriteTailIdeal.Facts] : Prop :=
  ∀ (m : (ℓ : Loc Cert.WriteTailIdeal.nD Cert.WriteTailIdeal.τ Cert.WriteTailIdeal.sig) → Buf (Elt Ideal) ℓ) (g : Dev Cert.WriteTailIdeal.nD → PrngReg), Pre_WriteTailIdeal m →
    θ_run (Cert.WriteTailIdeal.defs (F := Ideal)) (onTc (τ := Cert.WriteTailIdeal.τ) (Cert.WriteTailIdeal.main (F := Ideal))) ⟨m, fun _ => 0, g⟩ (fun r => (∀ c : Dev Cert.WriteTailIdeal.nD,
      r.2.mem ((c.tc : Thread Cert.WriteTailIdeal.nD Cert.WriteTailIdeal.τ).loc Cert.WriteTailIdeal.main_arg0) = m ((c.tc : Thread Cert.WriteTailIdeal.nD Cert.WriteTailIdeal.τ).loc Cert.WriteTailIdeal.main_arg0)
      ∧ r.2.mem ((c.tc : Thread Cert.WriteTailIdeal.nD Cert.WriteTailIdeal.τ).loc Cert.WriteTailIdeal.main_arg1) = m ((c.tc : Thread Cert.WriteTailIdeal.nD Cert.WriteTailIdeal.τ).loc Cert.WriteTailIdeal.main_arg1))
      ∧ r.2.sem = fun _ => 0)

def quiescent_WriteTailRefIdeal [hWriteTailRefIdeal : Cert.WriteTailRefIdeal.Facts] : Prop :=
  ∀ (m : (ℓ : Loc Cert.WriteTailRefIdeal.nD Cert.WriteTailRefIdeal.τ Cert.WriteTailRefIdeal.sig) → Buf (Elt Ideal) ℓ) (g : Dev Cert.WriteTailRefIdeal.nD → PrngReg), Pre_WriteTailRefIdeal m →
    θ_run (Cert.WriteTailRefIdeal.defs (F := Ideal)) (onTc (τ := Cert.WriteTailRefIdeal.τ) (Cert.WriteTailRefIdeal.main (F := Ideal))) ⟨m, fun _ => 0, g⟩ (fun r => (∀ c : Dev Cert.WriteTailRefIdeal.nD,
      r.2.mem ((c.tc : Thread Cert.WriteTailRefIdeal.nD Cert.WriteTailRefIdeal.τ).loc Cert.WriteTailRefIdeal.main_arg0) = m ((c.tc : Thread Cert.WriteTailRefIdeal.nD Cert.WriteTailRefIdeal.τ).loc Cert.WriteTailRefIdeal.main_arg0)
      ∧ r.2.mem ((c.tc : Thread Cert.WriteTailRefIdeal.nD Cert.WriteTailRefIdeal.τ).loc Cert.WriteTailRefIdeal.main_arg1) = m ((c.tc : Thread Cert.WriteTailRefIdeal.nD Cert.WriteTailRefIdeal.τ).loc Cert.WriteTailRefIdeal.main_arg1))
      ∧ r.2.sem = fun _ => 0)

def quiescent_StackNorm [hStackNorm : Cert.StackNorm.Facts] : Prop :=
  ∀ (m : (ℓ : Loc Cert.StackNorm.nD Cert.StackNorm.τ Cert.StackNorm.sig) → Buf (Elt Bits) ℓ) (g : Dev Cert.StackNorm.nD → PrngReg), Pre_StackNorm m →
    θ_run (Cert.StackNorm.defs (F := Bits)) (onTc (τ := Cert.StackNorm.τ) (Cert.StackNorm.main (F := Bits))) ⟨m, fun _ => 0, g⟩ (fun r => (∀ c : Dev Cert.StackNorm.nD,
      r.2.mem ((c.tc : Thread Cert.StackNorm.nD Cert.StackNorm.τ).loc Cert.StackNorm.main_arg0) = m ((c.tc : Thread Cert.StackNorm.nD Cert.StackNorm.τ).loc Cert.StackNorm.main_arg0)
      ∧ r.2.mem ((c.tc : Thread Cert.StackNorm.nD Cert.StackNorm.τ).loc Cert.StackNorm.main_arg1) = m ((c.tc : Thread Cert.StackNorm.nD Cert.StackNorm.τ).loc Cert.StackNorm.main_arg1)
      ∧ r.2.mem ((c.tc : Thread Cert.StackNorm.nD Cert.StackNorm.τ).loc Cert.StackNorm.main_arg2) = m ((c.tc : Thread Cert.StackNorm.nD Cert.StackNorm.τ).loc Cert.StackNorm.main_arg2))
      ∧ r.2.sem = fun _ => 0)

def quiescent_StackNormIdeal [hStackNormIdeal : Cert.StackNormIdeal.Facts] : Prop :=
  ∀ (m : (ℓ : Loc Cert.StackNormIdeal.nD Cert.StackNormIdeal.τ Cert.StackNormIdeal.sig) → Buf (Elt Ideal) ℓ) (g : Dev Cert.StackNormIdeal.nD → PrngReg), Pre_StackNormIdeal m →
    θ_run (Cert.StackNormIdeal.defs (F := Ideal)) (onTc (τ := Cert.StackNormIdeal.τ) (Cert.StackNormIdeal.main (F := Ideal))) ⟨m, fun _ => 0, g⟩ (fun r => (∀ c : Dev Cert.StackNormIdeal.nD,
      r.2.mem ((c.tc : Thread Cert.StackNormIdeal.nD Cert.StackNormIdeal.τ).loc Cert.StackNormIdeal.main_arg0) = m ((c.tc : Thread Cert.StackNormIdeal.nD Cert.StackNormIdeal.τ).loc Cert.StackNormIdeal.main_arg0)
      ∧ r.2.mem ((c.tc : Thread Cert.StackNormIdeal.nD Cert.StackNormIdeal.τ).loc Cert.StackNormIdeal.main_arg1) = m ((c.tc : Thread Cert.StackNormIdeal.nD Cert.StackNormIdeal.τ).loc Cert.StackNormIdeal.main_arg1)
      ∧ r.2.mem ((c.tc : Thread Cert.StackNormIdeal.nD Cert.StackNormIdeal.τ).loc Cert.StackNormIdeal.main_arg2) = m ((c.tc : Thread Cert.StackNormIdeal.nD Cert.StackNormIdeal.τ).loc Cert.StackNormIdeal.main_arg2))
      ∧ r.2.sem = fun _ => 0)

def quiescent_StackNormRefIdeal [hStackNormRefIdeal : Cert.StackNormRefIdeal.Facts] : Prop :=
  ∀ (m : (ℓ : Loc Cert.StackNormRefIdeal.nD Cert.StackNormRefIdeal.τ Cert.StackNormRefIdeal.sig) → Buf (Elt Ideal) ℓ) (g : Dev Cert.StackNormRefIdeal.nD → PrngReg), Pre_StackNormRefIdeal m →
    θ_run (Cert.StackNormRefIdeal.defs (F := Ideal)) (onTc (τ := Cert.StackNormRefIdeal.τ) (Cert.StackNormRefIdeal.main (F := Ideal))) ⟨m, fun _ => 0, g⟩ (fun r => (∀ c : Dev Cert.StackNormRefIdeal.nD,
      r.2.mem ((c.tc : Thread Cert.StackNormRefIdeal.nD Cert.StackNormRefIdeal.τ).loc Cert.StackNormRefIdeal.main_arg0) = m ((c.tc : Thread Cert.StackNormRefIdeal.nD Cert.StackNormRefIdeal.τ).loc Cert.StackNormRefIdeal.main_arg0)
      ∧ r.2.mem ((c.tc : Thread Cert.StackNormRefIdeal.nD Cert.StackNormRefIdeal.τ).loc Cert.StackNormRefIdeal.main_arg1) = m ((c.tc : Thread Cert.StackNormRefIdeal.nD Cert.StackNormRefIdeal.τ).loc Cert.StackNormRefIdeal.main_arg1)
      ∧ r.2.mem ((c.tc : Thread Cert.StackNormRefIdeal.nD Cert.StackNormRefIdeal.τ).loc Cert.StackNormRefIdeal.main_arg2) = m ((c.tc : Thread Cert.StackNormRefIdeal.nD Cert.StackNormRefIdeal.τ).loc Cert.StackNormRefIdeal.main_arg2))
      ∧ r.2.sem = fun _ => 0)

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v28)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v28) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v156) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_v5) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_SampleGate_SampleGateIdeal : Prop :=
  True

def algebraic_SampleGateIdeal_SampleGateRefIdeal [hSampleGateIdeal : Cert.SampleGateIdeal.Facts] [hSampleGateRefIdeal : Cert.SampleGateRefIdeal.Facts] : Prop :=
  ∀ (m : (ℓ : Loc Cert.SampleGateIdeal.nD Cert.SampleGateIdeal.τ Cert.SampleGateIdeal.sig) → Buf (Elt Ideal) ℓ) (g : Dev Cert.SampleGateIdeal.nD → PrngReg)
    (m' : (ℓ : Loc Cert.SampleGateRefIdeal.nD Cert.SampleGateRefIdeal.τ Cert.SampleGateRefIdeal.sig) → Buf (Elt Ideal) ℓ) (g' : Dev Cert.SampleGateRefIdeal.nD → PrngReg), Pre_SampleGateIdeal m →
    (∀ c : Dev Cert.SampleGateIdeal.nD,
      m' ((c.tc : Thread Cert.SampleGateRefIdeal.nD Cert.SampleGateRefIdeal.τ).loc Cert.SampleGateRefIdeal.main_arg0) = m ((c.tc : Thread Cert.SampleGateIdeal.nD Cert.SampleGateIdeal.τ).loc Cert.SampleGateIdeal.main_arg0)
      ∧ m' ((c.tc : Thread Cert.SampleGateRefIdeal.nD Cert.SampleGateRefIdeal.τ).loc Cert.SampleGateRefIdeal.main_arg1) = m ((c.tc : Thread Cert.SampleGateIdeal.nD Cert.SampleGateIdeal.τ).loc Cert.SampleGateIdeal.main_arg1)
      ∧ m' ((c.tc : Thread Cert.SampleGateRefIdeal.nD Cert.SampleGateRefIdeal.τ).loc Cert.SampleGateRefIdeal.main_arg2) = m ((c.tc : Thread Cert.SampleGateIdeal.nD Cert.SampleGateIdeal.τ).loc Cert.SampleGateIdeal.main_arg2)
      ∧ m' ((c.tc : Thread Cert.SampleGateRefIdeal.nD Cert.SampleGateRefIdeal.τ).loc Cert.SampleGateRefIdeal.main_arg3) = m ((c.tc : Thread Cert.SampleGateIdeal.nD Cert.SampleGateIdeal.τ).loc Cert.SampleGateIdeal.main_arg3)
      ∧ m' ((c.tc : Thread Cert.SampleGateRefIdeal.nD Cert.SampleGateRefIdeal.τ).loc Cert.SampleGateRefIdeal.main_arg4) = m ((c.tc : Thread Cert.SampleGateIdeal.nD Cert.SampleGateIdeal.τ).loc Cert.SampleGateIdeal.main_arg4)
      ∧ m' ((c.tc : Thread Cert.SampleGateRefIdeal.nD Cert.SampleGateRefIdeal.τ).loc Cert.SampleGateRefIdeal.main_arg5) = m ((c.tc : Thread Cert.SampleGateIdeal.nD Cert.SampleGateIdeal.τ).loc Cert.SampleGateIdeal.main_arg5)
      ∧ m' ((c.tc : Thread Cert.SampleGateRefIdeal.nD Cert.SampleGateRefIdeal.τ).loc Cert.SampleGateRefIdeal.main_arg6) = m ((c.tc : Thread Cert.SampleGateIdeal.nD Cert.SampleGateIdeal.τ).loc Cert.SampleGateIdeal.main_arg6)) →
    ∃ (v0 : (c : Dev Cert.SampleGateIdeal.nD) → Buf (Elt Ideal) ((c.tc : Thread Cert.SampleGateIdeal.nD Cert.SampleGateIdeal.τ).loc Cert.SampleGateIdeal.main_v16_0)) (v1 : (c : Dev Cert.SampleGateIdeal.nD) → Buf (Elt Ideal) ((c.tc : Thread Cert.SampleGateIdeal.nD Cert.SampleGateIdeal.τ).loc Cert.SampleGateIdeal.main_v16_1)),
      θ_run (Cert.SampleGateIdeal.defs (F := Ideal)) (onTc (τ := Cert.SampleGateIdeal.τ) (Cert.SampleGateIdeal.main (F := Ideal))) ⟨m, fun _ => 0, g⟩ (fun r => ∀ c : Dev Cert.SampleGateIdeal.nD,
          r.2.mem ((c.tc : Thread Cert.SampleGateIdeal.nD Cert.SampleGateIdeal.τ).loc Cert.SampleGateIdeal.main_v16_0) = v0 c
          ∧ r.2.mem ((c.tc : Thread Cert.SampleGateIdeal.nD Cert.SampleGateIdeal.τ).loc Cert.SampleGateIdeal.main_v16_1) = v1 c
          ∧ r.2.mem ((c.tc : Thread Cert.SampleGateIdeal.nD Cert.SampleGateIdeal.τ).loc Cert.SampleGateIdeal.main_arg0) = m ((c.tc : Thread Cert.SampleGateIdeal.nD Cert.SampleGateIdeal.τ).loc Cert.SampleGateIdeal.main_arg0)
          ∧ r.2.mem ((c.tc : Thread Cert.SampleGateIdeal.nD Cert.SampleGateIdeal.τ).loc Cert.SampleGateIdeal.main_arg1) = m ((c.tc : Thread Cert.SampleGateIdeal.nD Cert.SampleGateIdeal.τ).loc Cert.SampleGateIdeal.main_arg1)
          ∧ r.2.mem ((c.tc : Thread Cert.SampleGateIdeal.nD Cert.SampleGateIdeal.τ).loc Cert.SampleGateIdeal.main_arg2) = m ((c.tc : Thread Cert.SampleGateIdeal.nD Cert.SampleGateIdeal.τ).loc Cert.SampleGateIdeal.main_arg2)
          ∧ r.2.mem ((c.tc : Thread Cert.SampleGateIdeal.nD Cert.SampleGateIdeal.τ).loc Cert.SampleGateIdeal.main_arg3) = m ((c.tc : Thread Cert.SampleGateIdeal.nD Cert.SampleGateIdeal.τ).loc Cert.SampleGateIdeal.main_arg3)
          ∧ r.2.mem ((c.tc : Thread Cert.SampleGateIdeal.nD Cert.SampleGateIdeal.τ).loc Cert.SampleGateIdeal.main_arg4) = m ((c.tc : Thread Cert.SampleGateIdeal.nD Cert.SampleGateIdeal.τ).loc Cert.SampleGateIdeal.main_arg4)
          ∧ r.2.mem ((c.tc : Thread Cert.SampleGateIdeal.nD Cert.SampleGateIdeal.τ).loc Cert.SampleGateIdeal.main_arg5) = m ((c.tc : Thread Cert.SampleGateIdeal.nD Cert.SampleGateIdeal.τ).loc Cert.SampleGateIdeal.main_arg5)
          ∧ r.2.mem ((c.tc : Thread Cert.SampleGateIdeal.nD Cert.SampleGateIdeal.τ).loc Cert.SampleGateIdeal.main_arg6) = m ((c.tc : Thread Cert.SampleGateIdeal.nD Cert.SampleGateIdeal.τ).loc Cert.SampleGateIdeal.main_arg6))
      ∧ θ_run (Cert.SampleGateRefIdeal.defs (F := Ideal)) (onTc (τ := Cert.SampleGateRefIdeal.τ) (Cert.SampleGateRefIdeal.main (F := Ideal))) ⟨m', fun _ => 0, g'⟩ (fun r => ∀ c : Dev Cert.SampleGateRefIdeal.nD,
          r.2.mem ((c.tc : Thread Cert.SampleGateRefIdeal.nD Cert.SampleGateRefIdeal.τ).loc Cert.SampleGateRefIdeal.main_v39) = v0 c
          ∧ r.2.mem ((c.tc : Thread Cert.SampleGateRefIdeal.nD Cert.SampleGateRefIdeal.τ).loc Cert.SampleGateRefIdeal.main_v42) = v1 c
          ∧ r.2.mem ((c.tc : Thread Cert.SampleGateRefIdeal.nD Cert.SampleGateRefIdeal.τ).loc Cert.SampleGateRefIdeal.main_arg0) = m' ((c.tc : Thread Cert.SampleGateRefIdeal.nD Cert.SampleGateRefIdeal.τ).loc Cert.SampleGateRefIdeal.main_arg0)
          ∧ r.2.mem ((c.tc : Thread Cert.SampleGateRefIdeal.nD Cert.SampleGateRefIdeal.τ).loc Cert.SampleGateRefIdeal.main_arg1) = m' ((c.tc : Thread Cert.SampleGateRefIdeal.nD Cert.SampleGateRefIdeal.τ).loc Cert.SampleGateRefIdeal.main_arg1)
          ∧ r.2.mem ((c.tc : Thread Cert.SampleGateRefIdeal.nD Cert.SampleGateRefIdeal.τ).loc Cert.SampleGateRefIdeal.main_arg2) = m' ((c.tc : Thread Cert.SampleGateRefIdeal.nD Cert.SampleGateRefIdeal.τ).loc Cert.SampleGateRefIdeal.main_arg2)
          ∧ r.2.mem ((c.tc : Thread Cert.SampleGateRefIdeal.nD Cert.SampleGateRefIdeal.τ).loc Cert.SampleGateRefIdeal.main_arg3) = m' ((c.tc : Thread Cert.SampleGateRefIdeal.nD Cert.SampleGateRefIdeal.τ).loc Cert.SampleGateRefIdeal.main_arg3)
          ∧ r.2.mem ((c.tc : Thread Cert.SampleGateRefIdeal.nD Cert.SampleGateRefIdeal.τ).loc Cert.SampleGateRefIdeal.main_arg4) = m' ((c.tc : Thread Cert.SampleGateRefIdeal.nD Cert.SampleGateRefIdeal.τ).loc Cert.SampleGateRefIdeal.main_arg4)
          ∧ r.2.mem ((c.tc : Thread Cert.SampleGateRefIdeal.nD Cert.SampleGateRefIdeal.τ).loc Cert.SampleGateRefIdeal.main_arg5) = m' ((c.tc : Thread Cert.SampleGateRefIdeal.nD Cert.SampleGateRefIdeal.τ).loc Cert.SampleGateRefIdeal.main_arg5)
          ∧ r.2.mem ((c.tc : Thread Cert.SampleGateRefIdeal.nD Cert.SampleGateRefIdeal.τ).loc Cert.SampleGateRefIdeal.main_arg6) = m' ((c.tc : Thread Cert.SampleGateRefIdeal.nD Cert.SampleGateRefIdeal.τ).loc Cert.SampleGateRefIdeal.main_arg6))

def preserves_SampleAttn_SampleAttnIdeal : Prop :=
  True

def algebraic_SampleAttnIdeal_SampleAttnRefIdeal_pre_finite [hSampleAttnIdeal : Cert.SampleAttnIdeal.Facts] [hSampleAttnRefIdeal : Cert.SampleAttnRefIdeal.Facts] [hPre_finite : Cert.Pre_finite.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg)
    (m' : (ℓ : Loc Cert.SampleAttnRefIdeal.nD Cert.SampleAttnRefIdeal.τ Cert.SampleAttnRefIdeal.sig) → Buf (Elt Ideal) ℓ) (g' : Dev Cert.SampleAttnRefIdeal.nD → PrngReg), Pre_SampleAttnIdeal_finite m →
    (∀ c : Dev Cert.SampleAttnIdeal.nD,
      m' ((c.tc : Thread Cert.SampleAttnRefIdeal.nD Cert.SampleAttnRefIdeal.τ).loc Cert.SampleAttnRefIdeal.main_arg0) = m ((c.tc : Thread Cert.SampleAttnIdeal.nD Cert.SampleAttnIdeal.τ).loc Cert.SampleAttnIdeal.main_arg0)
      ∧ m' ((c.tc : Thread Cert.SampleAttnRefIdeal.nD Cert.SampleAttnRefIdeal.τ).loc Cert.SampleAttnRefIdeal.main_arg1) = m ((c.tc : Thread Cert.SampleAttnIdeal.nD Cert.SampleAttnIdeal.τ).loc Cert.SampleAttnIdeal.main_arg1)
      ∧ m' ((c.tc : Thread Cert.SampleAttnRefIdeal.nD Cert.SampleAttnRefIdeal.τ).loc Cert.SampleAttnRefIdeal.main_arg2) = m ((c.tc : Thread Cert.SampleAttnIdeal.nD Cert.SampleAttnIdeal.τ).loc Cert.SampleAttnIdeal.main_arg2)
      ∧ m' ((c.tc : Thread Cert.SampleAttnRefIdeal.nD Cert.SampleAttnRefIdeal.τ).loc Cert.SampleAttnRefIdeal.main_arg3) = m ((c.tc : Thread Cert.SampleAttnIdeal.nD Cert.SampleAttnIdeal.τ).loc Cert.SampleAttnIdeal.main_arg3)
      ∧ m' ((c.tc : Thread Cert.SampleAttnRefIdeal.nD Cert.SampleAttnRefIdeal.τ).loc Cert.SampleAttnRefIdeal.main_arg4) = m ((c.tc : Thread Cert.SampleAttnIdeal.nD Cert.SampleAttnIdeal.τ).loc Cert.SampleAttnIdeal.main_arg4)) →
    ∃ (v0 : (c : Dev Cert.SampleAttnIdeal.nD) → Buf (Elt Ideal) ((c.tc : Thread Cert.SampleAttnIdeal.nD Cert.SampleAttnIdeal.τ).loc Cert.SampleAttnIdeal.main_v6)),
      θ_run (Cert.SampleAttnIdeal.defs (F := Ideal)) (onTc (τ := Cert.SampleAttnIdeal.τ) (Cert.SampleAttnIdeal.main (F := Ideal))) ⟨m, fun _ => 0, g⟩ (fun r => ∀ c : Dev Cert.SampleAttnIdeal.nD,
          r.2.mem ((c.tc : Thread Cert.SampleAttnIdeal.nD Cert.SampleAttnIdeal.τ).loc Cert.SampleAttnIdeal.main_v6) = v0 c
          ∧ r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
          ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
          ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
          ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
          ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4))
      ∧ θ_run (Cert.SampleAttnRefIdeal.defs (F := Ideal)) (onTc (τ := Cert.SampleAttnRefIdeal.τ) (Cert.SampleAttnRefIdeal.main (F := Ideal))) ⟨m', fun _ => 0, g'⟩ (fun r => ∀ c : Dev Cert.SampleAttnRefIdeal.nD,
          r.2.mem ((c.tc : Thread Cert.SampleAttnRefIdeal.nD Cert.SampleAttnRefIdeal.τ).loc Cert.SampleAttnRefIdeal.main_v168) = v0 c
          ∧ r.2.mem ((c.tc : Thread Cert.SampleAttnRefIdeal.nD Cert.SampleAttnRefIdeal.τ).loc Cert.SampleAttnRefIdeal.main_arg0) = m' ((c.tc : Thread Cert.SampleAttnRefIdeal.nD Cert.SampleAttnRefIdeal.τ).loc Cert.SampleAttnRefIdeal.main_arg0)
          ∧ r.2.mem ((c.tc : Thread Cert.SampleAttnRefIdeal.nD Cert.SampleAttnRefIdeal.τ).loc Cert.SampleAttnRefIdeal.main_arg1) = m' ((c.tc : Thread Cert.SampleAttnRefIdeal.nD Cert.SampleAttnRefIdeal.τ).loc Cert.SampleAttnRefIdeal.main_arg1)
          ∧ r.2.mem ((c.tc : Thread Cert.SampleAttnRefIdeal.nD Cert.SampleAttnRefIdeal.τ).loc Cert.SampleAttnRefIdeal.main_arg2) = m' ((c.tc : Thread Cert.SampleAttnRefIdeal.nD Cert.SampleAttnRefIdeal.τ).loc Cert.SampleAttnRefIdeal.main_arg2)
          ∧ r.2.mem ((c.tc : Thread Cert.SampleAttnRefIdeal.nD Cert.SampleAttnRefIdeal.τ).loc Cert.SampleAttnRefIdeal.main_arg3) = m' ((c.tc : Thread Cert.SampleAttnRefIdeal.nD Cert.SampleAttnRefIdeal.τ).loc Cert.SampleAttnRefIdeal.main_arg3)
          ∧ r.2.mem ((c.tc : Thread Cert.SampleAttnRefIdeal.nD Cert.SampleAttnRefIdeal.τ).loc Cert.SampleAttnRefIdeal.main_arg4) = m' ((c.tc : Thread Cert.SampleAttnRefIdeal.nD Cert.SampleAttnRefIdeal.τ).loc Cert.SampleAttnRefIdeal.main_arg4))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v3)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v3) = v0 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v15) = v0 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_SampleXattn_SampleXattnIdeal : Prop :=
  True

def algebraic_SampleXattnIdeal_SampleXattnRefIdeal_pre_finite_memory [hSampleXattnIdeal : Cert.SampleXattnIdeal.Facts] [hSampleXattnRefIdeal : Cert.SampleXattnRefIdeal.Facts] [hPre_finite_memory : Cert.Pre_finite_memory.Facts] : Prop :=
  ∀ (m : (ℓ : Loc Cert.SampleXattnIdeal.nD Cert.SampleXattnIdeal.τ Cert.SampleXattnIdeal.sig) → Buf (Elt Ideal) ℓ) (g : Dev Cert.SampleXattnIdeal.nD → PrngReg)
    (m' : (ℓ : Loc Cert.SampleXattnRefIdeal.nD Cert.SampleXattnRefIdeal.τ Cert.SampleXattnRefIdeal.sig) → Buf (Elt Ideal) ℓ) (g' : Dev Cert.SampleXattnRefIdeal.nD → PrngReg), Pre_SampleXattnIdeal_finite_memory m →
    (∀ c : Dev Cert.SampleXattnIdeal.nD,
      m' ((c.tc : Thread Cert.SampleXattnRefIdeal.nD Cert.SampleXattnRefIdeal.τ).loc Cert.SampleXattnRefIdeal.main_arg0) = m ((c.tc : Thread Cert.SampleXattnIdeal.nD Cert.SampleXattnIdeal.τ).loc Cert.SampleXattnIdeal.main_arg0)
      ∧ m' ((c.tc : Thread Cert.SampleXattnRefIdeal.nD Cert.SampleXattnRefIdeal.τ).loc Cert.SampleXattnRefIdeal.main_arg1) = m ((c.tc : Thread Cert.SampleXattnIdeal.nD Cert.SampleXattnIdeal.τ).loc Cert.SampleXattnIdeal.main_arg1)
      ∧ m' ((c.tc : Thread Cert.SampleXattnRefIdeal.nD Cert.SampleXattnRefIdeal.τ).loc Cert.SampleXattnRefIdeal.main_arg2) = m ((c.tc : Thread Cert.SampleXattnIdeal.nD Cert.SampleXattnIdeal.τ).loc Cert.SampleXattnIdeal.main_arg2)) →
    ∃ (v0 : (c : Dev Cert.SampleXattnIdeal.nD) → Buf (Elt Ideal) ((c.tc : Thread Cert.SampleXattnIdeal.nD Cert.SampleXattnIdeal.τ).loc Cert.SampleXattnIdeal.main_v2)),
      θ_run (Cert.SampleXattnIdeal.defs (F := Ideal)) (onTc (τ := Cert.SampleXattnIdeal.τ) (Cert.SampleXattnIdeal.main (F := Ideal))) ⟨m, fun _ => 0, g⟩ (fun r => ∀ c : Dev Cert.SampleXattnIdeal.nD,
          r.2.mem ((c.tc : Thread Cert.SampleXattnIdeal.nD Cert.SampleXattnIdeal.τ).loc Cert.SampleXattnIdeal.main_v2) = v0 c
          ∧ r.2.mem ((c.tc : Thread Cert.SampleXattnIdeal.nD Cert.SampleXattnIdeal.τ).loc Cert.SampleXattnIdeal.main_arg0) = m ((c.tc : Thread Cert.SampleXattnIdeal.nD Cert.SampleXattnIdeal.τ).loc Cert.SampleXattnIdeal.main_arg0)
          ∧ r.2.mem ((c.tc : Thread Cert.SampleXattnIdeal.nD Cert.SampleXattnIdeal.τ).loc Cert.SampleXattnIdeal.main_arg1) = m ((c.tc : Thread Cert.SampleXattnIdeal.nD Cert.SampleXattnIdeal.τ).loc Cert.SampleXattnIdeal.main_arg1)
          ∧ r.2.mem ((c.tc : Thread Cert.SampleXattnIdeal.nD Cert.SampleXattnIdeal.τ).loc Cert.SampleXattnIdeal.main_arg2) = m ((c.tc : Thread Cert.SampleXattnIdeal.nD Cert.SampleXattnIdeal.τ).loc Cert.SampleXattnIdeal.main_arg2))
      ∧ θ_run (Cert.SampleXattnRefIdeal.defs (F := Ideal)) (onTc (τ := Cert.SampleXattnRefIdeal.τ) (Cert.SampleXattnRefIdeal.main (F := Ideal))) ⟨m', fun _ => 0, g'⟩ (fun r => ∀ c : Dev Cert.SampleXattnRefIdeal.nD,
          r.2.mem ((c.tc : Thread Cert.SampleXattnRefIdeal.nD Cert.SampleXattnRefIdeal.τ).loc Cert.SampleXattnRefIdeal.main_v19) = v0 c
          ∧ r.2.mem ((c.tc : Thread Cert.SampleXattnRefIdeal.nD Cert.SampleXattnRefIdeal.τ).loc Cert.SampleXattnRefIdeal.main_arg0) = m' ((c.tc : Thread Cert.SampleXattnRefIdeal.nD Cert.SampleXattnRefIdeal.τ).loc Cert.SampleXattnRefIdeal.main_arg0)
          ∧ r.2.mem ((c.tc : Thread Cert.SampleXattnRefIdeal.nD Cert.SampleXattnRefIdeal.τ).loc Cert.SampleXattnRefIdeal.main_arg1) = m' ((c.tc : Thread Cert.SampleXattnRefIdeal.nD Cert.SampleXattnRefIdeal.τ).loc Cert.SampleXattnRefIdeal.main_arg1)
          ∧ r.2.mem ((c.tc : Thread Cert.SampleXattnRefIdeal.nD Cert.SampleXattnRefIdeal.τ).loc Cert.SampleXattnRefIdeal.main_arg2) = m' ((c.tc : Thread Cert.SampleXattnRefIdeal.nD Cert.SampleXattnRefIdeal.τ).loc Cert.SampleXattnRefIdeal.main_arg2))

def preserves_ProjResNorm_ProjResNormIdeal : Prop :=
  True

def algebraic_ProjResNormIdeal_ProjResNormRefIdeal [hProjResNormIdeal : Cert.ProjResNormIdeal.Facts] [hProjResNormRefIdeal : Cert.ProjResNormRefIdeal.Facts] : Prop :=
  ∀ (m : (ℓ : Loc Cert.ProjResNormIdeal.nD Cert.ProjResNormIdeal.τ Cert.ProjResNormIdeal.sig) → Buf (Elt Ideal) ℓ) (g : Dev Cert.ProjResNormIdeal.nD → PrngReg)
    (m' : (ℓ : Loc Cert.ProjResNormRefIdeal.nD Cert.ProjResNormRefIdeal.τ Cert.ProjResNormRefIdeal.sig) → Buf (Elt Ideal) ℓ) (g' : Dev Cert.ProjResNormRefIdeal.nD → PrngReg), Pre_ProjResNormIdeal m →
    (∀ c : Dev Cert.ProjResNormIdeal.nD,
      m' ((c.tc : Thread Cert.ProjResNormRefIdeal.nD Cert.ProjResNormRefIdeal.τ).loc Cert.ProjResNormRefIdeal.main_arg0) = m ((c.tc : Thread Cert.ProjResNormIdeal.nD Cert.ProjResNormIdeal.τ).loc Cert.ProjResNormIdeal.main_arg0)
      ∧ m' ((c.tc : Thread Cert.ProjResNormRefIdeal.nD Cert.ProjResNormRefIdeal.τ).loc Cert.ProjResNormRefIdeal.main_arg1) = m ((c.tc : Thread Cert.ProjResNormIdeal.nD Cert.ProjResNormIdeal.τ).loc Cert.ProjResNormIdeal.main_arg1)
      ∧ m' ((c.tc : Thread Cert.ProjResNormRefIdeal.nD Cert.ProjResNormRefIdeal.τ).loc Cert.ProjResNormRefIdeal.main_arg2) = m ((c.tc : Thread Cert.ProjResNormIdeal.nD Cert.ProjResNormIdeal.τ).loc Cert.ProjResNormIdeal.main_arg2)
      ∧ m' ((c.tc : Thread Cert.ProjResNormRefIdeal.nD Cert.ProjResNormRefIdeal.τ).loc Cert.ProjResNormRefIdeal.main_arg3) = m ((c.tc : Thread Cert.ProjResNormIdeal.nD Cert.ProjResNormIdeal.τ).loc Cert.ProjResNormIdeal.main_arg3)) →
    ∃ (v0 : (c : Dev Cert.ProjResNormIdeal.nD) → Buf (Elt Ideal) ((c.tc : Thread Cert.ProjResNormIdeal.nD Cert.ProjResNormIdeal.τ).loc Cert.ProjResNormIdeal.main_v3_0)) (v1 : (c : Dev Cert.ProjResNormIdeal.nD) → Buf (Elt Ideal) ((c.tc : Thread Cert.ProjResNormIdeal.nD Cert.ProjResNormIdeal.τ).loc Cert.ProjResNormIdeal.main_v3_1)),
      θ_run (Cert.ProjResNormIdeal.defs (F := Ideal)) (onTc (τ := Cert.ProjResNormIdeal.τ) (Cert.ProjResNormIdeal.main (F := Ideal))) ⟨m, fun _ => 0, g⟩ (fun r => ∀ c : Dev Cert.ProjResNormIdeal.nD,
          r.2.mem ((c.tc : Thread Cert.ProjResNormIdeal.nD Cert.ProjResNormIdeal.τ).loc Cert.ProjResNormIdeal.main_v3_0) = v0 c
          ∧ r.2.mem ((c.tc : Thread Cert.ProjResNormIdeal.nD Cert.ProjResNormIdeal.τ).loc Cert.ProjResNormIdeal.main_v3_1) = v1 c
          ∧ r.2.mem ((c.tc : Thread Cert.ProjResNormIdeal.nD Cert.ProjResNormIdeal.τ).loc Cert.ProjResNormIdeal.main_arg0) = m ((c.tc : Thread Cert.ProjResNormIdeal.nD Cert.ProjResNormIdeal.τ).loc Cert.ProjResNormIdeal.main_arg0)
          ∧ r.2.mem ((c.tc : Thread Cert.ProjResNormIdeal.nD Cert.ProjResNormIdeal.τ).loc Cert.ProjResNormIdeal.main_arg1) = m ((c.tc : Thread Cert.ProjResNormIdeal.nD Cert.ProjResNormIdeal.τ).loc Cert.ProjResNormIdeal.main_arg1)
          ∧ r.2.mem ((c.tc : Thread Cert.ProjResNormIdeal.nD Cert.ProjResNormIdeal.τ).loc Cert.ProjResNormIdeal.main_arg2) = m ((c.tc : Thread Cert.ProjResNormIdeal.nD Cert.ProjResNormIdeal.τ).loc Cert.ProjResNormIdeal.main_arg2)
          ∧ r.2.mem ((c.tc : Thread Cert.ProjResNormIdeal.nD Cert.ProjResNormIdeal.τ).loc Cert.ProjResNormIdeal.main_arg3) = m ((c.tc : Thread Cert.ProjResNormIdeal.nD Cert.ProjResNormIdeal.τ).loc Cert.ProjResNormIdeal.main_arg3))
      ∧ θ_run (Cert.ProjResNormRefIdeal.defs (F := Ideal)) (onTc (τ := Cert.ProjResNormRefIdeal.τ) (Cert.ProjResNormRefIdeal.main (F := Ideal))) ⟨m', fun _ => 0, g'⟩ (fun r => ∀ c : Dev Cert.ProjResNormRefIdeal.nD,
          r.2.mem ((c.tc : Thread Cert.ProjResNormRefIdeal.nD Cert.ProjResNormRefIdeal.τ).loc Cert.ProjResNormRefIdeal.main_v3) = v0 c
          ∧ r.2.mem ((c.tc : Thread Cert.ProjResNormRefIdeal.nD Cert.ProjResNormRefIdeal.τ).loc Cert.ProjResNormRefIdeal.main_v18) = v1 c
          ∧ r.2.mem ((c.tc : Thread Cert.ProjResNormRefIdeal.nD Cert.ProjResNormRefIdeal.τ).loc Cert.ProjResNormRefIdeal.main_arg0) = m' ((c.tc : Thread Cert.ProjResNormRefIdeal.nD Cert.ProjResNormRefIdeal.τ).loc Cert.ProjResNormRefIdeal.main_arg0)
          ∧ r.2.mem ((c.tc : Thread Cert.ProjResNormRefIdeal.nD Cert.ProjResNormRefIdeal.τ).loc Cert.ProjResNormRefIdeal.main_arg1) = m' ((c.tc : Thread Cert.ProjResNormRefIdeal.nD Cert.ProjResNormRefIdeal.τ).loc Cert.ProjResNormRefIdeal.main_arg1)
          ∧ r.2.mem ((c.tc : Thread Cert.ProjResNormRefIdeal.nD Cert.ProjResNormRefIdeal.τ).loc Cert.ProjResNormRefIdeal.main_arg2) = m' ((c.tc : Thread Cert.ProjResNormRefIdeal.nD Cert.ProjResNormRefIdeal.τ).loc Cert.ProjResNormRefIdeal.main_arg2)
          ∧ r.2.mem ((c.tc : Thread Cert.ProjResNormRefIdeal.nD Cert.ProjResNormRefIdeal.τ).loc Cert.ProjResNormRefIdeal.main_arg3) = m' ((c.tc : Thread Cert.ProjResNormRefIdeal.nD Cert.ProjResNormRefIdeal.τ).loc Cert.ProjResNormRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1_0)) (v1 : (c : Dev Cert.FinalNormIdeal.nD) → Buf (Elt Ideal) ((c.tc : Thread Cert.FinalNormIdeal.nD Cert.FinalNormIdeal.τ).loc Cert.FinalNormIdeal.main_v1_1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1_0) = v0 c
          ∧ r.2.mem ((c.tc : Thread Cert.FinalNormIdeal.nD Cert.FinalNormIdeal.τ).loc Cert.FinalNormIdeal.main_v1_1) = v1 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_v27) = v1 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_WriteTail_WriteTailIdeal : Prop :=
  True

def algebraic_WriteTailIdeal_WriteTailRefIdeal [hWriteTailIdeal : Cert.WriteTailIdeal.Facts] [hWriteTailRefIdeal : Cert.WriteTailRefIdeal.Facts] : Prop :=
  ∀ (m : (ℓ : Loc Cert.WriteTailIdeal.nD Cert.WriteTailIdeal.τ Cert.WriteTailIdeal.sig) → Buf (Elt Ideal) ℓ) (g : Dev Cert.WriteTailIdeal.nD → PrngReg)
    (m' : (ℓ : Loc Cert.WriteTailRefIdeal.nD Cert.WriteTailRefIdeal.τ Cert.WriteTailRefIdeal.sig) → Buf (Elt Ideal) ℓ) (g' : Dev Cert.WriteTailRefIdeal.nD → PrngReg), Pre_WriteTailIdeal m →
    (∀ c : Dev Cert.WriteTailIdeal.nD,
      m' ((c.tc : Thread Cert.WriteTailRefIdeal.nD Cert.WriteTailRefIdeal.τ).loc Cert.WriteTailRefIdeal.main_arg0) = m ((c.tc : Thread Cert.WriteTailIdeal.nD Cert.WriteTailIdeal.τ).loc Cert.WriteTailIdeal.main_arg0)
      ∧ m' ((c.tc : Thread Cert.WriteTailRefIdeal.nD Cert.WriteTailRefIdeal.τ).loc Cert.WriteTailRefIdeal.main_arg1) = m ((c.tc : Thread Cert.WriteTailIdeal.nD Cert.WriteTailIdeal.τ).loc Cert.WriteTailIdeal.main_arg1)) →
    ∃ (v0 : (c : Dev Cert.WriteTailIdeal.nD) → Buf (Elt Ideal) ((c.tc : Thread Cert.WriteTailIdeal.nD Cert.WriteTailIdeal.τ).loc Cert.WriteTailIdeal.main_v0)),
      θ_run (Cert.WriteTailIdeal.defs (F := Ideal)) (onTc (τ := Cert.WriteTailIdeal.τ) (Cert.WriteTailIdeal.main (F := Ideal))) ⟨m, fun _ => 0, g⟩ (fun r => ∀ c : Dev Cert.WriteTailIdeal.nD,
          r.2.mem ((c.tc : Thread Cert.WriteTailIdeal.nD Cert.WriteTailIdeal.τ).loc Cert.WriteTailIdeal.main_v0) = v0 c
          ∧ r.2.mem ((c.tc : Thread Cert.WriteTailIdeal.nD Cert.WriteTailIdeal.τ).loc Cert.WriteTailIdeal.main_arg0) = m ((c.tc : Thread Cert.WriteTailIdeal.nD Cert.WriteTailIdeal.τ).loc Cert.WriteTailIdeal.main_arg0)
          ∧ r.2.mem ((c.tc : Thread Cert.WriteTailIdeal.nD Cert.WriteTailIdeal.τ).loc Cert.WriteTailIdeal.main_arg1) = m ((c.tc : Thread Cert.WriteTailIdeal.nD Cert.WriteTailIdeal.τ).loc Cert.WriteTailIdeal.main_arg1))
      ∧ θ_run (Cert.WriteTailRefIdeal.defs (F := Ideal)) (onTc (τ := Cert.WriteTailRefIdeal.τ) (Cert.WriteTailRefIdeal.main (F := Ideal))) ⟨m', fun _ => 0, g'⟩ (fun r => ∀ c : Dev Cert.WriteTailRefIdeal.nD,
          r.2.mem ((c.tc : Thread Cert.WriteTailRefIdeal.nD Cert.WriteTailRefIdeal.τ).loc Cert.WriteTailRefIdeal.main_v2) = v0 c
          ∧ r.2.mem ((c.tc : Thread Cert.WriteTailRefIdeal.nD Cert.WriteTailRefIdeal.τ).loc Cert.WriteTailRefIdeal.main_arg0) = m' ((c.tc : Thread Cert.WriteTailRefIdeal.nD Cert.WriteTailRefIdeal.τ).loc Cert.WriteTailRefIdeal.main_arg0)
          ∧ r.2.mem ((c.tc : Thread Cert.WriteTailRefIdeal.nD Cert.WriteTailRefIdeal.τ).loc Cert.WriteTailRefIdeal.main_arg1) = m' ((c.tc : Thread Cert.WriteTailRefIdeal.nD Cert.WriteTailRefIdeal.τ).loc Cert.WriteTailRefIdeal.main_arg1))

def preserves_StackNorm_StackNormIdeal : Prop :=
  True

def algebraic_StackNormIdeal_StackNormRefIdeal [hStackNormIdeal : Cert.StackNormIdeal.Facts] [hStackNormRefIdeal : Cert.StackNormRefIdeal.Facts] : Prop :=
  ∀ (m : (ℓ : Loc Cert.StackNormIdeal.nD Cert.StackNormIdeal.τ Cert.StackNormIdeal.sig) → Buf (Elt Ideal) ℓ) (g : Dev Cert.StackNormIdeal.nD → PrngReg)
    (m' : (ℓ : Loc Cert.StackNormRefIdeal.nD Cert.StackNormRefIdeal.τ Cert.StackNormRefIdeal.sig) → Buf (Elt Ideal) ℓ) (g' : Dev Cert.StackNormRefIdeal.nD → PrngReg), Pre_StackNormIdeal m →
    (∀ c : Dev Cert.StackNormIdeal.nD,
      m' ((c.tc : Thread Cert.StackNormRefIdeal.nD Cert.StackNormRefIdeal.τ).loc Cert.StackNormRefIdeal.main_arg0) = m ((c.tc : Thread Cert.StackNormIdeal.nD Cert.StackNormIdeal.τ).loc Cert.StackNormIdeal.main_arg0)
      ∧ m' ((c.tc : Thread Cert.StackNormRefIdeal.nD Cert.StackNormRefIdeal.τ).loc Cert.StackNormRefIdeal.main_arg1) = m ((c.tc : Thread Cert.StackNormIdeal.nD Cert.StackNormIdeal.τ).loc Cert.StackNormIdeal.main_arg1)
      ∧ m' ((c.tc : Thread Cert.StackNormRefIdeal.nD Cert.StackNormRefIdeal.τ).loc Cert.StackNormRefIdeal.main_arg2) = m ((c.tc : Thread Cert.StackNormIdeal.nD Cert.StackNormIdeal.τ).loc Cert.StackNormIdeal.main_arg2)) →
    ∃ (v0 : (c : Dev Cert.StackNormIdeal.nD) → Buf (Elt Ideal) ((c.tc : Thread Cert.StackNormIdeal.nD Cert.StackNormIdeal.τ).loc Cert.StackNormIdeal.main_v4)),
      θ_run (Cert.StackNormIdeal.defs (F := Ideal)) (onTc (τ := Cert.StackNormIdeal.τ) (Cert.StackNormIdeal.main (F := Ideal))) ⟨m, fun _ => 0, g⟩ (fun r => ∀ c : Dev Cert.StackNormIdeal.nD,
          r.2.mem ((c.tc : Thread Cert.StackNormIdeal.nD Cert.StackNormIdeal.τ).loc Cert.StackNormIdeal.main_v4) = v0 c
          ∧ r.2.mem ((c.tc : Thread Cert.StackNormIdeal.nD Cert.StackNormIdeal.τ).loc Cert.StackNormIdeal.main_arg0) = m ((c.tc : Thread Cert.StackNormIdeal.nD Cert.StackNormIdeal.τ).loc Cert.StackNormIdeal.main_arg0)
          ∧ r.2.mem ((c.tc : Thread Cert.StackNormIdeal.nD Cert.StackNormIdeal.τ).loc Cert.StackNormIdeal.main_arg1) = m ((c.tc : Thread Cert.StackNormIdeal.nD Cert.StackNormIdeal.τ).loc Cert.StackNormIdeal.main_arg1)
          ∧ r.2.mem ((c.tc : Thread Cert.StackNormIdeal.nD Cert.StackNormIdeal.τ).loc Cert.StackNormIdeal.main_arg2) = m ((c.tc : Thread Cert.StackNormIdeal.nD Cert.StackNormIdeal.τ).loc Cert.StackNormIdeal.main_arg2))
      ∧ θ_run (Cert.StackNormRefIdeal.defs (F := Ideal)) (onTc (τ := Cert.StackNormRefIdeal.τ) (Cert.StackNormRefIdeal.main (F := Ideal))) ⟨m', fun _ => 0, g'⟩ (fun r => ∀ c : Dev Cert.StackNormRefIdeal.nD,
          r.2.mem ((c.tc : Thread Cert.StackNormRefIdeal.nD Cert.StackNormRefIdeal.τ).loc Cert.StackNormRefIdeal.main_v31) = v0 c
          ∧ r.2.mem ((c.tc : Thread Cert.StackNormRefIdeal.nD Cert.StackNormRefIdeal.τ).loc Cert.StackNormRefIdeal.main_arg0) = m' ((c.tc : Thread Cert.StackNormRefIdeal.nD Cert.StackNormRefIdeal.τ).loc Cert.StackNormRefIdeal.main_arg0)
          ∧ r.2.mem ((c.tc : Thread Cert.StackNormRefIdeal.nD Cert.StackNormRefIdeal.τ).loc Cert.StackNormRefIdeal.main_arg1) = m' ((c.tc : Thread Cert.StackNormRefIdeal.nD Cert.StackNormRefIdeal.τ).loc Cert.StackNormRefIdeal.main_arg1)
          ∧ r.2.mem ((c.tc : Thread Cert.StackNormRefIdeal.nD Cert.StackNormRefIdeal.τ).loc Cert.StackNormRefIdeal.main_arg2) = m' ((c.tc : Thread Cert.StackNormRefIdeal.nD Cert.StackNormRefIdeal.τ).loc Cert.StackNormRefIdeal.main_arg2))

def Claim : Prop :=
  ∃ (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hSampleGate : Cert.SampleGate.Facts) (hSampleGateIdeal : Cert.SampleGateIdeal.Facts) (hSampleGateRefIdeal : Cert.SampleGateRefIdeal.Facts) (hSampleAttn : Cert.SampleAttn.Facts) (hSampleAttnIdeal : Cert.SampleAttnIdeal.Facts) (hSampleAttnRefIdeal : Cert.SampleAttnRefIdeal.Facts) (hNormProj : Cert.NormProj.Facts) (hNormProjIdeal : Cert.NormProjIdeal.Facts) (hNormProjRefIdeal : Cert.NormProjRefIdeal.Facts) (hSampleXattn : Cert.SampleXattn.Facts) (hSampleXattnIdeal : Cert.SampleXattnIdeal.Facts) (hSampleXattnRefIdeal : Cert.SampleXattnRefIdeal.Facts) (hProjResNorm : Cert.ProjResNorm.Facts) (hProjResNormIdeal : Cert.ProjResNormIdeal.Facts) (hProjResNormRefIdeal : Cert.ProjResNormRefIdeal.Facts) (hFinalNorm : Cert.FinalNorm.Facts) (hFinalNormIdeal : Cert.FinalNormIdeal.Facts) (hFinalNormRefIdeal : Cert.FinalNormRefIdeal.Facts) (hOutProj : Cert.OutProj.Facts) (hOutProjIdeal : Cert.OutProjIdeal.Facts) (hOutProjRefIdeal : Cert.OutProjRefIdeal.Facts) (hWriteTail : Cert.WriteTail.Facts) (hWriteTailIdeal : Cert.WriteTailIdeal.Facts) (hWriteTailRefIdeal : Cert.WriteTailRefIdeal.Facts) (hStackNorm : Cert.StackNorm.Facts) (hStackNormIdeal : Cert.StackNormIdeal.Facts) (hStackNormRefIdeal : Cert.StackNormRefIdeal.Facts) (hPre_finite : Cert.Pre_finite.Facts) (hPre_finite_memory : Cert.Pre_finite_memory.Facts),
    quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_SampleGate (hSampleGate := hSampleGate)
    ∧ quiescent_SampleGateIdeal (hSampleGateIdeal := hSampleGateIdeal)
    ∧ quiescent_SampleGateRefIdeal (hSampleGateRefIdeal := hSampleGateRefIdeal)
    ∧ quiescent_SampleAttn (hSampleAttn := hSampleAttn)
    ∧ quiescent_SampleAttnIdeal (hSampleAttnIdeal := hSampleAttnIdeal)
    ∧ quiescent_SampleAttnIdeal_pre_finite (hSampleAttnIdeal := hSampleAttnIdeal) (hPre_finite := hPre_finite)
    ∧ quiescent_SampleAttnRefIdeal (hSampleAttnRefIdeal := hSampleAttnRefIdeal)
    ∧ quiescent_SampleAttnRefIdeal_pre_finite (hSampleAttnRefIdeal := hSampleAttnRefIdeal) (hPre_finite := hPre_finite)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_SampleXattn (hSampleXattn := hSampleXattn)
    ∧ quiescent_SampleXattnIdeal (hSampleXattnIdeal := hSampleXattnIdeal)
    ∧ quiescent_SampleXattnIdeal_pre_finite_memory (hSampleXattnIdeal := hSampleXattnIdeal) (hPre_finite_memory := hPre_finite_memory)
    ∧ quiescent_SampleXattnRefIdeal (hSampleXattnRefIdeal := hSampleXattnRefIdeal)
    ∧ quiescent_SampleXattnRefIdeal_pre_finite_memory (hSampleXattnRefIdeal := hSampleXattnRefIdeal) (hPre_finite_memory := hPre_finite_memory)
    ∧ quiescent_ProjResNorm (hProjResNorm := hProjResNorm)
    ∧ quiescent_ProjResNormIdeal (hProjResNormIdeal := hProjResNormIdeal)
    ∧ quiescent_ProjResNormRefIdeal (hProjResNormRefIdeal := hProjResNormRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_WriteTail (hWriteTail := hWriteTail)
    ∧ quiescent_WriteTailIdeal (hWriteTailIdeal := hWriteTailIdeal)
    ∧ quiescent_WriteTailRefIdeal (hWriteTailRefIdeal := hWriteTailRefIdeal)
    ∧ quiescent_StackNorm (hStackNorm := hStackNorm)
    ∧ quiescent_StackNormIdeal (hStackNormIdeal := hStackNormIdeal)
    ∧ quiescent_StackNormRefIdeal (hStackNormRefIdeal := hStackNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_SampleGate_SampleGateIdeal
    ∧ algebraic_SampleGateIdeal_SampleGateRefIdeal (hSampleGateIdeal := hSampleGateIdeal) (hSampleGateRefIdeal := hSampleGateRefIdeal)
    ∧ preserves_SampleAttn_SampleAttnIdeal
    ∧ algebraic_SampleAttnIdeal_SampleAttnRefIdeal_pre_finite (hSampleAttnIdeal := hSampleAttnIdeal) (hSampleAttnRefIdeal := hSampleAttnRefIdeal) (hPre_finite := hPre_finite)
    ∧ preserves_NormProj_NormProjIdeal
    ∧ algebraic_NormProjIdeal_NormProjRefIdeal (hNormProjIdeal := hNormProjIdeal) (hNormProjRefIdeal := hNormProjRefIdeal)
    ∧ preserves_SampleXattn_SampleXattnIdeal
    ∧ algebraic_SampleXattnIdeal_SampleXattnRefIdeal_pre_finite_memory (hSampleXattnIdeal := hSampleXattnIdeal) (hSampleXattnRefIdeal := hSampleXattnRefIdeal) (hPre_finite_memory := hPre_finite_memory)
    ∧ preserves_ProjResNorm_ProjResNormIdeal
    ∧ algebraic_ProjResNormIdeal_ProjResNormRefIdeal (hProjResNormIdeal := hProjResNormIdeal) (hProjResNormRefIdeal := hProjResNormRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_OutProj_OutProjIdeal
    ∧ algebraic_OutProjIdeal_OutProjRefIdeal (hOutProjIdeal := hOutProjIdeal) (hOutProjRefIdeal := hOutProjRefIdeal)
    ∧ preserves_WriteTail_WriteTailIdeal
    ∧ algebraic_WriteTailIdeal_WriteTailRefIdeal (hWriteTailIdeal := hWriteTailIdeal) (hWriteTailRefIdeal := hWriteTailRefIdeal)
    ∧ preserves_StackNorm_StackNormIdeal
    ∧ algebraic_StackNormIdeal_StackNormRefIdeal (hStackNormIdeal := hStackNormIdeal) (hStackNormRefIdeal := hStackNormRefIdeal)
-- ==== Pre_finite.lean ====
abbrev S128x16x128 : Shape := ⟨3, ![128, 16, 128]⟩
abbrev S128x2048x16x128 : Shape := ⟨4, ![128, 2048, 16, 128]⟩
abbrev S_ : Shape := ⟨0, ![]⟩

class Facts : Prop where
  bcast_S_S128x16x128 : S_.BroadcastsInDim S128x16x128 (![] : Fin 0 → Fin S128x16x128.rank)
  bcast_S_S128x2048x16x128 : S_.BroadcastsInDim S128x2048x16x128 (![] : Fin 0 → Fin S128x2048x16x128.rank)

variable [Facts]

def fn {F : FTy → Type} [FloatOps F] (main_arg0 : FVec F S128x16x128 .f32) (main_arg1 : FVec F S128x16x128 .f32) (main_arg2 : FVec F S128x16x128 .f32) (main_arg3 : FVec F S128x2048x16x128 .f32) (main_arg4 : FVec F S128x2048x16x128 .f32) : IVec S128x16x128 1 × IVec S128x16x128 1 × IVec S128x2048x16x128 1 :=
  let main_v0 : FVec F S128x16x128 .f32 := Host.absf main_arg0
  let main_cst : FVec F S_ .f32 := constant S_ .f32 0x7F800000#32
  let main_v1 : FVec F S128x16x128 .f32 := broadcastInDim S128x16x128 ![] bcast_S_S128x16x128 main_cst
  let main_v2 : IVec S128x16x128 1 := cmpf .olt main_v0 main_v1
  let main_v3 : FVec F S128x16x128 .f32 := Host.absf main_arg1
  let main_cst_0 : FVec F S_ .f32 := constant S_ .f32 0x7F800000#32
  let main_v4 : FVec F S128x16x128 .f32 := broadcastInDim S128x16x128 ![] bcast_S_S128x16x128 main_cst_0
  let main_v5 : IVec S128x16x128 1 := cmpf .olt main_v3 main_v4
  let main_v6 : FVec F S128x2048x16x128 .f32 := Host.absf main_arg3
  let main_cst_1 : FVec F S_ .f32 := constant S_ .f32 0x7F800000#32
  let main_v7 : FVec F S128x2048x16x128 .f32 := broadcastInDim S128x2048x16x128 ![] bcast_S_S128x2048x16x128 main_cst_1
  let main_v8 : IVec S128x2048x16x128 1 := cmpf .olt main_v6 main_v7
  (main_v2, main_v5, main_v8)
-- ==== Pre_finite_memory.lean ====
abbrev S128x4x128 : Shape := ⟨3, ![128, 4, 128]⟩
abbrev S1x128x256x4x128 : Shape := ⟨5, ![1, 128, 256, 4, 128]⟩
abbrev S_ : Shape := ⟨0, ![]⟩

class Facts : Prop where
  bcast_S_S128x4x128 : S_.BroadcastsInDim S128x4x128 (![] : Fin 0 → Fin S128x4x128.rank)
  bcast_S_S1x128x256x4x128 : S_.BroadcastsInDim S1x128x256x4x128 (![] : Fin 0 → Fin S1x128x256x4x128.rank)

variable [Facts]

def fn {F : FTy → Type} [FloatOps F] (main_arg0 : FVec F S128x4x128 .f32) (main_arg1 : FVec F S1x128x256x4x128 .f32) (main_arg2 : FVec F S1x128x256x4x128 .f32) : IVec S128x4x128 1 × IVec S1x128x256x4x128 1 :=
  let main_v0 : FVec F S128x4x128 .f32 := Host.absf main_arg0
  let main_cst : FVec F S_ .f32 := constant S_ .f32 0x7F800000#32
  let main_v1 : FVec F S128x4x128 .f32 := broadcastInDim S128x4x128 ![] bcast_S_S128x4x128 main_cst
  let main_v2 : IVec S128x4x128 1 := cmpf .olt main_v0 main_v1
  let main_v3 : FVec F S1x128x256x4x128 .f32 := Host.absf main_arg1
  let main_cst_0 : FVec F S_ .f32 := constant S_ .f32 0x7F800000#32
  let main_v4 : FVec F S1x128x256x4x128 .f32 := broadcastInDim S1x128x256x4x128 ![] bcast_S_S1x128x256x4x128 main_cst_0
  let main_v5 : IVec S1x128x256x4x128 1 := cmpf .olt main_v3 main_v4
  (main_v2, main_v5)
-- ==== FfnUp.lean ====
abbrev S8320x4096 : Shape := ⟨2, ![8320, 4096]⟩
abbrev S1x4096x16384 : Shape := ⟨3, ![1, 4096, 16384]⟩
abbrev S4096x16384 : Shape := ⟨2, ![4096, 16384]⟩
abbrev S8320x16384 : Shape := ⟨2, ![8320, 16384]⟩
abbrev S1040x4096 : Shape := ⟨2, ![1040, 4096]⟩
abbrev S4096x1024 : Shape := ⟨2, ![4096, 1024]⟩
abbrev S1040x1024 : Shape := ⟨2, ![1040, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S1x4096x16384, .f32⟩
  | .hbm, ⟨2, _⟩ => ⟨S4096x16384, .f32⟩
  | .hbm, ⟨3, _⟩ => ⟨S8320x16384, .bf16⟩
  | .local _ .vmem, ⟨0, _⟩ => ⟨S1040x4096, .bf16⟩
  | .local _ .vmem, ⟨1, _⟩ => ⟨S4096x1024, .f32⟩
  | .local _ .vmem, ⟨2, _⟩ => ⟨S4096x1024, .f32⟩
  | .local _ .vmem, ⟨3, _⟩ => ⟨S1040x1024, .bf16⟩
  | .local _ .vmem, ⟨4, _⟩ => ⟨S1040x1024, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1040x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S8320x4096 : Shape := ⟨2, ![8320, 4096]⟩
abbrev S1x4096x16384 : Shape := ⟨3, ![1, 4096, 16384]⟩
abbrev S4096x16384 : Shape := ⟨2, ![4096, 16384]⟩
abbrev S8320x16384 : Shape := ⟨2, ![8320, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x16384, .f32⟩
  | .hbm, ⟨2, _⟩ => ⟨S8320x4096, .f32⟩
  | .hbm, ⟨3, _⟩ => ⟨S4096x16384, .f32⟩
  | .hbm, ⟨4, _⟩ => ⟨S8320x16384, .f32⟩
  | .hbm, ⟨5, _⟩ => ⟨S_, .f32⟩
  | .hbm, ⟨6, _⟩ => ⟨S8320x16384, .f32⟩
  | .hbm, ⟨7, _⟩ => ⟨S8320x16384, .f32⟩
  | .hbm, ⟨8, _⟩ => ⟨S8320x16384, .f32⟩
  | .hbm, ⟨9, _⟩ => ⟨S8320x16384, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDown.lean ====
abbrev S8320x16384 : Shape := ⟨2, ![8320, 16384]⟩
abbrev S1x16384x4096 : Shape := ⟨3, ![1, 16384, 4096]⟩
abbrev S8320x4096 : Shape := ⟨2, ![8320, 4096]⟩
abbrev S16384x4096 : Shape := ⟨2, ![16384, 4096]⟩
abbrev S2080x1024 : Shape := ⟨2, ![2080, 1024]⟩
abbrev S1024x1024 : Shape := ⟨2, ![1024, 1024]⟩
abbrev S1040x1024 : Shape := ⟨2, ![1040, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8320x16384, .bf16⟩
  | .hbm, ⟨1, _⟩ => ⟨S1x16384x4096, .f32⟩
  | .hbm, ⟨2, _⟩ => ⟨S8320x4096, .f32⟩
  | .hbm, ⟨3, _⟩ => ⟨S16384x4096, .f32⟩
  | .hbm, ⟨4, _⟩ => ⟨S8320x4096, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .f32⟩
  | .local _ .vmem, ⟨3, _⟩ => ⟨S1024x1024, .f32⟩
  | .local _ .vmem, ⟨4, _⟩ => ⟨S2080x1024, .f32⟩
  | .local _ .vmem, ⟨5, _⟩ => ⟨S2080x1024, .f32⟩
  | .local _ .vmem, ⟨6, _⟩ => ⟨S2080x1024, .f32⟩
  | .local _ .vmem, ⟨7, _⟩ => ⟨S2080x1024, .f32⟩
  | _, _ => ⟨S8320x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2080x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8320x16384 : Shape := ⟨2, ![8320, 16384]⟩
abbrev S1x16384x4096 : Shape := ⟨3, ![1, 16384, 4096]⟩
abbrev S8320x4096 : Shape := ⟨2, ![8320, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x16384, .bf16⟩
  | .hbm, ⟨1, _⟩ => ⟨S1x16384x4096, .f32⟩
  | .hbm, ⟨2, _⟩ => ⟨S8320x4096, .f32⟩
  | .hbm, ⟨3, _⟩ => ⟨S8320x16384, .f32⟩
  | .hbm, ⟨4, _⟩ => ⟨S16384x4096, .f32⟩
  | .hbm, ⟨5, _⟩ => ⟨S8320x4096, .f32⟩
  | .hbm, ⟨6, _⟩ => ⟨S8320x4096, .f32⟩
  | _, _ => ⟨S8320x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S8320x4096 : Shape := ⟨2, ![8320, 4096]⟩
abbrev S1x4096x10240 : Shape := ⟨3, ![1, 4096, 10240]⟩
abbrev S64 : Shape := ⟨1, ![64]⟩
abbrev S_ : Shape := ⟨0, ![]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S128 : Shape := ⟨1, ![128]⟩
abbrev S8320 : Shape := ⟨1, ![8320]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S1040x128 : Shape := ⟨2, ![1040, 128]⟩
abbrev S9360x128 : Shape := ⟨2, ![9360, 128]⟩
abbrev S4096x10240 : Shape := ⟨2, ![4096, 10240]⟩
abbrev S80x8320x128 : Shape := ⟨3, ![80, 8320, 128]⟩
abbrev S1040x4096 : Shape := ⟨2, ![1040, 4096]⟩
abbrev S4096x512 : Shape := ⟨2, ![4096, 512]⟩
abbrev S4x1040x128 : Shape := ⟨3, ![4, 1040, 128]⟩
abbrev S1040x512 : Shape := ⟨2, ![1040, 512]⟩
abbrev S1x1040x128 : Shape := ⟨3, ![1, 1040, 128]⟩

abbrev nBuf : Space → Nat
  | .hbm => 36
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S1x4096x10240, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S2048, .i32⟩
  | .hbm, ⟨11, _⟩ => ⟨S1x2048, .i32⟩
  | .hbm, ⟨12, _⟩ => ⟨S4x2048, .i32⟩
  | .hbm, ⟨13, _⟩ => ⟨S8192, .i32⟩
  | .hbm, ⟨14, _⟩ => ⟨S_, .i32⟩
  | .hbm, ⟨15, _⟩ => ⟨S128, .i32⟩
  | .hbm, ⟨16, _⟩ => ⟨S8320, .i32⟩
  | .hbm, ⟨17, _⟩ => ⟨S8320, .f32⟩
  | .hbm, ⟨18, _⟩ => ⟨S8320x1, .f32⟩
  | .hbm, ⟨19, _⟩ => ⟨S1x64, .f32⟩
  | .hbm, ⟨20, _⟩ => ⟨S8320x64, .f32⟩
  | .hbm, ⟨21, _⟩ => ⟨S8320x64, .f32⟩
  | .hbm, ⟨22, _⟩ => ⟨S8320x64, .f32⟩
  | .hbm, ⟨23, _⟩ => ⟨S8320x64, .f32⟩
  | .hbm, ⟨24, _⟩ => ⟨S8320x64, .f32⟩
  | .hbm, ⟨25, _⟩ => ⟨S8320x128, .f32⟩
  | .hbm, ⟨26, _⟩ => ⟨S8320x64, .f32⟩
  | .hbm, ⟨27, _⟩ => ⟨S8320x128, .f32⟩
  | .hbm, ⟨28, _⟩ => ⟨S_, .f32⟩
  | .hbm, ⟨29, _⟩ => ⟨S1040x128, .f32⟩
  | .hbm, ⟨30, _⟩ => ⟨S9360x128, .f32⟩
  | .hbm, ⟨31, _⟩ => ⟨S_, .f32⟩
  | .hbm, ⟨32, _⟩ => ⟨S1040x128, .f32⟩
  | .hbm, ⟨33, _⟩ => ⟨S9360x128, .f32⟩
  | .hbm, ⟨34, _⟩ => ⟨S4096x10240, .f32⟩
  | .hbm, ⟨35, _⟩ => ⟨S80x8320x128, .f32⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x128, .f32⟩
  | .local _ .vmem, ⟨5, _⟩ => ⟨S1040x128, .f32⟩
  | .local _ .vmem, ⟨6, _⟩ => ⟨S1040x128, .f32⟩
  | .local _ .vmem, ⟨7, _⟩ => ⟨S1040x128, .f32⟩
  | .local _ .vmem, ⟨8, _⟩ => ⟨S4x1040x128, .f32⟩
  | .local _ .vmem, ⟨9, _⟩ => ⟨S4x1040x128, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c0_i32 : BitVec 32 := 0#32
  let c0_i32_1 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c0_i32 : BitVec 32 := 0#32
  let c0_i32_1 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1040x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8320x4096 : Shape := ⟨2, ![8320, 4096]⟩
abbrev S1x4096x10240 : Shape := ⟨3, ![1, 4096, 10240]⟩
abbrev S8192x4096 : Shape := ⟨2, ![8192, 4096]⟩
abbrev S4x2048x4096 : Shape := ⟨3, ![4, 2048, 4096]⟩
abbrev S2048 : Shape := ⟨1, ![2048]⟩
abbrev S4096x10240 : Shape := ⟨2, ![4096, 10240]⟩
abbrev S4x2048x10240 : Shape := ⟨3, ![4, 2048, 10240]⟩
abbrev S4x2048x80x128 : Shape := ⟨4, ![4, 2048, 80, 128]⟩
abbrev S4x2048x16x128 : Shape := ⟨4, ![4, 2048, 16, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x16x64 : Shape := ⟨4, ![4, 2048, 16, 64]⟩
abbrev S1x2048x1x64 : Shape := ⟨4, ![1, 2048, 1, 64]⟩
abbrev S4x2048x48x128 : Shape := ⟨4, ![4, 2048, 48, 128]⟩
abbrev S128x4096 : Shape := ⟨2, ![128, 4096]⟩
abbrev S128x1x4096 : Shape := ⟨3, ![128, 1, 4096]⟩
abbrev S1 : Shape := ⟨1, ![1]⟩
abbrev S128x1x10240 : Shape := ⟨3, ![128, 1, 10240]⟩
abbrev S128x1x80x128 : Shape := ⟨4, ![128, 1, 80, 128]⟩
abbrev S128x1x16x128 : Shape := ⟨4, ![128, 1, 16, 128]⟩
abbrev S1x1 : Shape := ⟨2, ![1, 1]⟩
abbrev S1x1x64 : Shape := ⟨3, ![1, 1, 64]⟩
abbrev S128x1x16x64 : Shape := ⟨4, ![128, 1, 16, 64]⟩
abbrev S1x1x1x64 : Shape := ⟨4, ![1, 1, 1, 64]⟩
abbrev S128x1x48x128 : Shape := ⟨4, ![128, 1, 48, 128]⟩
abbrev S8192x80x128 : Shape := ⟨3, ![8192, 80, 128]⟩
abbrev S128x80x128 : Shape := ⟨3, ![128, 80, 128]⟩
abbrev S8320x80x128 : Shape := ⟨3, ![8320, 80, 128]⟩
abbrev S80x8320x128 : Shape := ⟨3, ![80, 8320, 128]⟩

abbrev nBuf : Space → Nat
  | .hbm => 168
  | .vmem => 0
  | .smem => 0
  | _ => 0

abbrev hbmTy0_0 (i : Nat) : BufTy := match i % 128 with
  | 0 => ⟨S8320x4096, .bf16⟩
  | 1 => ⟨S1x4096x10240, .f32⟩
  | 2 => ⟨S8320x4096, .f32⟩
  | 3 => ⟨S8192x4096, .f32⟩
  | 4 => ⟨S4x2048x4096, .f32⟩
  | 5 => ⟨S2048, .i32⟩
  | 6 => ⟨S4096x10240, .f32⟩
  | 7 => ⟨S4x2048x10240, .f32⟩
  | 8 => ⟨S4x2048x80x128, .f32⟩
  | 9 => ⟨S4x2048x16x128, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S2048, .f32⟩
  | 19 => ⟨S2048x1, .f32⟩
  | 20 => ⟨S1x64, .f32⟩
  | 21 => ⟨S2048x64, .f32⟩
  | 22 => ⟨S2048x64, .f32⟩
  | 23 => ⟨S2048x64, .f32⟩
  | 24 => ⟨S2048x64, .f32⟩
  | 25 => ⟨S2048x1x64, .f32⟩
  | 26 => ⟨S2048x64, .f32⟩
  | 27 => ⟨S2048x1x64, .f32⟩
  | 28 => ⟨S4x2048x16x64, .f32⟩
  | 29 => ⟨S4x2048x16x64, .f32⟩
  | 30 => ⟨S1x2048x1x64, .f32⟩
  | 31 => ⟨S4x2048x16x64, .f32⟩
  | 32 => ⟨S4x2048x16x64, .f32⟩
  | 33 => ⟨S1x2048x1x64, .f32⟩
  | 34 => ⟨S4x2048x16x64, .f32⟩
  | 35 => ⟨S4x2048x16x64, .f32⟩
  | 36 => ⟨S4x2048x16x64, .f32⟩
  | 37 => ⟨S1x2048x1x64, .f32⟩
  | 38 => ⟨S4x2048x16x64, .f32⟩
  | 39 => ⟨S4x2048x16x64, .f32⟩
  | 40 => ⟨S1x2048x1x64, .f32⟩
  | 41 => ⟨S4x2048x16x64, .f32⟩
  | 42 => ⟨S4x2048x16x64, .f32⟩
  | 43 => ⟨S4x2048x16x64, .f32⟩
  | 44 => ⟨S4x2048x16x128, .f32⟩
  | 45 => ⟨S4x2048x16x128, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S64, .f32⟩
  | 54 => ⟨S2048, .f32⟩
  | 55 => ⟨S2048x1, .f32⟩
  | 56 => ⟨S1x64, .f32⟩
  | 57 => ⟨S2048x64, .f32⟩
  | 58 => ⟨S2048x64, .f32⟩
  | 59 => ⟨S2048x64, .f32⟩
  | 60 => ⟨S2048x64, .f32⟩
  | 61 => ⟨S2048x1x64, .f32⟩
  | 62 => ⟨S2048x64, .f32⟩
  | 63 => ⟨S2048x1x64, .f32⟩
  | 64 => ⟨S4x2048x16x64, .f32⟩
  | 65 => ⟨S4x2048x16x64, .f32⟩
  | 66 => ⟨S1x2048x1x64, .f32⟩
  | 67 => ⟨S4x2048x16x64, .f32⟩
  | 68 => ⟨S4x2048x16x64, .f32⟩
  | 69 => ⟨S1x2048x1x64, .f32⟩
  | 70 => ⟨S4x2048x16x64, .f32⟩
  | 71 => ⟨S4x2048x16x64, .f32⟩
  | 72 => ⟨S4x2048x16x64, .f32⟩
  | 73 => ⟨S1x2048x1x64, .f32⟩
  | 74 => ⟨S4x2048x16x64, .f32⟩
  | 75 => ⟨S4x2048x16x64, .f32⟩
  | 76 => ⟨S1x2048x1x64, .f32⟩
  | 77 => ⟨S4x2048x16x64, .f32⟩
  | 78 => ⟨S4x2048x16x64, .f32⟩
  | 79 => ⟨S4x2048x16x64, .f32⟩
  | 80 => ⟨S4x2048x16x128, .f32⟩
  | 81 => ⟨S4x2048x48x128, .f32⟩
  | 82 => ⟨S4x2048x80x128, .f32⟩
  | 83 => ⟨S128x4096, .f32⟩
  | 84 => ⟨S128x1x4096, .f32⟩
  | 85 => ⟨S1, .i32⟩
  | 86 => ⟨S_, .i32⟩
  | 87 => ⟨S1, .i32⟩
  | 88 => ⟨S1, .i32⟩
  | 89 => ⟨S4096x10240, .f32⟩
  | 90 => ⟨S128x1x10240, .f32⟩
  | 91 => ⟨S128x1x80x128, .f32⟩
  | 92 => ⟨S128x1x16x128, .f32⟩
  | 93 => ⟨S64, .f32⟩
  | 94 => ⟨S_, .f32⟩
  | 95 => ⟨S64, .f32⟩
  | 96 => ⟨S64, .f32⟩
  | 97 => ⟨S_, .f32⟩
  | 98 => ⟨S64, .f32⟩
  | 99 => ⟨S64, .f32⟩
  | 100 => ⟨S64, .f32⟩
  | 101 => ⟨S1, .f32⟩
  | 102 => ⟨S1x1, .f32⟩
  | 103 => ⟨S1x64, .f32⟩
  | 104 => ⟨S1x64, .f32⟩
  | 105 => ⟨S1x64, .f32⟩
  | 106 => ⟨S1x64, .f32⟩
  | 107 => ⟨S1x1x64, .f32⟩
  | 108 => ⟨S1x64, .f32⟩
  | 109 => ⟨S1x1x64, .f32⟩
  | 110 => ⟨S128x1x16x64, .f32⟩
  | 111 => ⟨S128x1x16x64, .f32⟩
  | 112 => ⟨S1x1x1x64, .f32⟩
  | 113 => ⟨S128x1x16x64, .f32⟩
  | 114 => ⟨S128x1x16x64, .f32⟩
  | 115 => ⟨S1x1x1x64, .f32⟩
  | 116 => ⟨S128x1x16x64, .f32⟩
  | 117 => ⟨S128x1x16x64, .f32⟩
  | 118 => ⟨S128x1x16x64, .f32⟩
  | 119 => ⟨S1x1x1x64, .f32⟩
  | 120 => ⟨S128x1x16x64, .f32⟩
  | 121 => ⟨S128x1x16x64, .f32⟩
  | 122 => ⟨S1x1x1x64, .f32⟩
  | 123 => ⟨S128x1x16x64, .f32⟩
  | 124 => ⟨S128x1x16x64, .f32⟩
  | 125 => ⟨S128x1x16x64, .f32⟩
  | 126 => ⟨S128x1x16x128, .f32⟩
  | 127 => ⟨S128x1x16x128, .f32⟩
  | _ => ⟨S8320x4096, .bf16⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S64, .f32⟩
  | 8 => ⟨S1, .f32⟩
  | 9 => ⟨S1x1, .f32⟩
  | 10 => ⟨S1x64, .f32⟩
  | 11 => ⟨S1x64, .f32⟩
  | 12 => ⟨S1x64, .f32⟩
  | 13 => ⟨S1x64, .f32⟩
  | 14 => ⟨S1x1x64, .f32⟩
  | 15 => ⟨S1x64, .f32⟩
  | 16 => ⟨S1x1x64, .f32⟩
  | 17 => ⟨S128x1x16x64, .f32⟩
  | 18 => ⟨S128x1x16x64, .f32⟩
  | 19 => ⟨S1x1x1x64, .f32⟩
  | 20 => ⟨S128x1x16x64, .f32⟩
  | 21 => ⟨S128x1x16x64, .f32⟩
  | 22 => ⟨S1x1x1x64, .f32⟩
  | 23 => ⟨S128x1x16x64, .f32⟩
  | 24 => ⟨S128x1x16x64, .f32⟩
  | 25 => ⟨S128x1x16x64, .f32⟩
  | 26 => ⟨S1x1x1x64, .f32⟩
  | 27 => ⟨S128x1x16x64, .f32⟩
  | 28 => ⟨S128x1x16x64, .f32⟩
  | 29 => ⟨S1x1x1x64, .f32⟩
  | 30 => ⟨S128x1x16x64, .f32⟩
  | 31 => ⟨S128x1x16x64, .f32⟩
  | 32 => ⟨S128x1x16x64, .f32⟩
  | 33 => ⟨S128x1x16x128, .f32⟩
  | 34 => ⟨S128x1x48x128, .f32⟩
  | 35 => ⟨S128x1x80x128, .f32⟩
  | 36 => ⟨S8192x80x128, .f32⟩
  | 37 => ⟨S128x80x128, .f32⟩
  | 38 => ⟨S8320x80x128, .f32⟩
  | 39 => ⟨S80x8320x128, .f32⟩
  | _ => ⟨S8320x4096, .bf16⟩

abbrev hbmTy (i : Nat) : BufTy := match i / 128 with
  | 0 => hbmTy0_0 i
  | 1 => hbmTy0_1 i
  | _ => ⟨S8320x4096, .bf16⟩

abbrev bufTy : (tb : Table) → Fin (tcTables nBuf tb) → BufTy
  | .hbm, ⟨i, _⟩ => hbmTy i
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_c : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_cst_3 : Ref sig .tc := ⟨.hbm, 94, rfl⟩
abbrev main_v87 : Ref sig .tc := ⟨.hbm, 95, rfl⟩
abbrev main_v88 : Ref sig .tc := ⟨.hbm, 96, rfl⟩
abbrev main_cst_4 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_cst_5 : Ref sig .tc := ⟨.hbm, 129, rfl⟩
abbrev main_v120 : Ref sig .tc := ⟨.hbm, 130, rfl⟩
abbrev main_v121 : Ref sig .tc := ⟨.hbm, 131, rfl⟩
abbrev main_cst_6 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩

abbrev nD : Nat := 1
abbrev τ : Topo := Topo.v7x

variable {F : FTy → Type} [FloatOps F]
-- ==== MemKv.lean ====
abbrev S4x256x4096 : Shape := ⟨3, ![4, 256, 4096]⟩
abbrev S1x4096x512 : Shape := ⟨3, ![1, 4096, 512]⟩
abbrev S1024x4096 : Shape := ⟨2, ![1024, 4096]⟩
abbrev S4096x512 : Shape := ⟨2, ![4096, 512]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x256x4096, .f32⟩
  | .hbm, ⟨1, _⟩ => ⟨S1x4096x512, .f32⟩
  | .hbm, ⟨2, _⟩ => ⟨S1x4096x512, .f32⟩
  | .hbm, ⟨3, _⟩ => ⟨S1024x4096, .f32⟩
  | .hbm, ⟨4, _⟩ => ⟨S4096x512, .f32⟩
  | .hbm, ⟨5, _⟩ => ⟨S4096x512, .f32⟩
  | .hbm, ⟨6, _⟩ => ⟨S1024x512, .f32⟩
  | .hbm, ⟨7, _⟩ => ⟨S1024x512, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S4x256x4096 : Shape := ⟨3, ![4, 256, 4096]⟩
abbrev S1x4096x512 : Shape := ⟨3, ![1, 4096, 512]⟩
abbrev S4096x512 : Shape := ⟨2, ![4096, 512]⟩
abbrev S4x256x512 : Shape := ⟨3, ![4, 256, 512]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096x512, .f32⟩
  | .hbm, ⟨2, _⟩ => ⟨S1x4096x512, .f32⟩
  | .hbm, ⟨3, _⟩ => ⟨S4096x512, .f32⟩
  | .hbm, ⟨4, _⟩ => ⟨S4x256x512, .f32⟩
  | .hbm, ⟨5, _⟩ => ⟨S1024x512, .f32⟩
  | .hbm, ⟨6, _⟩ => ⟨S4096x512, .f32⟩
  | .hbm, ⟨7, _⟩ => ⟨S4x256x512, .f32⟩
  | .hbm, ⟨8, _⟩ => ⟨S1024x512, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SampleGate.lean ====
abbrev S128x2048 : Shape := ⟨2, ![128, 2048]⟩
abbrev S1x2048 : Shape := ⟨2, ![1, 2048]⟩
abbrev S1x16x128x128 : Shape := ⟨4, ![1, 16, 128, 128]⟩
abbrev S1x16x128 : Shape := ⟨3, ![1, 16, 128]⟩
abbrev S8320x2048 : Shape := ⟨2, ![8320, 2048]⟩
abbrev S16x128x128 : Shape := ⟨3, ![16, 128, 128]⟩
abbrev S16x1x1 : Shape := ⟨3, ![16, 1, 1]⟩
abbrev S16 : Shape := ⟨1, ![16]⟩
abbrev S16x128 : Shape := ⟨2, ![16, 128]⟩
abbrev S2048 : Shape := ⟨1, ![2048]⟩
abbrev S16x1 : Shape := ⟨2, ![16, 1]⟩
abbrev S128 : Shape := ⟨1, ![128]⟩
abbrev S128x1 : Shape := ⟨2, ![128, 1]⟩

abbrev nBuf : Space → Nat
  | .hbm => 25
  | .vmem => 8
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x2048, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S8320x2048, .bf16⟩
  | .hbm, ⟨7, _⟩ => ⟨S16x128x128, .f32⟩
  | .hbm, ⟨8, _⟩ => ⟨S16x1x1, .f32⟩
  | .hbm, ⟨9, _⟩ => ⟨S16, .f32⟩
  | .hbm, ⟨10, _⟩ => ⟨S16x128, .f32⟩
  | .hbm, ⟨11, _⟩ => ⟨S2048, .f32⟩
  | .hbm, ⟨12, _⟩ => ⟨S1x2048, .f32⟩
  | .hbm, ⟨13, _⟩ => ⟨S16x128, .f32⟩
  | .hbm, ⟨14, _⟩ => ⟨S16x1, .f32⟩
  | .hbm, ⟨15, _⟩ => ⟨S16, .f32⟩
  | .hbm, ⟨16, _⟩ => ⟨S16x128, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S128x2048, .f32⟩
  | .hbm, ⟨24, _⟩ => ⟨S8320x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SampleGateRefIdeal.lean ====
abbrev S128x2048 : Shape := ⟨2, ![128, 2048]⟩
abbrev S1x2048 : Shape := ⟨2, ![1, 2048]⟩
abbrev S1x16x128x128 : Shape := ⟨4, ![1, 16, 128, 128]⟩
abbrev S1x16x128 : Shape := ⟨3, ![1, 16, 128]⟩
abbrev S8320x2048 : Shape := ⟨2, ![8320, 2048]⟩
abbrev S128x1x2048 : Shape := ⟨3, ![128, 1, 2048]⟩
abbrev S2048 : Shape := ⟨1, ![2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S16x128x128 : Shape := ⟨3, ![16, 128, 128]⟩
abbrev S128x128 : Shape := ⟨2, ![128, 128]⟩
abbrev S16x1x1 : Shape := ⟨3, ![16, 1, 1]⟩
abbrev S128x1x1x16x128 : Shape := ⟨5, ![128, 1, 1, 16, 128]⟩
abbrev S16x128x1x128x1 : Shape := ⟨5, ![16, 128, 1, 128, 1]⟩
abbrev S16x128 : Shape := ⟨2, ![16, 128]⟩
abbrev S16x1 : Shape := ⟨2, ![16, 1]⟩
abbrev S1x16 : Shape := ⟨2, ![1, 16]⟩
abbrev S1x1x1x16x1 : Shape := ⟨5, ![1, 1, 1, 16, 1]⟩
abbrev S8192x2048 : Shape := ⟨2, ![8192, 2048]⟩

abbrev nBuf : Space → Nat
  | .hbm => 64
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x2048, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S8320x2048, .bf16⟩
  | .hbm, ⟨7, _⟩ => ⟨S128x1x2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x2048, .f32⟩
  | .hbm, ⟨17, _⟩ => ⟨S128x1x2048, .f32⟩
  | .hbm, ⟨18, _⟩ => ⟨S128x1x2048, .f32⟩
  | .hbm, ⟨19, _⟩ => ⟨S_, .f32⟩
  | .hbm, ⟨20, _⟩ => ⟨S128x1, .f32⟩
  | .hbm, ⟨21, _⟩ => ⟨S128x1x1, .f32⟩
  | .hbm, ⟨22, _⟩ => ⟨S_, .f32⟩
  | .hbm, ⟨23, _⟩ => ⟨S128x1x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S128x1x1, .f32⟩
  | .hbm, ⟨29, _⟩ => ⟨S128x1x2048, .f32⟩
  | .hbm, ⟨30, _⟩ => ⟨S128x1x2048, .f32⟩
  | .hbm, ⟨31, _⟩ => ⟨S1x1x2048, .f32⟩
  | .hbm, ⟨32, _⟩ => ⟨S128x1x2048, .f32⟩
  | .hbm, ⟨33, _⟩ => ⟨S128x1x2048, .f32⟩
  | .hbm, ⟨34, _⟩ => ⟨S1x1x2048, .f32⟩
  | .hbm, ⟨35, _⟩ => ⟨S128x1x2048, .f32⟩
  | .hbm, ⟨36, _⟩ => ⟨S128x1x2048, .f32⟩
  | .hbm, ⟨37, _⟩ => ⟨S16x128x128, .f32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S16x128x128, .i1⟩
  | .hbm, ⟨45, _⟩ => ⟨S_, .f32⟩
  | .hbm, ⟨46, _⟩ => ⟨S16x128x128, .f32⟩
  | .hbm, ⟨47, _⟩ => ⟨S16x128x128, .f32⟩
  | .hbm, ⟨48, _⟩ => ⟨S16x1x1, .f32⟩
  | .hbm, ⟨49, _⟩ => ⟨S128x1x1x16x128, .f32⟩
  | .hbm, ⟨50, _⟩ => ⟨S16x128x1x128x1, .f32⟩
  | .hbm, ⟨51, _⟩ => ⟨S128x1x1x16x128, .f32⟩
  | .hbm, ⟨52, _⟩ => ⟨S16x128, .f32⟩
  | .hbm, ⟨53, _⟩ => ⟨S16x1, .f32⟩
  | .hbm, ⟨54, _⟩ => ⟨S1x16, .f32⟩
  | .hbm, ⟨55, _⟩ => ⟨S1x1x1x16x1, .f32⟩
  | .hbm, ⟨56, _⟩ => ⟨S128x1x1x16x128, .f32⟩
  | .hbm, ⟨57, _⟩ => ⟨S128x1x1x16x128, .f32⟩
  | .hbm, ⟨58, _⟩ => ⟨S128x2048, .f32⟩
  | .hbm, ⟨59, _⟩ => ⟨S128x2048, .f32⟩
  | .hbm, ⟨60, _⟩ => ⟨S128x2048, .f32⟩
  | .hbm, ⟨61, _⟩ => ⟨S8192x2048, .bf16⟩
  | .hbm, ⟨62, _⟩ => ⟨S128x2048, .bf16⟩
  | .hbm, ⟨63, _⟩ => ⟨S8320x2048, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_cst : Ref sig .tc := ⟨.hbm, 45, rfl⟩
abbrev main_call0_v6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== SampleAttn.lean ====
abbrev S128x16x128 : Shape := ⟨3, ![128, 16, 128]⟩
abbrev S128x2048x16x128 : Shape := ⟨4, ![128, 2048, 16, 128]⟩
abbrev S128x16x128x1x16x128 : Shape := ⟨6, ![128, 16, 128, 1, 16, 128]⟩
abbrev S128x4x128x4x16x128 : Shape := ⟨6, ![128, 4, 128, 4, 16, 128]⟩
abbrev S128x1x128x16x16x128 : Shape := ⟨6, ![128, 1, 128, 16, 16, 128]⟩
abbrev S2x16x128 : Shape := ⟨3, ![2, 16, 128]⟩
abbrev S2x1x128x1x16x128 : Shape := ⟨6, ![2, 1, 128, 1, 16, 128]⟩
abbrev S1x16x128 : Shape := ⟨3, ![1, 16, 128]⟩
abbrev S16x128 : Shape := ⟨2, ![16, 128]⟩
abbrev S16 : Shape := ⟨1, ![16]⟩
abbrev S16x1 : Shape := ⟨2, ![16, 1]⟩
abbrev S1x1x128x1x16x128 : Shape := ⟨6, ![1, 1, 128, 1, 16, 128]⟩
abbrev S128x16 : Shape := ⟨2, ![128, 16]⟩
abbrev S128x16x1 : Shape := ⟨3, ![128, 16, 1]⟩
abbrev S1x16x1 : Shape := ⟨3, ![1, 16, 1]⟩

abbrev nBuf : Space → Nat
  | .hbm => 12
  | .vmem => 20
  | .smem => 0
  | _ => 0

abbrev bufTy : (tb : Table) → Fin (tcTables nBuf tb) → BufTy
  | .hbm, ⟨0, _⟩ => ⟨S128x16x128, .f32⟩
  | .hbm, ⟨1, _⟩ => ⟨S128x16x128, .f32⟩
  | .hbm, ⟨2, _⟩ => ⟨S128x16x128, .f32⟩
  | .hbm, ⟨3, _⟩ => ⟨S128x2048x16x128, .f32⟩
  | .hbm, ⟨4, _⟩ => ⟨S128x2048x16x128, .f32⟩
  | .hbm, ⟨5, _⟩ => ⟨S128x16x128x1x16x128, .f32⟩
  | .hbm, ⟨6, _⟩ => ⟨S128x4x128x4x16x128, .f32⟩
  | .hbm, ⟨7, _⟩ => ⟨S128x1x128x16x16x128, .f32⟩
  | .hbm, ⟨8, _⟩ => ⟨S128x16x128x1x16x128, .f32⟩
  | .hbm, ⟨9, _⟩ => ⟨S128x4x128x4x16x128, .f32⟩
  | .hbm, ⟨10, _⟩ => ⟨S128x1x128x16x16x128, .f32⟩
  | .hbm, ⟨11, _⟩ => ⟨S128x16x128, .f32⟩
  | .local _ .vmem, ⟨0, _⟩ => ⟨S2x16x128, .f32⟩
  | .local _ .vmem, ⟨1, _⟩ => ⟨S2x16x128, .f32⟩
  | .local _ .vmem, ⟨2, _⟩ => ⟨S2x16x128, .f32⟩
  | .local _ .vmem, ⟨3, _⟩ => ⟨S2x16x128, .f32⟩
  | .local _ .vmem, ⟨4, _⟩ => ⟨S2x16x128, .f32⟩
  | .local _ .vmem, ⟨5, _⟩ => ⟨S2x16x128, .f32⟩
  | .local _ .vmem, ⟨6, _⟩ => ⟨S2x1x128x1x16x128, .f32⟩
  | .local _ .vmem, ⟨7, _⟩ => ⟨S2x1x128x1x16x128, .f32⟩
  | .local _ .vmem, ⟨8, _⟩ => ⟨S2x1x128x1x16x128, .f32⟩
  | .local _ .vmem, ⟨9, _⟩ => ⟨S2x1x128x1x16x128, .f32⟩
  | .local _ .vmem, ⟨10, _⟩ => ⟨S2x1x128x1x16x128, .f32⟩
  | .local _ .vmem, ⟨11, _⟩ => ⟨S2x1x128x1x16x128, .f32⟩
  | .local _ .vmem, ⟨12, _⟩ => ⟨S2x1x128x1x16x128, .f32⟩
  | .local _ .vmem, ⟨13, _⟩ => ⟨S2x1x128x1x16x128, .f32⟩
  | .local _ .vmem, ⟨14, _⟩ => ⟨S2x1x128x1x16x128, .f32⟩
  | .local _ .vmem, ⟨15, _⟩ => ⟨S2x1x128x1x16x128, .f32⟩
  | .local _ .vmem, ⟨16, _⟩ => ⟨S2x1x128x1x16x128, .f32⟩
  | .local _ .vmem, ⟨17, _⟩ => ⟨S2x1x128x1x16x128, .f32⟩
  | .local _ .vmem, ⟨18, _⟩ => ⟨S2x16x128, .f32⟩
  | .local _ .vmem, ⟨19, _⟩ => ⟨S2x16x128, .f32⟩
  | _, _ => ⟨S128x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 6 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c15_i32.toNat, c0_i32.toNat, c0_i32_0.toNat, c0_i32_1.toNat, c0_i32_2.toNat]

def cc0_transform_4 (i : grid0.Coords) : Fin 6 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c3_i32.toNat, c0_i32.toNat, c0_i32_0.toNat, c0_i32_1.toNat, c0_i32_2.toNat]

def cc0_transform_5 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_6 (i : grid0.Coords) : Fin 6 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c15_i32.toNat, c0_i32.toNat, c0_i32_0.toNat, c0_i32_1.toNat, c0_i32_2.toNat]

def cc0_transform_7 (i : grid0.Coords) : Fin 6 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c3_i32.toNat, c0_i32.toNat, c0_i32_0.toNat, c0_i32_1.toNat, c0_i32_2.toNat]

def cc0_transform_8 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x128x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x128x1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x128x1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128x1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x128x1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x128x1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SampleAttnRefIdeal.lean ====
abbrev S128x16x128 : Shape := ⟨3, ![128, 16, 128]⟩
abbrev S128x2048x16x128 : Shape := ⟨4, ![128, 2048, 16, 128]⟩
abbrev S128x1x16x128 : Shape := ⟨4, ![128, 1, 16, 128]⟩
abbrev S128x2049x16x128 : Shape := ⟨4, ![128, 2049, 16, 128]⟩
abbrev S1 : Shape := ⟨1, ![1]⟩
abbrev S1x1 : Shape := ⟨2, ![1, 1]⟩
abbrev S_ : Shape := ⟨0, ![]⟩
abbrev S129 : Shape := ⟨1, ![129]⟩
abbrev S1x129 : Shape := ⟨2, ![1, 129]⟩
abbrev S1x129x1 : Shape := ⟨3, ![1, 129, 1]⟩
abbrev S128x1x129x16x128 : Shape := ⟨5, ![128, 1, 129, 16, 128]⟩
abbrev S128x1x16x129 : Shape := ⟨4, ![128, 1, 16, 129]⟩
abbrev S1x1x1x129 : Shape := ⟨4, ![1, 1, 1, 129]⟩
abbrev S128x1x16 : Shape := ⟨3, ![128, 1, 16]⟩
abbrev S128x1x16x1 : Shape := ⟨4, ![128, 1, 16, 1]⟩
abbrev S1x128x1x16x128 : Shape := ⟨5, ![1, 128, 1, 16, 128]⟩
abbrev S3x128x1x16x128 : Shape := ⟨5, ![3, 128, 1, 16, 128]⟩
abbrev S1x128x1x16 : Shape := ⟨4, ![1, 128, 1, 16]⟩
abbrev S3x128x1x16 : Shape := ⟨4, ![3, 128, 1, 16]⟩
abbrev S3x128x1x16x1 : Shape := ⟨5, ![3, 128, 1, 16, 1]⟩

abbrev nBuf : Space → Nat
  | .hbm => 223
  | .vmem => 0
  | .smem => 0
  | _ => 0

abbrev hbmTy0_0 (i : Nat) : BufTy := match i % 128 with
  | 0 => ⟨S128x16x128, .f32⟩
  | 1 => ⟨S128x16x128, .f32⟩
  | 2 => ⟨S128x16x128, .f32⟩
  | 3 => ⟨S128x2048x16x128, .f32⟩
  | 4 => ⟨S128x2048x16x128, .f32⟩
  | 5 => ⟨S128x1x16x128, .f32⟩
  | 6 => ⟨S128x2049x16x128, .f32⟩
  | 7 => ⟨S128x1x16x128, .f32⟩
  | 8 => ⟨S128x2049x16x128, .f32⟩
  | 9 => ⟨S128x1x16x128, .f32⟩
  | 10 => ⟨S1, .i32⟩
  | 11 => ⟨S1x1, .i32⟩
  | 12 => ⟨S_, .i32⟩
  | 13 => ⟨S1x1, .i32⟩
  | 14 => ⟨S1x1, .i32⟩
  | 15 => ⟨S129, .i32⟩
  | 16 => ⟨S1x129, .i32⟩
  | 17 => ⟨S_, .i32⟩
  | 18 => ⟨S1x129, .i32⟩
  | 19 => ⟨S1x129, .i32⟩
  | 20 => ⟨S1x129, .i32⟩
  | 21 => ⟨S1x129, .i32⟩
  | 22 => ⟨S_, .i32⟩
  | 23 => ⟨S1x129, .i32⟩
  | 24 => ⟨S1x129, .i1⟩
  | 25 => ⟨S_, .i32⟩
  | 26 => ⟨S1x129, .i32⟩
  | 27 => ⟨S1x129, .i32⟩
  | 28 => ⟨S_, .i32⟩
  | 29 => ⟨S1x129, .i32⟩
  | 30 => ⟨S1x129, .i1⟩
  | 31 => ⟨S_, .i32⟩
  | 32 => ⟨S1x129, .i32⟩
  | 33 => ⟨S1x129, .i32⟩
  | 34 => ⟨S1x129, .i32⟩
  | 35 => ⟨S1x129x1, .i32⟩
  | 36 => ⟨S128x1x129x16x128, .f32⟩
  | 37 => ⟨S_, .i32⟩
  | 38 => ⟨S1x129, .i32⟩
  | 39 => ⟨S1x129, .i1⟩
  | 40 => ⟨S_, .i32⟩
  | 41 => ⟨S1x129, .i32⟩
  | 42 => ⟨S1x129, .i32⟩
  | 43 => ⟨S1x129, .i32⟩
  | 44 => ⟨S1x129x1, .i32⟩
  | 45 => ⟨S128x1x129x16x128, .f32⟩
  | 46 => ⟨S128x1x16x129, .f32⟩
  | 47 => ⟨S_, .f32⟩
  | 48 => ⟨S128x1x16x129, .f32⟩
  | 49 => ⟨S128x1x16x129, .f32⟩
  | 50 => ⟨S1x1x1x129, .i1⟩
  | 51 => ⟨S_, .f32⟩
  | 52 => ⟨S_, .f32⟩
  | 53 => ⟨S128x1x16x129, .i1⟩
  | 54 => ⟨S128x1x16x129, .f32⟩
  | 55 => ⟨S128x1x16x129, .f32⟩
  | 56 => ⟨S_, .f32⟩
  | 57 => ⟨S128x1x16, .f32⟩
  | 58 => ⟨S128x1x16x1, .f32⟩
  | 59 => ⟨S128x1x16x129, .f32⟩
  | 60 => ⟨S128x1x16x129, .f32⟩
  | 61 => ⟨S128x1x16x129, .f32⟩
  | 62 => ⟨S_, .f32⟩
  | 63 => ⟨S128x1x16, .f32⟩
  | 64 => ⟨S128x1x16x1, .f32⟩
  | 65 => ⟨S128x1x16x129, .f32⟩
  | 66 => ⟨S128x1x16x129, .f32⟩
  | 67 => ⟨S128x1x16x128, .f32⟩
  | 68 => ⟨S128x1x16x1, .f32⟩
  | 69 => ⟨S128x1x16x1, .f32⟩
  | 70 => ⟨S128x1x16, .f32⟩
  | 71 => ⟨S128x1x16x128, .f32⟩
  | 72 => ⟨S1, .i32⟩
  | 73 => ⟨S1x1, .i32⟩
  | 74 => ⟨S_, .i32⟩
  | 75 => ⟨S1x1, .i32⟩
  | 76 => ⟨S1x1, .i32⟩
  | 77 => ⟨S129, .i32⟩
  | 78 => ⟨S1x129, .i32⟩
  | 79 => ⟨S_, .i32⟩
  | 80 => ⟨S1x129, .i32⟩
  | 81 => ⟨S1x129, .i32⟩
  | 82 => ⟨S1x129, .i32⟩
  | 83 => ⟨S1x129, .i32⟩
  | 84 => ⟨S_, .i32⟩
  | 85 => ⟨S1x129, .i32⟩
  | 86 => ⟨S1x129, .i1⟩
  | 87 => ⟨S_, .i32⟩
  | 88 => ⟨S1x129, .i32⟩
  | 89 => ⟨S1x129, .i32⟩
  | 90 => ⟨S_, .i32⟩
  | 91 => ⟨S1x129, .i32⟩
  | 92 => ⟨S1x129, .i1⟩
  | 93 => ⟨S_, .i32⟩
  | 94 => ⟨S1x129, .i32⟩
  | 95 => ⟨S1x129, .i32⟩
  | 96 => ⟨S1x129, .i32⟩
  | 97 => ⟨S1x129x1, .i32⟩
  | 98 => ⟨S128x1x129x16x128, .f32⟩
  | 99 => ⟨S_, .i32⟩
  | 100 => ⟨S1x129, .i32⟩
  | 101 => ⟨S1x129, .i1⟩
  | 102 => ⟨S_, .i32⟩
  | 103 => ⟨S1x129, .i32⟩
  | 104 => ⟨S1x129, .i32⟩
  | 105 => ⟨S1x129, .i32⟩
  | 106 => ⟨S1x129x1, .i32⟩
  | 107 => ⟨S128x1x129x16x128, .f32⟩
  | 108 => ⟨S128x1x16x129, .f32⟩
  | 109 => ⟨S_, .f32⟩
  | 110 => ⟨S128x1x16x129, .f32⟩
  | 111 => ⟨S128x1x16x129, .f32⟩
  | 112 => ⟨S1x1x1x129, .i1⟩
  | 113 => ⟨S_, .f32⟩
  | 114 => ⟨S_, .f32⟩
  | 115 => ⟨S128x1x16x129, .i1⟩
  | 116 => ⟨S128x1x16x129, .f32⟩
  | 117 => ⟨S128x1x16x129, .f32⟩
  | 118 => ⟨S_, .f32⟩
  | 119 => ⟨S128x1x16, .f32⟩
  | 120 => ⟨S128x1x16x1, .f32⟩
  | 121 => ⟨S128x1x16x129, .f32⟩
  | 122 => ⟨S128x1x16x129, .f32⟩
  | 123 => ⟨S128x1x16x129, .f32⟩
  | 124 => ⟨S_, .f32⟩
  | 125 => ⟨S128x1x16, .f32⟩
  | 126 => ⟨S128x1x16x1, .f32⟩
  | 127 => ⟨S128x1x16x129, .f32⟩
  | _ => ⟨S128x16x128, .f32⟩

abbrev hbmTy0_1 (i : Nat) : BufTy := match i % 128 with
  | 0 => ⟨S128x1x16x129, .f32⟩
  | 1 => ⟨S128x1x16x128, .f32⟩
  | 2 => ⟨S128x1x16x1, .f32⟩
  | 3 => ⟨S128x1x16x1, .f32⟩
  | 4 => ⟨S128x1x16, .f32⟩
  | 5 => ⟨S128x1x16x128, .f32⟩
  | 6 => ⟨S1, .i32⟩
  | 7 => ⟨S1x1, .i32⟩
  | 8 => ⟨S_, .i32⟩
  | 9 => ⟨S1x1, .i32⟩
  | 10 => ⟨S1x1, .i32⟩
  | 11 => ⟨S129, .i32⟩
  | 12 => ⟨S1x129, .i32⟩
  | 13 => ⟨S_, .i32⟩
  | 14 => ⟨S1x129, .i32⟩
  | 15 => ⟨S1x129, .i32⟩
  | 16 => ⟨S1x129, .i32⟩
  | 17 => ⟨S1x129, .i32⟩
  | 18 => ⟨S_, .i32⟩
  | 19 => ⟨S1x129, .i32⟩
  | 20 => ⟨S1x129, .i1⟩
  | 21 => ⟨S_, .i32⟩
  | 22 => ⟨S1x129, .i32⟩
  | 23 => ⟨S1x129, .i32⟩
  | 24 => ⟨S_, .i32⟩
  | 25 => ⟨S1x129, .i32⟩
  | 26 => ⟨S1x129, .i1⟩
  | 27 => ⟨S_, .i32⟩
  | 28 => ⟨S1x129, .i32⟩
  | 29 => ⟨S1x129, .i32⟩
  | 30 => ⟨S1x129, .i32⟩
  | 31 => ⟨S1x129x1, .i32⟩
  | 32 => ⟨S128x1x129x16x128, .f32⟩
  | 33 => ⟨S_, .i32⟩
  | 34 => ⟨S1x129, .i32⟩
  | 35 => ⟨S1x129, .i1⟩
  | 36 => ⟨S_, .i32⟩
  | 37 => ⟨S1x129, .i32⟩
  | 38 => ⟨S1x129, .i32⟩
  | 39 => ⟨S1x129, .i32⟩
  | 40 => ⟨S1x129x1, .i32⟩
  | 41 => ⟨S128x1x129x16x128, .f32⟩
  | 42 => ⟨S128x1x16x129, .f32⟩
  | 43 => ⟨S_, .f32⟩
  | 44 => ⟨S128x1x16x129, .f32⟩
  | 45 => ⟨S128x1x16x129, .f32⟩
  | 46 => ⟨S1x1x1x129, .i1⟩
  | 47 => ⟨S_, .f32⟩
  | 48 => ⟨S_, .f32⟩
  | 49 => ⟨S128x1x16x129, .i1⟩
  | 50 => ⟨S128x1x16x129, .f32⟩
  | 51 => ⟨S128x1x16x129, .f32⟩
  | 52 => ⟨S_, .f32⟩
  | 53 => ⟨S128x1x16, .f32⟩
  | 54 => ⟨S128x1x16x1, .f32⟩
  | 55 => ⟨S128x1x16x129, .f32⟩
  | 56 => ⟨S128x1x16x129, .f32⟩
  | 57 => ⟨S128x1x16x129, .f32⟩
  | 58 => ⟨S_, .f32⟩
  | 59 => ⟨S128x1x16, .f32⟩
  | 60 => ⟨S128x1x16x1, .f32⟩
  | 61 => ⟨S128x1x16x129, .f32⟩
  | 62 => ⟨S128x1x16x129, .f32⟩
  | 63 => ⟨S128x1x16x128, .f32⟩
  | 64 => ⟨S128x1x16x1, .f32⟩
  | 65 => ⟨S128x1x16x1, .f32⟩
  | 66 => ⟨S128x1x16, .f32⟩
  | 67 => ⟨S1x128x1x16x128, .f32⟩
  | 68 => ⟨S1x128x1x16x128, .f32⟩
  | 69 => ⟨S1x128x1x16x128, .f32⟩
  | 70 => ⟨S3x128x1x16x128, .f32⟩
  | 71 => ⟨S1x128x1x16, .f32⟩
  | 72 => ⟨S1x128x1x16, .f32⟩
  | 73 => ⟨S1x128x1x16, .f32⟩
  | 74 => ⟨S3x128x1x16, .f32⟩
  | 75 => ⟨S_, .f32⟩
  | 76 => ⟨S128x1x16, .f32⟩
  | 77 => ⟨S_, .f32⟩
  | 78 => ⟨S128x1x16, .f32⟩
  | 79 => ⟨S128x1x16, .f32⟩
  | 80 => ⟨S1x128x1x16, .f32⟩
  | 81 => ⟨S3x128x1x16, .f32⟩
  | 82 => ⟨S3x128x1x16, .f32⟩
  | 83 => ⟨S3x128x1x16, .f32⟩
  | 84 => ⟨S_, .f32⟩
  | 85 => ⟨S128x1x16, .f32⟩
  | 86 => ⟨S1x128x1x16, .f32⟩
  | 87 => ⟨S3x128x1x16, .f32⟩
  | 88 => ⟨S3x128x1x16, .f32⟩
  | 89 => ⟨S3x128x1x16x1, .f32⟩
  | 90 => ⟨S3x128x1x16x128, .f32⟩
  | 91 => ⟨S3x128x1x16x128, .f32⟩
  | 92 => ⟨S_, .f32⟩
  | 93 => ⟨S128x1x16x128, .f32⟩
  | 94 => ⟨S128x16x128, .f32⟩
  | _ => ⟨S128x16x128, .f32⟩

abbrev hbmTy (i : Nat) : BufTy := match i / 128 with
  | 0 => hbmTy0_0 i
  | 1 => hbmTy0_1 i
  | _ => ⟨S128x16x128, .f32⟩

abbrev bufTy : (tb : Table) → Fin (tcTables nBuf tb) → BufTy
  | .hbm, ⟨i, _⟩ => hbmTy i
  | _, _ => ⟨S128x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v84 : Ref sig .tc := ⟨.hbm, 117, rfl⟩
abbrev main_cst_20 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_21 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_22 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_c_23 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_24 : Ref sig .tc := ⟨.hbm, 146, rfl⟩
abbrev main_v109 : Ref sig .tc := ⟨.hbm, 147, rfl⟩
abbrev main_v110 : Ref sig .tc := ⟨.hbm, 148, rfl⟩
abbrev main_c_25 : Ref sig .tc := ⟨.hbm, 149, rfl⟩
abbrev main_v111 : Ref sig .tc := ⟨.hbm, 150, rfl⟩
abbrev main_v112 : Ref sig .tc := ⟨.hbm, 151, rfl⟩
abbrev main_c_26 : Ref sig .tc := ⟨.hbm, 152, rfl⟩
abbrev main_v113 : Ref sig .tc := ⟨.hbm, 153, rfl⟩
abbrev main_v114 : Ref sig .tc := ⟨.hbm, 154, rfl⟩
abbrev main_c_27 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_28 : Ref sig .tc := ⟨.hbm, 161, rfl⟩
abbrev main_v120 : Ref sig .tc := ⟨.hbm, 162, rfl⟩
abbrev main_v121 : Ref sig .tc := ⟨.hbm, 163, rfl⟩
abbrev main_c_29 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_30 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_31 : Ref sig .tc := ⟨.hbm, 175, rfl⟩
abbrev main_call2_v0 : Ref sig .tc := ⟨.hbm, 176, rfl⟩
abbrev main_call2_v1 : Ref sig .tc := ⟨.hbm, 177, rfl⟩
abbrev main_call2_v2 : Ref sig .tc := ⟨.hbm, 178, rfl⟩
abbrev main_v131 : Ref sig .tc := ⟨.hbm, 179, rfl⟩
abbrev main_cst_32 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_33 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_34 : Ref sig .tc := ⟨.hbm, 203, rfl⟩
abbrev main_v153 : Ref sig .tc := ⟨.hbm, 204, rfl⟩
abbrev main_cst_35 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_36 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_37 : Ref sig .tc := ⟨.hbm, 220, rfl⟩
abbrev main_v167 : Ref sig .tc := ⟨.hbm, 221, rfl⟩
abbrev main_v168 : Ref sig .tc := ⟨.hbm, 222, rfl⟩

abbrev nD : Nat := 1
abbrev τ : Topo := Topo.v7x

variable {F : FTy → Type} [FloatOps F]
-- ==== NormProj.lean ====
abbrev S8320x4096 : Shape := ⟨2, ![8320, 4096]⟩
abbrev S1x4096 : Shape := ⟨2, ![1, 4096]⟩
abbrev S1x4096x512 : Shape := ⟨3, ![1, 4096, 512]⟩
abbrev S4096 : Shape := ⟨1, ![4096]⟩
abbrev S4096x512 : Shape := ⟨2, ![4096, 512]⟩
abbrev S8320x512 : Shape := ⟨2, ![8320, 512]⟩
abbrev S520x4096 : Shape := ⟨2, ![520, 4096]⟩
abbrev S520x512 : Shape := ⟨2, ![520, 512]⟩
abbrev S520 : Shape := ⟨1, ![520]⟩
abbrev S520x1 : Shape := ⟨2, ![520, 1]⟩

abbrev nBuf : Space → Nat
  | .hbm => 7
  | .vmem => 6
  | .smem => 0
  | _ => 0

abbrev bufTy : (tb : Table) → Fin (tcTables nBuf tb) → BufTy
  | .hbm, ⟨0, _⟩ => ⟨S8320x4096, .f32⟩
  | .hbm, ⟨1, _⟩ => ⟨S1x4096, .f32⟩
  | .hbm, ⟨2, _⟩ => ⟨S1x4096x512, .f32⟩
  | .hbm, ⟨3, _⟩ => ⟨S4096, .f32⟩
  | .hbm, ⟨4, _⟩ => ⟨S1x4096, .f32⟩
  | .hbm, ⟨5, _⟩ => ⟨S4096x512, .f32⟩
  | .hbm, ⟨6, _⟩ => ⟨S8320x512, .f32⟩
  | .local _ .vmem, ⟨0, _⟩ => ⟨S520x4096, .f32⟩
  | .local _ .vmem, ⟨1, _⟩ => ⟨S520x4096, .f32⟩
  | .local _ .vmem, ⟨2, _⟩ => ⟨S1x4096, .f32⟩
  | .local _ .vmem, ⟨3, _⟩ => ⟨S4096x512, .f32⟩
  | .local _ .vmem, ⟨4, _⟩ => ⟨S520x512, .f32⟩
  | .local _ .vmem, ⟨5, _⟩ => ⟨S520x512, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S520x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S520x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormProjRefIdeal.lean ====
abbrev S8320x4096 : Shape := ⟨2, ![8320, 4096]⟩
abbrev S1x4096 : Shape := ⟨2, ![1, 4096]⟩
abbrev S1x4096x512 : Shape := ⟨3, ![1, 4096, 512]⟩
abbrev S4096 : Shape := ⟨1, ![4096]⟩
abbrev S_ : Shape := ⟨0, ![]⟩
abbrev S8320 : Shape := ⟨1, ![8320]⟩
abbrev S8320x1 : Shape := ⟨2, ![8320, 1]⟩
abbrev S4096x512 : Shape := ⟨2, ![4096, 512]⟩
abbrev S8320x512 : Shape := ⟨2, ![8320, 512]⟩

abbrev nBuf : Space → Nat
  | .hbm => 22
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S1x4096, .f32⟩
  | .hbm, ⟨2, _⟩ => ⟨S1x4096x512, .f32⟩
  | .hbm, ⟨3, _⟩ => ⟨S4096, .f32⟩
  | .hbm, ⟨4, _⟩ => ⟨S8320x4096, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x4096, .f32⟩
  | .hbm, ⟨16, _⟩ => ⟨S8320x4096, .f32⟩
  | .hbm, ⟨17, _⟩ => ⟨S1x4096, .f32⟩
  | .hbm, ⟨18, _⟩ => ⟨S8320x4096, .f32⟩
  | .hbm, ⟨19, _⟩ => ⟨S8320x4096, .f32⟩
  | .hbm, ⟨20, _⟩ => ⟨S4096x512, .f32⟩
  | .hbm, ⟨21, _⟩ => ⟨S8320x512, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleXattn.lean ====
abbrev S128x4x128 : Shape := ⟨3, ![128, 4, 128]⟩
abbrev S1x128x256x4x128 : Shape := ⟨5, ![1, 128, 256, 4, 128]⟩
abbrev S128x256x4x128 : Shape := ⟨4, ![128, 256, 4, 128]⟩
abbrev S4x4x128 : Shape := ⟨3, ![4, 4, 128]⟩
abbrev S4x256x4x128 : Shape := ⟨4, ![4, 256, 4, 128]⟩
abbrev S1x4x128 : Shape := ⟨3, ![1, 4, 128]⟩
abbrev S4x128 : Shape := ⟨2, ![4, 128]⟩
abbrev S1x256x4x128 : Shape := ⟨4, ![1, 256, 4, 128]⟩
abbrev S256x4x128 : Shape := ⟨3, ![256, 4, 128]⟩
abbrev S256x4 : Shape := ⟨2, ![256, 4]⟩
abbrev S256x4x1 : Shape := ⟨3, ![256, 4, 1]⟩
abbrev S4x1 : Shape := ⟨2, ![4, 1]⟩
abbrev S1x4x1 : Shape := ⟨3, ![1, 4, 1]⟩

abbrev nBuf : Space → Nat
  | .hbm => 6
  | .vmem => 8
  | .smem => 0
  | _ => 0

abbrev bufTy : (tb : Table) → Fin (tcTables nBuf tb) → BufTy
  | .hbm, ⟨0, _⟩ => ⟨S128x4x128, .f32⟩
  | .hbm, ⟨1, _⟩ => ⟨S1x128x256x4x128, .f32⟩
  | .hbm, ⟨2, _⟩ => ⟨S1x128x256x4x128, .f32⟩
  | .hbm, ⟨3, _⟩ => ⟨S128x256x4x128, .f32⟩
  | .hbm, ⟨4, _⟩ => ⟨S128x256x4x128, .f32⟩
  | .hbm, ⟨5, _⟩ => ⟨S128x4x128, .f32⟩
  | .local _ .vmem, ⟨0, _⟩ => ⟨S4x4x128, .f32⟩
  | .local _ .vmem, ⟨1, _⟩ => ⟨S4x4x128, .f32⟩
  | .local _ .vmem, ⟨2, _⟩ => ⟨S4x256x4x128, .f32⟩
  | .local _ .vmem, ⟨3, _⟩ => ⟨S4x256x4x128, .f32⟩
  | .local _ .vmem, ⟨4, _⟩ => ⟨S4x256x4x128, .f32⟩
  | .local _ .vmem, ⟨5, _⟩ => ⟨S4x256x4x128, .f32⟩
  | .local _ .vmem, ⟨6, _⟩ => ⟨S4x4x128, .f32⟩
  | .local _ .vmem, ⟨7, _⟩ => ⟨S4x4x128, .f32⟩
  | _, _ => ⟨S128x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SampleXattnRefIdeal.lean ====
abbrev S128x4x128 : Shape := ⟨3, ![128, 4, 128]⟩
abbrev S1x128x256x4x128 : Shape := ⟨5, ![1, 128, 256, 4, 128]⟩
abbrev S128x1x4x128 : Shape := ⟨4, ![128, 1, 4, 128]⟩
abbrev S128x256x4x128 : Shape := ⟨4, ![128, 256, 4, 128]⟩
abbrev S128x4x1x256 : Shape := ⟨4, ![128, 4, 1, 256]⟩
abbrev S_ : Shape := ⟨0, ![]⟩
abbrev S128x4x1 : Shape := ⟨3, ![128, 4, 1]⟩
abbrev S128x4x1x1 : Shape := ⟨4, ![128, 4, 1, 1]⟩
abbrev S128x4x128x1 : Shape := ⟨4, ![128, 4, 128, 1]⟩

abbrev nBuf : Space → Nat
  | .hbm => 27
  | .vmem => 0
  | .smem => 0
  | _ => 0

abbrev bufTy : (tb : Table) → Fin (tcTables nBuf tb) → BufTy
  | .hbm, ⟨0, _⟩ => ⟨S128x4x128, .f32⟩
  | .hbm, ⟨1, _⟩ => ⟨S1x128x256x4x128, .f32⟩
  | .hbm, ⟨2, _⟩ => ⟨S1x128x256x4x128, .f32⟩
  | .hbm, ⟨3, _⟩ => ⟨S128x1x4x128, .f32⟩
  | .hbm, ⟨4, _⟩ => ⟨S128x256x4x128, .f32⟩
  | .hbm, ⟨5, _⟩ => ⟨S128x256x4x128, .f32⟩
  | .hbm, ⟨6, _⟩ => ⟨S128x4x1x256, .f32⟩
  | .hbm, ⟨7, _⟩ => ⟨S_, .f32⟩
  | .hbm, ⟨8, _⟩ => ⟨S128x4x1x256, .f32⟩
  | .hbm, ⟨9, _⟩ => ⟨S128x4x1x256, .f32⟩
  | .hbm, ⟨10, _⟩ => ⟨S_, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1x1, .f32⟩
  | .hbm, ⟨16, _⟩ => ⟨S128x4x1x256, .f32⟩
  | .hbm, ⟨17, _⟩ => ⟨S128x4x1x256, .f32⟩
  | .hbm, ⟨18, _⟩ => ⟨S128x4x1x256, .f32⟩
  | .hbm, ⟨19, _⟩ => ⟨S_, .f32⟩
  | .hbm, ⟨20, _⟩ => ⟨S128x4x1, .f32⟩
  | .hbm, ⟨21, _⟩ => ⟨S128x4x1x1, .f32⟩
  | .hbm, ⟨22, _⟩ => ⟨S128x4x1x256, .f32⟩
  | .hbm, ⟨23, _⟩ => ⟨S128x4x1x256, .f32⟩
  | .hbm, ⟨24, _⟩ => ⟨S128x4x128x1, .f32⟩
  | .hbm, ⟨25, _⟩ => ⟨S128x1x4x128, .f32⟩
  | .hbm, ⟨26, _⟩ => ⟨S128x4x128, .f32⟩
  | _, _ => ⟨S128x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== ProjResNorm.lean ====
abbrev S8320x512 : Shape := ⟨2, ![8320, 512]⟩
abbrev S1x512x4096 : Shape := ⟨3, ![1, 512, 4096]⟩
abbrev S8320x4096 : Shape := ⟨2, ![8320, 4096]⟩
abbrev S1x4096 : Shape := ⟨2, ![1, 4096]⟩
abbrev S512x4096 : Shape := ⟨2, ![512, 4096]⟩
abbrev S4096 : Shape := ⟨1, ![4096]⟩
abbrev S416x512 : Shape := ⟨2, ![416, 512]⟩
abbrev S416x4096 : Shape := ⟨2, ![416, 4096]⟩
abbrev S416 : Shape := ⟨1, ![416]⟩
abbrev S416x1 : Shape := ⟨2, ![416, 1]⟩

abbrev nBuf : Space → Nat
  | .hbm => 9
  | .vmem => 10
  | .smem => 0
  | _ => 0

abbrev bufTy : (tb : Table) → Fin (tcTables nBuf tb) → BufTy
  | .hbm, ⟨0, _⟩ => ⟨S8320x512, .bf16⟩
  | .hbm, ⟨1, _⟩ => ⟨S1x512x4096, .f32⟩
  | .hbm, ⟨2, _⟩ => ⟨S8320x4096, .f32⟩
  | .hbm, ⟨3, _⟩ => ⟨S1x4096, .f32⟩
  | .hbm, ⟨4, _⟩ => ⟨S512x4096, .f32⟩
  | .hbm, ⟨5, _⟩ => ⟨S4096, .f32⟩
  | .hbm, ⟨6, _⟩ => ⟨S1x4096, .f32⟩
  | .hbm, ⟨7, _⟩ => ⟨S8320x4096, .f32⟩
  | .hbm, ⟨8, _⟩ => ⟨S8320x4096, .bf16⟩
  | .local _ .vmem, ⟨0, _⟩ => ⟨S416x512, .bf16⟩
  | .local _ .vmem, ⟨1, _⟩ => ⟨S416x512, .bf16⟩
  | .local _ .vmem, ⟨2, _⟩ => ⟨S512x4096, .f32⟩
  | .local _ .vmem, ⟨3, _⟩ => ⟨S416x4096, .f32⟩
  | .local _ .vmem, ⟨4, _⟩ => ⟨S416x4096, .f32⟩
  | .local _ .vmem, ⟨5, _⟩ => ⟨S1x4096, .f32⟩
  | .local _ .vmem, ⟨6, _⟩ => ⟨S416x4096, .f32⟩
  | .local _ .vmem, ⟨7, _⟩ => ⟨S416x4096, .f32⟩
  | .local _ .vmem, ⟨8, _⟩ => ⟨S416x4096, .bf16⟩
  | .local _ .vmem, ⟨9, _⟩ => ⟨S416x4096, .bf16⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjResNormRefIdeal.lean ====
abbrev S8320x512 : Shape := ⟨2, ![8320, 512]⟩
abbrev S1x512x4096 : Shape := ⟨3, ![1, 512, 4096]⟩
abbrev S8320x4096 : Shape := ⟨2, ![8320, 4096]⟩
abbrev S1x4096 : Shape := ⟨2, ![1, 4096]⟩
abbrev S512x4096 : Shape := ⟨2, ![512, 4096]⟩
abbrev S4096 : Shape := ⟨1, ![4096]⟩
abbrev S_ : Shape := ⟨0, ![]⟩
abbrev S8320 : Shape := ⟨1, ![8320]⟩
abbrev S8320x1 : Shape := ⟨2, ![8320, 1]⟩

abbrev nBuf : Space → Nat
  | .hbm => 26
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S1x512x4096, .f32⟩
  | .hbm, ⟨2, _⟩ => ⟨S8320x4096, .f32⟩
  | .hbm, ⟨3, _⟩ => ⟨S1x4096, .f32⟩
  | .hbm, ⟨4, _⟩ => ⟨S8320x512, .f32⟩
  | .hbm, ⟨5, _⟩ => ⟨S512x4096, .f32⟩
  | .hbm, ⟨6, _⟩ => ⟨S8320x4096, .f32⟩
  | .hbm, ⟨7, _⟩ => ⟨S8320x4096, .f32⟩
  | .hbm, ⟨8, _⟩ => ⟨S4096, .f32⟩
  | .hbm, ⟨9, _⟩ => ⟨S8320x4096, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x4096, .f32⟩
  | .hbm, ⟨21, _⟩ => ⟨S8320x4096, .f32⟩
  | .hbm, ⟨22, _⟩ => ⟨S1x4096, .f32⟩
  | .hbm, ⟨23, _⟩ => ⟨S8320x4096, .f32⟩
  | .hbm, ⟨24, _⟩ => ⟨S8320x4096, .f32⟩
  | .hbm, ⟨25, _⟩ => ⟨S8320x4096, .bf16⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== FinalNorm.lean ====
abbrev S8320x4096 : Shape := ⟨2, ![8320, 4096]⟩
abbrev S4096 : Shape := ⟨1, ![4096]⟩
abbrev S1x4096 : Shape := ⟨2, ![1, 4096]⟩
abbrev S8192x4096 : Shape := ⟨2, ![8192, 4096]⟩
abbrev S128x4096 : Shape := ⟨2, ![128, 4096]⟩
abbrev S512x4096 : Shape := ⟨2, ![512, 4096]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S128x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | .local _ .vmem, ⟨5, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FinalNormRefIdeal.lean ====
abbrev S8320x4096 : Shape := ⟨2, ![8320, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 36
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S128x4096, .f32⟩
  | .hbm, ⟨20, _⟩ => ⟨S128x4096, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S128x1, .f32⟩
  | .hbm, ⟨31, _⟩ => ⟨S128x4096, .f32⟩
  | .hbm, ⟨32, _⟩ => ⟨S128x4096, .f32⟩
  | .hbm, ⟨33, _⟩ => ⟨S1x4096, .f32⟩
  | .hbm, ⟨34, _⟩ => ⟨S128x4096, .f32⟩
  | .hbm, ⟨35, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== OutProj.lean ====
abbrev S8320x2048 : Shape := ⟨2, ![8320, 2048]⟩
abbrev S1x4096x4096 : Shape := ⟨3, ![1, 4096, 4096]⟩
abbrev S4x2048x4096 : Shape := ⟨3, ![4, 2048, 4096]⟩
abbrev S128x1x4096 : Shape := ⟨3, ![128, 1, 4096]⟩
abbrev S4096x4096 : Shape := ⟨2, ![4096, 4096]⟩
abbrev S8192x4096 : Shape := ⟨2, ![8192, 4096]⟩
abbrev S128x4096 : Shape := ⟨2, ![128, 4096]⟩
abbrev S8320x4096 : Shape := ⟨2, ![8320, 4096]⟩
abbrev S1040x2048 : Shape := ⟨2, ![1040, 2048]⟩
abbrev S2048x512 : Shape := ⟨2, ![2048, 512]⟩
abbrev S1040x512 : Shape := ⟨2, ![1040, 512]⟩
abbrev S128x512 : Shape := ⟨2, ![128, 512]⟩
abbrev S912x512 : Shape := ⟨2, ![912, 512]⟩

abbrev nBuf : Space → Nat
  | .hbm => 9
  | .vmem => 14
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S1x4096x4096, .f32⟩
  | .hbm, ⟨3, _⟩ => ⟨S4x2048x4096, .f32⟩
  | .hbm, ⟨4, _⟩ => ⟨S128x1x4096, .f32⟩
  | .hbm, ⟨5, _⟩ => ⟨S4096x4096, .f32⟩
  | .hbm, ⟨6, _⟩ => ⟨S8192x4096, .f32⟩
  | .hbm, ⟨7, _⟩ => ⟨S128x4096, .f32⟩
  | .hbm, ⟨8, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S1040x2048, .bf16⟩
  | .local _ .vmem, ⟨3, _⟩ => ⟨S1040x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1040x512, .f32⟩
  | .local _ .vmem, ⟨9, _⟩ => ⟨S1040x512, .f32⟩
  | .local _ .vmem, ⟨10, _⟩ => ⟨S128x512, .f32⟩
  | .local _ .vmem, ⟨11, _⟩ => ⟨S128x512, .f32⟩
  | .local _ .vmem, ⟨12, _⟩ => ⟨S1040x512, .f32⟩
  | .local _ .vmem, ⟨13, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c7_i32 : BitVec 32 := 7#32
  let v11 : BitVec 1 := Scalar.cmpi .eq arg0 c7_i32
  let v_true : BitVec 1 := 1#1
  let v12 : BitVec 1 := Scalar.xori v11 v_true
  let v13 : BitVec 32 := Scalar.extui v12
  let c0_i32 : BitVec 32 := 0#32
  let v14 : BitVec 1 := Scalar.cmpi .ne v13 c0_i32
  v14

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v15 : BitVec 32 := Scalar.extui v11
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1040x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1040x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S8320x2048 : Shape := ⟨2, ![8320, 2048]⟩
abbrev S1x4096x4096 : Shape := ⟨3, ![1, 4096, 4096]⟩
abbrev S4x2048x4096 : Shape := ⟨3, ![4, 2048, 4096]⟩
abbrev S128x1x4096 : Shape := ⟨3, ![128, 1, 4096]⟩
abbrev S8192x4096 : Shape := ⟨2, ![8192, 4096]⟩
abbrev S128x4096 : Shape := ⟨2, ![128, 4096]⟩
abbrev S8320x4096 : Shape := ⟨2, ![8320, 4096]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S1x4096x4096, .f32⟩
  | .hbm, ⟨3, _⟩ => ⟨S4x2048x4096, .f32⟩
  | .hbm, ⟨4, _⟩ => ⟨S128x1x4096, .f32⟩
  | .hbm, ⟨5, _⟩ => ⟨S8192x4096, .f32⟩
  | .hbm, ⟨6, _⟩ => ⟨S128x4096, .f32⟩
  | .hbm, ⟨7, _⟩ => ⟨S8320x4096, .f32⟩
  | .hbm, ⟨8, _⟩ => ⟨S8320x4096, .bf16⟩
  | .hbm, ⟨9, _⟩ => ⟨S8320x4096, .f32⟩
  | .hbm, ⟨10, _⟩ => ⟨S4096x4096, .f32⟩
  | .hbm, ⟨11, _⟩ => ⟨S8320x4096, .f32⟩
  | .hbm, ⟨12, _⟩ => ⟨S8320x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== WriteTail.lean ====
abbrev S8320x2048 : Shape := ⟨2, ![8320, 2048]⟩
abbrev S128x2048 : Shape := ⟨2, ![128, 2048]⟩

abbrev nBuf : Space → Nat
  | .hbm => 3
  | .vmem => 2
  | .smem => 0
  | _ => 0

abbrev bufTy : (tb : Table) → Fin (tcTables nBuf tb) → BufTy
  | .hbm, ⟨0, _⟩ => ⟨S8320x2048, .bf16⟩
  | .hbm, ⟨1, _⟩ => ⟨S128x2048, .f32⟩
  | .hbm, ⟨2, _⟩ => ⟨S8320x2048, .bf16⟩
  | .local _ .vmem, ⟨0, _⟩ => ⟨S128x2048, .f32⟩
  | .local _ .vmem, ⟨1, _⟩ => ⟨S128x2048, .bf16⟩
  | _, _ => ⟨S8320x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== WriteTailRefIdeal.lean ====
abbrev S8320x2048 : Shape := ⟨2, ![8320, 2048]⟩
abbrev S128x2048 : Shape := ⟨2, ![128, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S128x2048, .f32⟩
  | .hbm, ⟨2, _⟩ => ⟨S8192x2048, .bf16⟩
  | .hbm, ⟨3, _⟩ => ⟨S128x2048, .bf16⟩
  | .hbm, ⟨4, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StackNorm.lean ====
abbrev S4x2048x4096 : Shape := ⟨3, ![4, 2048, 4096]⟩
abbrev S128x1x4096 : Shape := ⟨3, ![128, 1, 4096]⟩
abbrev S1x4096 : Shape := ⟨2, ![1, 4096]⟩
abbrev S8192x4096 : Shape := ⟨2, ![8192, 4096]⟩
abbrev S128x4096 : Shape := ⟨2, ![128, 4096]⟩
abbrev S4096 : Shape := ⟨1, ![4096]⟩
abbrev S8320x4096 : Shape := ⟨2, ![8320, 4096]⟩
abbrev S512x4096 : Shape := ⟨2, ![512, 4096]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S128x1x4096, .f32⟩
  | .hbm, ⟨2, _⟩ => ⟨S1x4096, .f32⟩
  | .hbm, ⟨3, _⟩ => ⟨S8192x4096, .f32⟩
  | .hbm, ⟨4, _⟩ => ⟨S128x4096, .f32⟩
  | .hbm, ⟨5, _⟩ => ⟨S4096, .f32⟩
  | .hbm, ⟨6, _⟩ => ⟨S1x4096, .f32⟩
  | .hbm, ⟨7, _⟩ => ⟨S8320x4096, .bf16⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== StackNormRefIdeal.lean ====
abbrev S4x2048x4096 : Shape := ⟨3, ![4, 2048, 4096]⟩
abbrev S128x1x4096 : Shape := ⟨3, ![128, 1, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S128x1 : Shape := ⟨2, ![128, 1]⟩
abbrev S128x1x1 : Shape := ⟨3, ![128, 1, 1]⟩
abbrev S8192x4096 : Shape := ⟨2, ![8192, 4096]⟩
abbrev S128x4096 : Shape := ⟨2, ![128, 4096]⟩
abbrev S8320x4096 : Shape := ⟨2, ![8320, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x1x4096, .f32⟩
  | .hbm, ⟨2, _⟩ => ⟨S1x4096, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4096, .f32⟩
  | .hbm, ⟨21, _⟩ => ⟨S128x1x4096, .f32⟩
  | .hbm, ⟨22, _⟩ => ⟨S_, .f32⟩
  | .hbm, ⟨23, _⟩ => ⟨S128x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S_, .f32⟩
  | .hbm, ⟨29, _⟩ => ⟨S128x1x1, .f32⟩
  | .hbm, ⟨30, _⟩ => ⟨S128x1x1, .f32⟩
  | .hbm, ⟨31, _⟩ => ⟨S128x1x1, .f32⟩
  | .hbm, ⟨32, _⟩ => ⟨S128x1x4096, .f32⟩
  | .hbm, ⟨33, _⟩ => ⟨S128x1x4096, .f32⟩
  | .hbm, ⟨34, _⟩ => ⟨S1x1x4096, .f32⟩
  | .hbm, ⟨35, _⟩ => ⟨S128x1x4096, .f32⟩
  | .hbm, ⟨36, _⟩ => ⟨S128x1x4096, .f32⟩
  | .hbm, ⟨37, _⟩ => ⟨S8192x4096, .f32⟩
  | .hbm, ⟨38, _⟩ => ⟨S128x4096, .f32⟩
  | .hbm, ⟨39, _⟩ => ⟨S8320x4096, .f32⟩
  | .hbm, ⟨40, _⟩ => ⟨S8320x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.FfnUpValue.lean ====
/-
  The first half of the feed-forward block: what the pipelined kernel leaves in its result array is
  `relu (x · w)²` of the argument arrays, element by element.
-/
module

public import proofs.«01_k».proof.Proof.Gen.FfnUpIdeal.Value
public import proofs.«01_k».proof.Proof.Gen.FfnUpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.FfnUp

open Cert.FfnUpIdeal Cert.FfnUpIdeal.Gen

variable (m : (ℓ : Loc nD τ sig) → Buf (Elt Ideal) ℓ)

/-- The reference's result as a function of the activations and the weights. -/
abbrev wanted (X : FVec Ideal S8320x4096 .bf16) (W : FVec Ideal Cert.FfnUpRefIdeal.S1x4096x16384 .f32) :
    FVec Ideal S8320x16384 .bf16 :=
  truncf .bf16 (mulf (maximumf (Host.dotGeneral Cert.FfnUpRefIdeal.dot_S8320x4096_S4096x16384_S8320x16384_1_0_0_1_n_n none (extf .f32 X Cert.FfnUpRefIdeal.Gen.bitsLt_bf16_f32) (shapeCast _ W Cert.FfnUpRefIdeal.Gen.shapeCasts_S1x4096x16384_S4096x16384)) (broadcastInDim Cert.FfnUpRefIdeal.S8320x16384 ![] Cert.FfnUpRefIdeal.Gen.bcast_S_S8320x16384 (constant Cert.FfnUpRefIdeal.S_ .f32 0x00000000#32))) (maximumf (Host.dotGeneral Cert.FfnUpRefIdeal.dot_S8320x4096_S4096x16384_S8320x16384_1_0_0_1_n_n none (extf .f32 X Cert.FfnUpRefIdeal.Gen.bitsLt_bf16_f32) (shapeCast _ W Cert.FfnUpRefIdeal.Gen.shapeCasts_S1x4096x16384_S4096x16384)) (broadcastInDim Cert.FfnUpRefIdeal.S8320x16384 ![] Cert.FfnUpRefIdeal.Gen.bcast_S_S8320x16384 (constant Cert.FfnUpRefIdeal.S_ .f32 0x00000000#32)))) Cert.FfnUpRefIdeal.Gen.bitsLt_bf16_f32

/-- Which block each window is at, at grid point `t`: row band `t / 16`, column band `t % 16`. -/
theorem place : ∀ t : Fin cfg0.N, win0_0.index t = ![t.val / 16, 0] ∧ win0_1.index t = ![0, t.val % 16]
    ∧ win0_2.index t = ![t.val / 16, t.val % 16] ∧ t.val / 16 < 8 :=
  (by decide +kernel : ∀ t : Fin grid0.N, _)

/-- What the body stores at a block index is the wanted array at the index it sits at. -/
theorem at_point (c : Dev nD) (t : Fin cfg0.N) (y) : k0_pay1 (iblk m c 0 t) (iblk m c 1 t) y
    = wanted (m ((c : Thread nD τ).loc main_arg0)) (m ((c : Thread nD τ).loc main_arg1)) (((cfg0.win 2).blk t).view.emb y) := by
  pointwise [k0_pay1, wanted]
  blk_point [iblk, V, place t]

/-- The result array after the run. -/
theorem result (c : Dev nD) : (dats m 0 c).arrAt 2 (cfgs 0).N
    = wanted (m ((c : Thread nD τ).loc main_arg0)) (m ((c : Thread nD τ).loc main_arg1)) := by
  refine (dats m 0 c).arrAt_eq_of_covers 2 _ (by decide +kernel) fun t _ y => ?_
  blk_simp
  rw [after0_2]; frame_out
  exact at_point m c t y

end Cert.Proof.FfnUp

end
-- ==== Proof.FfnDownValue.lean ====
/-
  The feed-forward block's second matrix product: what the pipelined kernel leaves in its result array is the
  residual plus the product of the hidden activations and the weights, element by element.
-/
module

public import proofs.«01_k».proof.Proof.Gen.FfnDownIdeal.Value
public import proofs.«01_k».proof.Proof.Gen.FfnDownRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.FfnDown

open Cert.FfnDownIdeal Cert.FfnDownIdeal.Gen

variable (m : (ℓ : Loc nD τ sig) → Buf (Elt Ideal) ℓ)

/-- The reference's residual plus product. -/
abbrev wanted (H : FVec Ideal S8320x16384 .bf16) (W : FVec Ideal Cert.FfnDownRefIdeal.S1x16384x4096 .f32) (X : FVec Ideal S8320x4096 .f32) : FVec Ideal S8320x4096 .f32 :=
  addf X (Host.dotGeneral Cert.FfnDownRefIdeal.dot_S8320x16384_S16384x4096_S8320x4096_1_0_0_1_n_n none (extf .f32 H Cert.FfnDownRefIdeal.Gen.bitsLt_bf16_f32) (shapeCast _ W Cert.FfnDownRefIdeal.Gen.shapeCasts_S1x16384x4096_S16384x4096))

/-- Which block each window is at, at grid point `t`. -/
theorem place : ∀ t : Fin cfg0.N, win0_0.index t = ![t.val / 64, t.val % 16] ∧ win0_1.index t = ![t.val % 16, t.val / 16 % 4]
    ∧ win0_2.index t = ![t.val / 64, t.val / 16 % 4] ∧ win0_3.index t = ![t.val / 64, t.val / 16 % 4] ∧ t.val / 64 < 4 :=
  (by decide +kernel : ∀ t : Fin grid0.N, _)

/-- One point's part of the product: the sum over the columns of the two blocks staged there. -/
def part (H : FVec Ideal S2080x1024 .bf16) (W : FVec Ideal S1024x1024 .f32) (y : S2080x1024.Idx) : EReal :=
  ∑ k : Fin 1024, H (ix2 (y 0) k) * W (ix2 k (y 1))

/-- Two pieces that hold an index between them decide what is read there, whatever lies under them. -/
theorem canon_two {S : Shape} {e : EltTy} (p q : View.Piece (Elt Ideal) S e) (L : List (View.Piece (Elt Ideal) S e)) (y : S.Idx)
    (h : y ∈ p.1.set ∨ y ∈ q.1.set) : View.canon (p :: q :: L) y = View.canon [p, q] y := by
  by_cases hp : y ∈ p.1.set
  · obtain ⟨x, rfl⟩ := p.1.exists_idx_of_mem hp
    exact (View.canon_cons_emb p.1 p.2 _ x).trans (View.canon_cons_emb p.1 p.2 _ x).symm
  · obtain ⟨x, rfl⟩ := q.1.exists_idx_of_mem (h.resolve_left hp)
    rw [View.canon_cons_of_not_mem _ _ hp, View.canon_cons_of_not_mem _ _ hp]
    exact (View.canon_cons_emb q.1 q.2 _ x).trans (View.canon_cons_emb q.1 q.2 _ x).symm

/-- A run's first point leaves the residual block plus the first part of the product. -/
theorem first_at (c : Dev nD) (t : Fin cfg0.N) (h0 : t.val % 16 = 0) (y : S2080x1024.Idx) :
    (show FVec Ideal S2080x1024 .f32 from outsAt0 m c t.val t.isLt) y
      = (show FVec Ideal S2080x1024 .f32 from iblk m c 2 t) y + part (iblk m c 0 t) (iblk m c 1 t) y := by
  rw [outsAt0_A m c t h0]; frame_out
  rw [canon_two]
  rotate_left
  · have h0 : (y 0 : ℕ) < 2080 := (y 0).isLt
    have h1 : (y 1 : ℕ) < 1024 := (y 1).isLt
    rcases Nat.lt_or_ge (y 0 : ℕ) 1040 with hy | hy
    · refine Or.inr ?_
      exact (Rect.mem_set_unit (inb := inb_S2080x1024_S1040x1024_0_0).mpr (Fin.forall_fin_two.mpr ⟨⟨Nat.zero_le _, hy⟩, ⟨Nat.zero_le _, h1⟩⟩))
    · refine Or.inl ?_
      exact (Rect.mem_set_unit (inb := inb_S2080x1024_S1040x1024_1040_0).mpr (Fin.forall_fin_two.mpr ⟨⟨hy, h0⟩, ⟨Nat.zero_le _, h1⟩⟩))
  canon_tiles x h
  all_goals
    (unfold part; open_payloads
     simp (disch := decide) only [↓View.readCov_skip, ↓View.readCov_fill]
     pointwise; blk_point [])

/-- A later point adds its part of the product to what the point before left. -/
theorem next_at (c : Dev nD) (t : Fin cfg0.N) (h0 : ¬t.val % 16 = 0) (y : S2080x1024.Idx) :
    (show FVec Ideal S2080x1024 .f32 from outsAt0 m c t.val t.isLt) y
      = (show FVec Ideal S2080x1024 .f32 from outsAt0 m c (t.val - 1) (Nat.lt_of_le_of_lt (Nat.sub_le _ _) t.isLt)) y
        + part (iblk m c 0 t) (iblk m c 1 t) y := by
  rw [outsAt0_B m c t h0]; frame_out
  canon_tiles x h
  all_goals (unfold part; open_payloads; pointwise; blk_point [])

/-- The result array after the run. -/
theorem result (c : Dev nD) : (dats m 0 c).arrAt 3 (cfgs 0).N
    = wanted (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h := Pipeline.eq_sum_fin_of_reset_step_apply_of_flush (fun n h => (outsAt0 m c n h : S2080x1024.Idx → EReal)) 16 (fun _ => 0)
    (fun p j => (if p.val % 16 = 0 then (show EReal from (show FVec Ideal S2080x1024 .f32 from iblk m c 2 p) j) else 0) + part (iblk m c 0 p) (iblk m c 1 p) j)
    (fun t h j => by simp only [h, if_true, zero_add]; exact first_at m c t h j)
    (fun t h j => by simp only [h, if_false, zero_add]; exact next_at m c t h j) t ((flush0_3 t).mp hf) y
  rw [after0_3]
  refine h.trans ?_
  rw [zero_add, Finset.sum_add_distrib, Finset.sum_eq_single (0 : Fin 16) (fun s _ hs => if_neg (by dsimp only; omega)) (by simp)]
  pointwise [part, wanted]
  rw [if_pos (by omega)]
  have hplace := place ⟨16 * (t.val / 16), lt_of_le_of_lt (by omega) t.isLt⟩
  dsimp only at hplace
  refine congrArg₂ (fun a b : EReal => a + b) ?_ (Fin.sum_mul_add_congr fun s k hl => ?_)
  · blk_point [iblk, V, hplace, place t]
  · blk_point [iblk, V, place t, place ⟨_, Pipeline.run_point_lt_of_flush t ((flush0_3 t).mp hf) s⟩]

end Cert.Proof.FfnDown

end
-- ==== Proof.InProjValue.lean ====
/-
  The input projection of the mixer: what the pipelined kernel leaves in its result array is the product of the
  normalised activations and the weights, head by head, with the query and key heads turned by the rotary
  angle of each row's position, as the reference has it.
-/
module

public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InProj

open Cert.InProjIdeal Cert.InProjIdeal.Gen

/-- The rotary angle of lane pair `e` at position `p`. -/
def angle (p : BitVec 32) (e : ℕ) : EReal :=
  FloatOps.sitofp (F := Ideal) .f32 p * Ideal.exp (Ideal.div (Ideal.ofBits .f32 3239271822#32 * FloatOps.sitofp (F := Ideal) .f32 (BitVec.ofNat 32 e)) (Ideal.ofBits .f32 1115684864#32))

/-- A row's position: prompts run through 0 … 2047, the decoded tokens stand at 2048. -/
def position (r : ℕ) : BitVec 32 := if r < 8192 then BitVec.ofNat 32 (r % 2048) else 2048#32

/-- Head `h` of a row `P` of the product, turned: the lanes `e` and `e + 64` are a pair. -/
def turn (p : BitVec 32) (P : Fin 10240 → EReal) (h : Fin 80) (e : Fin 128) : EReal :=
  if he : (e : ℕ) < 64 then
    P ⟨h * 128 + e, by omega⟩ * Ideal.cos (angle p e) - P ⟨h * 128 + (64 + e), by omega⟩ * Ideal.sin (angle p e)
  else P ⟨h * 128 + e, by omega⟩ * Ideal.cos (angle p (e - 64)) + P ⟨h * 128 + (e - 64), by omega⟩ * Ideal.sin (angle p (e - 64))

/-- Head `h` of a row: the first 32 heads are turned, the others are the product itself. -/
def head (p : BitVec 32) (P : Fin 10240 → EReal) (h : Fin 80) (e : Fin 128) : EReal :=
  if (h : ℕ) < 32 then turn p P h e else P ⟨h * 128 + e, by omega⟩

/-- One row of the plain product of activations and weights. -/
def prod (X : FVec Ideal S8320x4096 .bf16) (W : FVec Ideal Cert.InProjRefIdeal.S1x4096x10240 .f32) (r : Fin 8320) (q : Fin 10240) : EReal :=
  ∑ k : Fin 4096, X (ix2 r k) * W (ix3 0 k q)

section Reference

open Cert.InProjRefIdeal.Read

variable (X : FVec Ideal S8320x4096 .bf16) (W : FVec Ideal Cert.InProjRefIdeal.S1x4096x10240 .f32)

/-- The reference's product on the prompts' rows. -/
theorem prompt_prod (n : Fin 4) (t : Fin 2048) (q : Fin 10240) : (show EReal from val_main_v5 (F := Ideal) X W (ix3 n t q)) = prod X W ⟨n * 2048 + t, by omega⟩ q := by
  pointwise [prod, val_main_v5, val_main_v2, val_main_v1, val_main_v0, val_main_v4]

/-- The reference's product on the decoded tokens' rows. -/
theorem sample_prod (n : Fin 128) (q : Fin 10240) : (show EReal from val_main_v83 (F := Ideal) X W (ix3 n 0 q)) = prod X W ⟨8192 + n, by omega⟩ q := by
  pointwise [prod, val_main_v83, val_main_v78, val_main_v77, val_main_v0, val_main_v82]

/-- The prompt's queries are turned by their positions. -/
theorem prompt_q (n : Fin 4) (t : Fin 2048) (h : Fin 16) (e : Fin 128) (g : Fin 80) (hg : (g : ℕ) = h) : (show EReal from val_main_v40 (F := Ideal) X W (ix4 n t h e)) =
    turn (BitVec.ofNat 32 t) (fun q => (show EReal from val_main_v5 (F := Ideal) X W (ix3 n t q))) g e := by
  pointwise [turn, angle, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_v3]
  split <;> blk_point []

/-- The prompt's keys are turned by their positions. -/
theorem prompt_k (n : Fin 4) (t : Fin 2048) (h : Fin 16) (e : Fin 128) (g : Fin 80) (hg : (g : ℕ) = 16 + h) : (show EReal from val_main_v74 (F := Ideal) X W (ix4 n t h e)) =
    turn (BitVec.ofNat 32 t) (fun q => (show EReal from val_main_v5 (F := Ideal) X W (ix3 n t q))) g e := by
  pointwise [turn, angle, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst_1, val_main_cst_2, val_main_v3, val_main_v6]
  split <;> blk_point []

/-- The decoded tokens' queries are turned by position 2048. -/
theorem sample_q (n : Fin 128) (h : Fin 16) (e : Fin 128) (g : Fin 80) (hg : (g : ℕ) = h) : (show EReal from val_main_v117 (F := Ideal) X W (ix4 n 0 h e)) =
    turn 2048#32 (fun q => (show EReal from val_main_v83 (F := Ideal) X W (ix3 n 0 q))) g e := by
  pointwise [turn, angle, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_cst_3, val_main_cst_4, val_main_v79, val_main_v80, val_main_v81, val_main_c]
  split <;> blk_point []
  all_goals rfl

/-- The decoded tokens' keys are turned by position 2048. -/
theorem sample_k (n : Fin 128) (h : Fin 16) (e : Fin 128) (g : Fin 80) (hg : (g : ℕ) = 16 + h) : (show EReal from val_main_v150 (F := Ideal) X W (ix4 n 0 h e)) =
    turn 2048#32 (fun q => (show EReal from val_main_v83 (F := Ideal) X W (ix3 n 0 q))) g e := by
  pointwise [turn, angle, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_cst_5, val_main_cst_6, val_main_v79, val_main_v80, val_main_v81, val_main_c, val_main_v84]
  split <;> blk_point []
  all_goals rfl

/-- The reference's heads of the prompts' rows. -/
theorem prompt_heads (n : Fin 4) (t : Fin 2048) (h : Fin 80) (e : Fin 128) : (show EReal from val_main_v76 (F := Ideal) X W (ix4 n t h e)) =
    head (BitVec.ofNat 32 t) (prod X W ⟨n * 2048 + t, by omega⟩) h e := by
  have hP : (fun q => (show EReal from val_main_v5 (F := Ideal) X W (ix3 n t q))) = prod X W ⟨n * 2048 + t, by omega⟩ := funext fun q => prompt_prod X W n t q
  rw [← hP]
  unfold head
  pointwise [val_main_v76, val_main_v75, val_main_v6]
  by_cases h1 : (h : ℕ) < 16
  · rw [dif_pos h1, if_pos (show (h : ℕ) < 32 by omega)]
    exact prompt_q X W n t ⟨h, h1⟩ e h rfl
  · rw [dif_neg h1]
    by_cases h2 : (h : ℕ) - 16 < 16
    · rw [dif_pos h2, if_pos (show (h : ℕ) < 32 by omega)]
      exact prompt_k X W n t ⟨h - 16, h2⟩ e h (by dsimp only; omega)
    · rw [dif_neg h2, if_neg (show ¬(h : ℕ) < 32 by omega)]
      blk_ext

/-- The reference's heads of the decoded tokens' rows. -/
theorem sample_heads (n : Fin 128) (h : Fin 80) (e : Fin 128) : (show EReal from val_main_v152 (F := Ideal) X W (ix4 n 0 h e)) =
    head 2048#32 (prod X W ⟨8192 + n, by omega⟩) h e := by
  have hP : (fun q => (show EReal from val_main_v83 (F := Ideal) X W (ix3 n 0 q))) = prod X W ⟨8192 + n, by omega⟩ := funext fun q => sample_prod X W n q
  rw [← hP]
  unfold head
  pointwise [val_main_v152, val_main_v151, val_main_v84]
  by_cases h1 : (h : ℕ) < 16
  · rw [dif_pos h1, if_pos (show (h : ℕ) < 32 by omega)]
    exact sample_q X W n ⟨h, h1⟩ e h rfl
  · rw [dif_neg h1]
    by_cases h2 : (h : ℕ) - 16 < 16
    · rw [dif_pos h2, if_pos (show (h : ℕ) < 32 by omega)]
      exact sample_k X W n ⟨h - 16, h2⟩ e h (by dsimp only; omega)
    · rw [dif_neg h2, if_neg (show ¬(h : ℕ) < 32 by omega)]
      blk_ext

/-- The reference's result, index by index. -/
theorem reference_at (h : Fin 80) (r : Fin 8320) (e : Fin 128) : (show EReal from val_main_v156 (F := Ideal) X W (ix3 h r e)) = head (position r) (prod X W r) h e := by
  pointwise [val_main_v156, val_main_v155, val_main_v153, val_main_v154]
  unfold position
  by_cases h1 : (r : ℕ) < 8192
  · rw [dif_pos h1, if_pos h1]
    refine (prompt_heads X W ⟨r / 2048, by omega⟩ ⟨r % 2048, by omega⟩ h e).trans ?_
    exact congrArg (fun s => head _ (prod X W s) h e) (Fin.ext (by dsimp only; omega))
  · rw [dif_neg h1, if_neg h1]
    refine (sample_heads X W ⟨r - 8192, by omega⟩ h e).trans ?_
    exact congrArg (fun s => head _ (prod X W s) h e) (Fin.ext (by dsimp only; omega))

/-- The same at an index that is one variable. -/
theorem reference_eq (j : S80x8320x128.Idx) : (show EReal from val_main_v156 (F := Ideal) X W j) = head (position (j 1)) (prod X W (j 1)) (j 0) (j 2) := by
  obtain ⟨h, r, e, rfl⟩ : ∃ (h : Fin 80) (r : Fin 8320) (e : Fin 128), j = ix3 h r e := ⟨_, _, _, (ix3_eta j).symm⟩
  exact reference_at X W h r e

end Reference

variable (m : (ℓ : Loc nD τ sig) → Buf (Elt Ideal) ℓ)

/-- Which block each window is at, at grid point `t`; the table blocks are the row band's for the turned heads and
    the last one for the others. -/
theorem place : ∀ t : Fin cfg0.N, win0_0.index t = ![t.val / 20, 0] ∧ win0_1.index t = ![0, t.val % 20]
    ∧ win0_2.index t = ![if t.val % 20 < 8 then t.val / 20 else 8, 0] ∧ win0_3.index t = ![if t.val % 20 < 8 then t.val / 20 else 8, 0]
    ∧ win0_4.index t = ![t.val % 20, t.val / 20, 0] ∧ t.val / 20 < 8 :=
  (by decide +kernel : ∀ t : Fin grid0.N, _)

/-- The cosine table, entry by entry: the last rows hold ones. -/
theorem cos_table (c : Dev nD) (r : Fin 9360) (e : Fin 128) : (show FVec Ideal S9360x128 .f32 from V m c main_v24) (ix2 r e)
    = if (r : ℕ) < 8320 then Ideal.cos (angle (position r) (if (e : ℕ) < 64 then e else e - 64)) else 1 := by
  entry_read
  pointwise [angle, position]
  split <;> [split; skip] <;> simp_all

/-- The signed sine table, entry by entry: the last rows hold zeros. -/
theorem sin_table (c : Dev nD) (r : Fin 9360) (e : Fin 128) : (show FVec Ideal S9360x128 .f32 from V m c main_v26) (ix2 r e)
    = if (r : ℕ) < 8320 then (if (e : ℕ) < 64 then -Ideal.sin (angle (position r) e) else Ideal.sin (angle (position r) (e - 64))) else 0 := by
  entry_read
  pointwise [angle, position]
  split <;> [split; skip] <;> simp_all

/-- One head of a block: the product times the cosines plus the product turned by half a head times the signed sines. -/
def part (X : FVec Ideal S1040x4096 .bf16) (W : FVec Ideal S4096x512 .f32) (C S : FVec Ideal S1040x128 .f32) (h : Fin 4) (r : Fin 1040) (e : Fin 128) : EReal :=
  (∑ k : Fin 4096, X (ix2 r k) * W (ix2 k ⟨h * 128 + e, by omega⟩)) * C (ix2 r e)
    + (∑ k : Fin 4096, X (ix2 r k) * W (ix2 k ⟨h * 128 + (e + 64) % 128, by omega⟩)) * S (ix2 r e)

/-- The block a point leaves, head by head. -/
theorem block_at (X : FVec Ideal S1040x4096 .bf16) (W : FVec Ideal S4096x512 .f32) (C S : FVec Ideal S1040x128 .f32) (y : S4x1040x128.Idx) :
    out0_4 (F := Ideal) X W C S y = part X W C S (y 0) (y 1) (y 2) := by
  canon_tiles x h
  all_goals (open_payloads; pointwise [part]; blk_point [])

/-- The products formed at a point are entries of the whole product. -/
theorem product_at (c : Dev nD) (t : Fin cfg0.N) (r : Fin 1040) (q : Fin 512) (i : Fin 8320) (j : Fin 10240) (hi : (i : ℕ) = t.val / 20 * 1040 + r) (hj : (j : ℕ) = t.val % 20 * 512 + q) :
    ∑ k : Fin 4096, (show FVec Ideal S1040x4096 .bf16 from iblk m c 0 t) (ix2 r k) * (show FVec Ideal S4096x512 .f32 from iblk m c 1 t) (ix2 k q)
      = prod (m ((c : Thread nD τ).loc main_arg0)) (m ((c : Thread nD τ).loc main_arg1)) i j := by
  pointwise [prod]
  blk_point [iblk, V, place t]

/-- The cosines staged at a point: its row band's for the turned heads, ones for the others. -/
theorem cos_at (c : Dev nD) (t : Fin cfg0.N) (r : Fin 1040) (e : Fin 128) : (show FVec Ideal S1040x128 .f32 from iblk m c 2 t) (ix2 r e)
    = if t.val % 20 < 8 then Ideal.cos (angle (position (t.val / 20 * 1040 + r)) (if (e : ℕ) < 64 then e else e - 64)) else 1 := by
  have hp := place t
  have h : (show FVec Ideal S1040x128 .f32 from iblk m c 2 t) (ix2 r e)
      = (show FVec Ideal S9360x128 .f32 from V m c main_v24) (ix2 ⟨(if t.val % 20 < 8 then t.val / 20 else 8) * 1040 + r, by split <;> omega⟩ e) := by
    unfold iblk
    blk_ext [place t]
  rw [h, cos_table]
  by_cases h8 : t.val % 20 < 8
  · simp only [h8, if_true]
    rw [if_pos (by omega)]
  · simp only [h8, if_false]
    rw [if_neg (by omega)]

/-- The signed sines staged at a point: its row band's for the turned heads, zeros for the others. -/
theorem sin_at (c : Dev nD) (t : Fin cfg0.N) (r : Fin 1040) (e : Fin 128) : (show FVec Ideal S1040x128 .f32 from iblk m c 3 t) (ix2 r e)
    = if t.val % 20 < 8 then (if (e : ℕ) < 64 then -Ideal.sin (angle (position (t.val / 20 * 1040 + r)) e) else Ideal.sin (angle (position (t.val / 20 * 1040 + r)) (e - 64))) else 0 := by
  have hp := place t
  have h : (show FVec Ideal S1040x128 .f32 from iblk m c 3 t) (ix2 r e)
      = (show FVec Ideal S9360x128 .f32 from V m c main_v26) (ix2 ⟨(if t.val % 20 < 8 then t.val / 20 else 8) * 1040 + r, by split <;> omega⟩ e) := by
    unfold iblk
    blk_ext [place t]
  rw [h, sin_table]
  by_cases h8 : t.val % 20 < 8
  · simp only [h8, if_true]
    rw [if_pos (by omega)]
  · simp only [h8, if_false]
    rw [if_neg (by omega)]

/-- The block a point leaves holds the wanted heads of its rows. -/
theorem heads_at (c : Dev nD) (t : Fin cfg0.N) (y : S4x1040x128.Idx) (h : Fin 80) (r : Fin 8320) (e : Fin 128)
    (h0 : (h : ℕ) = t.val % 20 * 4 + y 0) (h1 : (r : ℕ) = t.val / 20 * 1040 + y 1) (h2 : (e : ℕ) = y 2) :
    out0_4 (F := Ideal) (iblk m c 0 t) (iblk m c 1 t) (iblk m c 2 t) (iblk m c 3 t) y
      = head (position r) (prod (m ((c : Thread nD τ).loc main_arg0)) (m ((c : Thread nD τ).loc main_arg1)) r) h e := by
  have hy0 : (y 0 : ℕ) < 4 := (y 0).isLt
  have hy2 : (y 2 : ℕ) < 128 := (y 2).isLt
  obtain rfl : e = y 2 := Fin.ext h2
  rw [block_at]
  unfold part
  rw [product_at m c t (y 1) _ r ⟨h * 128 + y 2, by omega⟩ h1 (by dsimp only; omega), product_at m c t (y 1) _ r ⟨h * 128 + (y 2 + 64) % 128, by omega⟩ h1 (by dsimp only; omega)]
  refine (congrArg₂ (fun a b : EReal => a + b) (congrArg (fun a : EReal => _ * a) (cos_at m c t (y 1) (y 2))) (congrArg (fun a : EReal => _ * a) (sin_at m c t (y 1) (y 2)))).trans ?_
  rw [← h1]
  unfold head turn
  by_cases h8 : t.val % 20 < 8
  · rw [if_pos h8, if_pos h8, if_pos (show (h : ℕ) < 32 by omega)]
    by_cases he : (y 2 : ℕ) < 64
    · rw [if_pos he, if_pos he, dif_pos he, sub_eq_add_neg, mul_neg]
      congr 3
      exact congrArg _ (Fin.ext (by dsimp only; omega))
    · rw [if_neg he, if_neg he, dif_neg he]
      congr 3
      exact Fin.ext (by dsimp only; omega)
  · rw [if_neg h8, if_neg h8, if_neg (show ¬(h : ℕ) < 32 by omega), mul_one, mul_zero, add_zero]

/-- The result array after the run is the reference's. -/
theorem result (c : Dev nD) : (dats m 0 c).arrAt 4 (cfgs 0).N
    = (Cert.InProjRefIdeal.Read.val_main_v156 (F := Ideal) (m ((c : Thread nD τ).loc main_arg0)) (m ((c : Thread nD τ).loc main_arg1)) : S80x8320x128.Idx → EReal) := by
  refine (dats m 0 c).arrAt_eq_of_covers 4 _ (by decide +kernel) fun t _ y => ?_
  blk_simp
  rw [after0_4]
  have h := (heads_at m c t y ((win0_4.blk t).view.emb y 0) ((win0_4.blk t).view.emb y 1) ((win0_4.blk t).view.emb y 2) (by blk_simp [place t]) (by blk_simp [place t]) (by blk_simp [place t])).trans
    (reference_eq (m ((c : Thread nD τ).loc main_arg0)) (m ((c : Thread nD τ).loc main_arg1)) ((win0_4.blk t).view.emb y)).symm
  exact h

end Cert.Proof.InProj

end
-- ==== Proof.MemKvValue.lean ====
/-
  The cross-attention's keys and values of the memory: what the pipelined kernel leaves in its two result
  arrays is the memory times each of the two weight matrices, element by element.
-/
module

public import proofs.«01_k».proof.Proof.Gen.MemKvIdeal.Value
public import proofs.«01_k».proof.Proof.Gen.MemKvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.MemKv

open Cert.MemKvIdeal Cert.MemKvIdeal.Gen

variable (m : (ℓ : Loc nD τ sig) → Buf (Elt Ideal) ℓ)

/-- The reference's product of the memory and one weight matrix, its first two axes merged. -/
abbrev wanted (X : FVec Ideal S4x256x4096 .f32) (W : FVec Ideal S1x4096x512 .f32) : FVec Ideal S1024x512 .f32 :=
  shapeCast _ (Host.dotGeneral Cert.MemKvRefIdeal.dot_S4x256x4096_S4096x512_S4x256x512_2_0_01_1_n_n none X (shapeCast _ W Cert.MemKvRefIdeal.Gen.shapeCasts_S1x4096x512_S4096x512)) Cert.MemKvRefIdeal.Gen.shapeCasts_S4x256x512_S1024x512

/-- Which block each window is at, at grid point `t`: row band `t` of the memory and of both results. -/
theorem place : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 2 :=
  (by decide +kernel : ∀ t : Fin grid0.N, _)

/-- A block of the memory staged at a point, read at the memory's own index. -/
theorem memory_at (c : Dev nD) (t : Fin cfg0.N) (j : S1024x512.Idx) (r : Fin 512) (k : Fin 4096) (h0 : (j 0 : ℕ) = t.val * 512 + r) :
    (show FVec Ideal S512x4096 .f32 from iblk m c 0 t) (ix2 r k)
      = (show FVec Ideal S4x256x4096 .f32 from m ((c : Thread nD τ).loc main_arg0)) (ix3 ⟨(j 0 : ℕ) / 256, by have := (j 0).isLt; show _ < 4; change (j 0 : ℕ) < 1024 at this; omega⟩ ⟨(j 0 : ℕ) % 256, Nat.mod_lt _ (by decide)⟩ k) := by
  unfold iblk
  entry_read
  blk_simp
  pointwise
  blk_ext [place t]

/-- The key block stored at a point is the wanted keys at the index it sits at. -/
theorem at_point_k (c : Dev nD) (t : Fin cfg0.N) (y : S512x512.Idx) (j : S1024x512.Idx) (h0 : (j 0 : ℕ) = t.val * 512 + y 0) (h1 : (j 1 : ℕ) = y 1) :
    k0_pay2 (iblk m c 0 t) (iblk m c 1 t) y = wanted (m ((c : Thread nD τ).loc main_arg0)) (m ((c : Thread nD τ).loc main_arg1)) j := by
  pointwise [k0_pay2, k0_pay1, wanted]
  refine Fin.sum_fin_congr fun k => congrArg₂ (fun a b : EReal => a * b) (memory_at m c t j (y 0) k h0) ?_
  blk_point [iblk, V, place t]

/-- The value block stored at a point is the wanted values at the index it sits at. -/
theorem at_point_v (c : Dev nD) (t : Fin cfg0.N) (y : S512x512.Idx) (j : S1024x512.Idx) (h0 : (j 0 : ℕ) = t.val * 512 + y 0) (h1 : (j 1 : ℕ) = y 1) :
    k0_pay3 (iblk m c 0 t) (iblk m c 2 t) y = wanted (m ((c : Thread nD τ).loc main_arg0)) (m ((c : Thread nD τ).loc main_arg2)) j := by
  pointwise [k0_pay3, k0_pay1, wanted]
  refine Fin.sum_fin_congr fun k => congrArg₂ (fun a b : EReal => a * b) (memory_at m c t j (y 0) k h0) ?_
  blk_point [iblk, V, place t]

/-- The array of keys after the run. -/
theorem result_k (c : Dev nD) : (dats m 0 c).arrAt 3 (cfgs 0).N
    = wanted (m ((c : Thread nD τ).loc main_arg0)) (m ((c : Thread nD τ).loc main_arg1)) := by
  refine (dats m 0 c).arrAt_eq_of_covers 3 _ (by decide +kernel) fun t _ y => ?_
  blk_simp
  rw [after0_3]; frame_out
  exact at_point_k m c t y _ (by blk_simp [place t]) (by blk_simp [place t])

/-- The array of values after the run. -/
theorem result_v (c : Dev nD) : (dats m 0 c).arrAt 4 (cfgs 0).N
    = wanted (m ((c : Thread nD τ).loc main_arg0)) (m ((c : Thread nD τ).loc main_arg2)) := by
  refine (dats m 0 c).arrAt_eq_of_covers 4 _ (by decide +kernel) fun t _ y => ?_
  blk_simp
  rw [after0_4]; frame_out
  exact at_point_v m c t y _ (by blk_simp [place t]) (by blk_simp [place t])

end Cert.Proof.MemKv

end
-- ==== Proof.SampleGateValue.lean ====
/-
  The decoding gate: the normalised gate values and the gated rows that the kernel leaves are the reference's.
-/
module

public import proofs.«01_k».proof.Proof.Gen.SampleGateIdeal.Value
public import proofs.«01_k».proof.Proof.Gen.SampleGateRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.SampleGate

open Cert.SampleGateIdeal Cert.SampleGateIdeal.Gen Cert.SampleGateRefIdeal.Read

variable (m : (ℓ : Loc nD τ sig) → Buf (Elt Ideal) ℓ)

/-- Each window of the launch moves one block, at the start of its array, except the second result's: that block is row block 64. -/
theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![64, 0] :=
  (by decide +kernel : ∀ t : Fin grid0.N, _)

/-- The normalised row the kernel computes from its staged blocks is the reference's. -/
theorem norm_at (c : Dev nD) (t : Fin cfg0.N) (n : Fin 128) (l : Fin 2048) :
    (k0_pay1 (iblk m c 1 t) (iblk m c 2 t) (iblk m c 3 t) (ix2 n l) : EReal) = (show EReal from val_main_v39 (F := Ideal) (m ((c : Thread nD τ).loc main_arg1)) (m ((c : Thread nD τ).loc main_arg2)) (m ((c : Thread nD τ).loc main_arg3)) (ix2 n l)) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v39, val_main_cst, val_main_cst_0, val_main_cst_1, val_main_cst_2, val_main_cst_3]
  blk_point [iblk, V, place t]

/-- The reference's gate at one element: the masked one-by-one mixing matrix leaves a single product. -/
theorem gate_ref (U : FVec Ideal S128x2048 .f32) (VB : FVec Ideal S128x2048 .f32) (g b : FVec Ideal S1x2048 .f32) (W : FVec Ideal S1x16x128x128 .f32) (B : FVec Ideal S1x16x128 .f32) (n : Fin 128) (l : Fin 2048) :
   (show EReal from val_main_v38 (F := Ideal) U VB g b W B (ix2 n l)) = U (ix2 n l) * (W (ix4 0 ⟨l / 128, by omega⟩ 0 0) * (show EReal from val_main_v39 (F := Ideal) VB g b (ix2 n l)) + B (ix3 0 ⟨l / 128, by omega⟩ 0)) := by
  pointwise [val_main_v25, val_main_v26, val_main_v27, val_main_v28, val_main_v29, val_main_v30, val_main_v31, val_main_v32, val_main_v33, val_main_v34, val_main_v35, val_main_v36, val_main_v37, val_main_v38, val_main_call0_v0, val_main_call0_v1, val_main_call0_v2, val_main_call0_v3, val_main_call0_v4, val_main_call0_v5, val_main_call0_v6, val_main_call0_c, val_main_call0_cst, val_main_v39]
  rw [Fin.sum_univ_one, mul_comm (W _)]
  rfl

/-- The gated block the kernel computes from its staged blocks is the reference's. -/
theorem gate_at (c : Dev nD) (t : Fin cfg0.N) (n : Fin 128) (l : Fin 2048) :
    (show EReal from k0_pay2 (iblk m c 1 t) (iblk m c 2 t) (iblk m c 3 t) (iblk m c 0 t) (iblk m c 4 t) (iblk m c 5 t) (ix2 n l)) = (show EReal from val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n l)) := by
  pointwise [k0_pay2, val_main_v41]
  refine Eq.trans ?_ (gate_ref _ _ _ _ _ _ n l).symm
  rw [← norm_at m c t n l]
  have hu : (show EReal from (show FVec Ideal S128x2048 .f32 from iblk m c 0 t) (ix2 n l)) = (m ((c : Thread nD τ).loc main_arg0) : S128x2048.Idx → EReal) (ix2 n l) := by
    blk_point [iblk, V, place t]
  have hw : (show EReal from (show FVec Ideal S1x2048 .f32 from iblk m c 4 t) (ix2 0 l)) = (m ((c : Thread nD τ).loc main_arg4) : S1x16x128x128.Idx → EReal) (ix4 0 ⟨l / 128, by omega⟩ 0 0) := by
    unfold iblk; entry_read; blk_simp; pointwise; blk_ext [place t]
  have hb : (show EReal from (show FVec Ideal S1x2048 .f32 from iblk m c 5 t) (ix2 0 l)) = (m ((c : Thread nD τ).loc main_arg5) : S1x16x128.Idx → EReal) (ix3 0 ⟨l / 128, by omega⟩ 0) := by
    unfold iblk; entry_read; blk_simp; pointwise; blk_ext [place t]
  exact congrArg₂ (fun a b : EReal => a * b) hu (congrArg₂ (fun a b : EReal => a + b) (congrArg (fun a : EReal => a * _) hw) hb)

/-- The first result is the reference's normalised array. -/
theorem result_v (c : Dev nD) : (dats m 0 c).arrAt 6 (cfgs 0).N
    = (val_main_v39 (F := Ideal) (m ((c : Thread nD τ).loc main_arg1)) (m ((c : Thread nD τ).loc main_arg2)) (m ((c : Thread nD τ).loc main_arg3)) : S128x2048.Idx → EReal) := by
  refine (dats m 0 c).arrAt_eq_of_covers 6 _ (by decide +kernel) fun t _ y => ?_
  blk_simp
  rw [after0_6]; unfold outsAt0; frame_out
  obtain ⟨n, l, rfl⟩ : ∃ (n : Fin 128) (l : Fin 2048), y = ix2 n l := ⟨y 0, y 1, by ext a; fin_cases a <;> rfl⟩
  refine (norm_at m c t n l).trans (congrArg (val_main_v39 (F := Ideal) _ _ _) ?_)
  blk_ext [place t]

/-- The second result is the reference's: the first 8192 rows stay as given, the other 128 are the gated block. -/
theorem result_o (c : Dev nD) : (dats m 0 c).arrAt 7 (cfgs 0).N
    = (val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S8320x2048.Idx → EReal) := by
  refine (dats m 0 c).arrAt_eq_of_coversWhere_of_agree 7 _ (fun β => 64 ≤ β 0) (by decide +kernel) (fun t hf y => ?_) (fun j hj => ?_)
  rotate_left
  · blk_simp [Pipeline.Window.cell_apply] at hj
    blk_simp
    rw [A_eq]
    entry_read
    pointwise [val_main_v42]
    rw [dif_pos (show (j 0 : ℕ) < 8192 by omega)]
    pointwise [val_main_v40]
    blk_ext
  blk_simp
  rw [after0_7]; unfold outsAt0; frame_out
  obtain ⟨n, l, rfl⟩ : ∃ (n : Fin 128) (l : Fin 2048), y = ix2 n l := ⟨y 0, y 1, by ext a; fin_cases a <;> rfl⟩
  refine (gate_at m c t n l).trans ?_
  pointwise [val_main_v42]
  blk_simp [place t]
  rw [dif_neg (by omega)]
  refine congrArg (val_main_v41 (F := Ideal) _ _ _ _ _ _) ?_
  blk_ext [place t]

end Cert.Proof.SampleGate

end
-- ==== Proof.SoftmaxMath.lean ====
/-
  The arithmetic of a softmax over the extended reals, apart from any program: sums with real coefficients, the largest of
  reals, the weighted sum with the division first or last, and the constants the programs write.
-/
module

public import Idealize.ShloMosaic.PureOps
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Softmax

open Finset

/-- A sum of reals read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative goes into a sum of extended reals. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The largest of reals, started from minus infinity, is a real. -/
theorem fold_max_real {n : Nat} (f : Fin (n + 1) → ℝ) : ∃ r : ℝ, (univ : Finset (Fin (n + 1))).fold max (⊥ : EReal) (fun k => (f k : EReal)) = r := by
  refine ⟨_, (EReal.coe_toReal (ne_of_lt ?_) (ne_of_gt ?_)).symm⟩
  · exact (Finset.fold_max_lt _).mpr ⟨bot_lt_top, fun k _ => EReal.coe_lt_top _⟩
  · exact (Finset.lt_fold_max _).mpr (Or.inr ⟨0, Finset.mem_univ _, EReal.bot_lt_coe _⟩)

/-- The larger of two reals is a real. -/
theorem max_real (a b : ℝ) : max (a : EReal) (b : EReal) = ((max a b : ℝ) : EReal) := (EReal.coe_strictMono.monotone.map_max).symm

/-- One softmax's weighted sum: the shift by `μ` cancels. -/
theorem row_eq {n : Nat} (a : Fin (n + 1) → ℝ) (μ : ℝ) (v : Fin (n + 1) → EReal) :
    ∑ j, Ideal.div (Ideal.exp ((a j : EReal) - μ)) (∑ k, Ideal.exp ((a k : EReal) - μ)) * v j
      = ∑ j, ((Real.exp (a j) / ∑ k, Real.exp (a k) : ℝ) : EReal) * v j := by
  refine Finset.sum_congr rfl fun j _ => ?_
  have hs : ∑ k, Ideal.exp ((a k : EReal) - μ) = ((∑ k, Real.exp (a k - μ) : ℝ) : EReal) := by
    rw [coe_sum]; exact Finset.sum_congr rfl fun k _ => by rw [← EReal.coe_sub, Ideal.exp_coe]
  have hp : 0 < ∑ k, Real.exp (a k - μ) := Finset.sum_pos (fun k _ => Real.exp_pos _) ⟨0, Finset.mem_univ _⟩
  rw [hs, Ideal.div_coe hp.ne', ← EReal.coe_sub, Ideal.exp_coe, ← EReal.coe_mul]
  congr 2
  have he : ∑ k, Real.exp (a k - μ) = (∑ k, Real.exp (a k)) / Real.exp μ := by
    rw [Finset.sum_div]; exact Finset.sum_congr rfl fun k _ => Real.exp_sub _ _
  have hq : 0 < ∑ k, Real.exp (a k) := Finset.sum_pos (fun k _ => Real.exp_pos _) ⟨0, Finset.mem_univ _⟩
  have hm := Real.exp_pos μ
  rw [he, Real.exp_sub]
  field_simp

/-- One softmax's weighted sum, the division last. -/
theorem quotient_eq {n : Nat} (a : Fin (n + 1) → ℝ) (μ : ℝ) (v : Fin (n + 1) → EReal) :
    Ideal.div (∑ j, Ideal.exp ((a j : EReal) - μ) * v j) (∑ k, Ideal.exp ((a k : EReal) - μ))
      = ∑ j, ((Real.exp (a j) / ∑ k, Real.exp (a k) : ℝ) : EReal) * v j := by
  rw [← row_eq a μ v]
  have hs : ∑ k, Ideal.exp ((a k : EReal) - μ) = ((∑ k, Real.exp (a k - μ) : ℝ) : EReal) := by
    rw [coe_sum]; exact Finset.sum_congr rfl fun k _ => by rw [← EReal.coe_sub, Ideal.exp_coe]
  have hp : 0 < ∑ k, Real.exp (a k - μ) := Finset.sum_pos (fun k _ => Real.exp_pos _) ⟨0, Finset.mem_univ _⟩
  rw [hs, Ideal.div_coe hp.ne', mul_comm, mul_sum _ (1 / ∑ k, Real.exp (a k - μ)) (by positivity)]
  refine Finset.sum_congr rfl fun j _ => ?_
  rw [Ideal.div_coe hp.ne', ← mul_assoc, mul_comm (_ : EReal) (Ideal.exp _)]

/-! ## Constants -/

/-- Minus infinity, as the programs write it. -/
theorem bits_bot : Ideal.ofBits .f32 0xFF800000#32 = (⊥ : EReal) := by simp [Ideal.ofBits, Ideal.ieee]

/-- Plus infinity, as the precondition writes it. -/
theorem bits_top : Ideal.ofBits .f32 0x7F800000#32 = (⊤ : EReal) := by simp [Ideal.ofBits, Ideal.ieee]

/-- The scale of the scores is a real. -/
theorem bits_scale : ∃ c : ℝ, Ideal.ofBits .f32 0x3DB504F3#32 = (c : EReal) := by
  refine ⟨11863283 * (2 ^ 27)⁻¹, ?_⟩
  simp [Ideal.ofBits, Ideal.ieee]

/-! ## Finite numbers -/

/-- An extended real whose absolute value is less than infinity is a real. -/
theorem real_of_lt (x : EReal) (h : Ideal.cmp .olt (max x (-x)) ⊤ = 1#1) : ∃ r : ℝ, x = (r : EReal) := by
  induction x using EReal.rec with
  | coe r => exact ⟨r, rfl⟩
  | bot => exact absurd h (by simp [Ideal.cmp])
  | top => exact absurd h (by simp [Ideal.cmp])

end Cert.Proof.Softmax

end
-- ==== Proof.SampleAttnMath.lean ====
/-
  The arithmetic of attending three sets of rows, apart from any program: sums of extended reals with real coefficients, and
  the softmax over all rows at once against three softmaxes weighed by their denominators.
-/
module

public import proofs.«01_k».proof.Proof.SoftmaxMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.SampleAttn

open Finset Cert.Proof.Softmax

/-- One softmax's logarithm of its denominator: the shift by `μ` cancels. -/
theorem lse_eq {n : Nat} (a : Fin (n + 1) → ℝ) (μ : ℝ) :
    (μ : EReal) + Ideal.log (∑ k, Ideal.exp ((a k : EReal) - μ)) = ((Real.log (∑ k, Real.exp (a k)) : ℝ) : EReal) := by
  have hs : ∑ k, Ideal.exp ((a k : EReal) - μ) = ((∑ k, Real.exp (a k - μ) : ℝ) : EReal) := by
    rw [coe_sum]; exact Finset.sum_congr rfl fun k _ => by rw [← EReal.coe_sub, Ideal.exp_coe]
  have hp : 0 < ∑ k, Real.exp (a k - μ) := Finset.sum_pos (fun k _ => Real.exp_pos _) ⟨0, Finset.mem_univ _⟩
  have he : ∑ k, Real.exp (a k) = Real.exp μ * ∑ k, Real.exp (a k - μ) := by
    rw [Finset.mul_sum]; exact Finset.sum_congr rfl fun k _ => by rw [← Real.exp_add]; congr 1; ring
  rw [hs, Ideal.log_coe, if_neg (not_le.mpr hp), ← EReal.coe_add, he, Real.log_mul (Real.exp_pos _).ne' hp.ne', Real.log_exp]

/-- Weighing by the logarithms of denominators is weighing by the denominators: the shift cancels again. -/
theorem weight_eq (D : Fin 3 → ℝ) (hD : ∀ d, 0 < D d) (M : ℝ) (d : Fin 3) :
    Ideal.div (Ideal.exp (((Real.log (D d) : ℝ) : EReal) - M)) (∑ k, Ideal.exp (((Real.log (D k) : ℝ) : EReal) - M)) = ((D d / ∑ k, D k : ℝ) : EReal) := by
  have hs : ∑ k, Ideal.exp (((Real.log (D k) : ℝ) : EReal) - M) = (((∑ k, D k) / Real.exp M : ℝ) : EReal) := by
    rw [Finset.sum_div, coe_sum]
    exact Finset.sum_congr rfl fun k _ => by rw [← EReal.coe_sub, Ideal.exp_coe, Real.exp_sub, Real.exp_log (hD k)]
  have hq : 0 < ∑ k, D k := Finset.sum_pos (fun k _ => hD k) ⟨0, Finset.mem_univ _⟩
  have hm := Real.exp_pos M
  rw [hs, Ideal.div_coe (div_pos hq hm).ne', ← EReal.coe_sub, Ideal.exp_coe, Real.exp_sub, Real.exp_log (hD d), ← EReal.coe_mul]
  congr 1
  field_simp

/-- Three softmaxes weighed by their denominators are one softmax over all rows. -/
theorem combined (a : Fin 3 → Fin 129 → ℝ) (μ : Fin 3 → ℝ) (M : ℝ) (v : Fin 3 → Fin 129 → EReal) :
    ∑ d, Ideal.div (Ideal.exp (((μ d : EReal) + Ideal.log (∑ k, Ideal.exp ((a d k : EReal) - μ d))) - M))
        (∑ c, Ideal.exp (((μ c : EReal) + Ideal.log (∑ k, Ideal.exp ((a c k : EReal) - μ c))) - M))
        * ∑ j, Ideal.div (Ideal.exp ((a d j : EReal) - μ d)) (∑ k, Ideal.exp ((a d k : EReal) - μ d)) * v d j
      = ∑ d, ∑ j, ((Real.exp (a d j) / ∑ c, ∑ k, Real.exp (a c k) : ℝ) : EReal) * v d j := by
  have hD : ∀ d, 0 < ∑ k, Real.exp (a d k) := fun d => Finset.sum_pos (fun k _ => Real.exp_pos _) ⟨0, Finset.mem_univ _⟩
  have hZ : 0 < ∑ c, ∑ k, Real.exp (a c k) := Finset.sum_pos (fun k _ => hD k) ⟨0, Finset.mem_univ _⟩
  refine Finset.sum_congr rfl fun d _ => ?_
  simp only [lse_eq, row_eq]
  rw [weight_eq (fun c => ∑ k, Real.exp (a c k)) hD M d, mul_sum _ _ (div_nonneg (hD d).le hZ.le)]
  refine Finset.sum_congr rfl fun j _ => ?_
  rw [← mul_assoc, ← EReal.coe_mul]
  congr 2
  have := hD d
  field_simp

/-- The kernel's quotient: one softmax over the new row counted three times and three times 128 rows of the cache. -/
theorem fused (a0 : ℝ) (b : Fin 3 → Fin 128 → ℝ) (m : ℝ) (v0 : EReal) (w : Fin 3 → Fin 128 → EReal)
    (a : Fin 3 → Fin 129 → ℝ) (v : Fin 3 → Fin 129 → EReal)
    (ha0 : ∀ d, a d 0 = a0) (ha : ∀ d (i : Fin 128), a d i.succ = b d i.rev) (hv0 : ∀ d, v d 0 = v0) (hv : ∀ d (i : Fin 128), v d i.succ = w d i.rev) :
    Ideal.div
        (((3 * Ideal.exp ((a0 : EReal) - m)) * v0 + ∑ s, Ideal.exp ((b 0 s : EReal) - m) * w 0 s
          + ∑ s, Ideal.exp ((b 1 s : EReal) - m) * w 1 s) + ∑ s, Ideal.exp ((b 2 s : EReal) - m) * w 2 s)
        (((3 * Ideal.exp ((a0 : EReal) - m)) + ∑ s, Ideal.exp ((b 0 s : EReal) - m)
          + ∑ s, Ideal.exp ((b 1 s : EReal) - m)) + ∑ s, Ideal.exp ((b 2 s : EReal) - m))
      = ∑ d, ∑ j, ((Real.exp (a d j) / ∑ c, ∑ k, Real.exp (a c k) : ℝ) : EReal) * v d j := by
  have hD : ∀ d, 0 < ∑ k, Real.exp (a d k) := fun d => Finset.sum_pos (fun k _ => Real.exp_pos _) ⟨0, Finset.mem_univ _⟩
  have hZ : 0 < ∑ c, ∑ k, Real.exp (a c k) := Finset.sum_pos (fun k _ => hD k) ⟨0, Finset.mem_univ _⟩
  have hm := Real.exp_pos m
  have hrow : ∀ d, ∑ k, Real.exp (a d k) = Real.exp a0 + ∑ s, Real.exp (b d s) := fun d => by
    rw [Fin.sum_univ_succ, ha0, ← Equiv.sum_comp Fin.revPerm (fun s => Real.exp (b d s))]
    simp only [ha, Fin.revPerm_apply]
  have hden : ((3 * Ideal.exp ((a0 : EReal) - m)) + ∑ s, Ideal.exp ((b 0 s : EReal) - m)
      + ∑ s, Ideal.exp ((b 1 s : EReal) - m)) + ∑ s, Ideal.exp ((b 2 s : EReal) - m)
      = (((∑ c, ∑ k, Real.exp (a c k)) / Real.exp m : ℝ) : EReal) := by
    have h3 : (3 : EReal) = ((3 : ℝ) : EReal) := rfl
    simp only [h3, ← EReal.coe_sub, Ideal.exp_coe, ← coe_sum, ← EReal.coe_mul, ← EReal.coe_add]
    congr 1
    rw [Fin.sum_univ_three, hrow, hrow, hrow]
    simp only [Real.exp_sub, ← Finset.sum_div]
    field_simp
    ring
  rw [hden, Ideal.div_coe (div_pos hZ hm).ne', mul_comm]
  set c : ℝ := 1 / ((∑ c, ∑ k, Real.exp (a c k)) / Real.exp m) with hc
  have hc0 : 0 ≤ c := by rw [hc]; positivity
  have hd : ∀ x y : EReal, (c : EReal) * (x + y) = c * x + c * y :=
    EReal.left_distrib_of_nonneg_of_ne_top (EReal.coe_nonneg.mpr hc0) (EReal.coe_ne_top c)
  have hw : ∀ x : ℝ, c * Real.exp (x - m) = Real.exp x / ∑ c, ∑ k, Real.exp (a c k) := fun x => by
    rw [hc, Real.exp_sub]; field_simp
  have hsum : ∀ d, (c : EReal) * ∑ s, Ideal.exp ((b d s : EReal) - m) * w d s
      = ∑ s, ((Real.exp (b d s) / ∑ c, ∑ k, Real.exp (a c k) : ℝ) : EReal) * w d s := fun d => by
    rw [mul_sum _ _ hc0]
    refine Finset.sum_congr rfl fun s _ => ?_
    rw [← mul_assoc, ← EReal.coe_sub, Ideal.exp_coe, ← EReal.coe_mul, hw]
  have hnew : (c : EReal) * ((3 * Ideal.exp ((a0 : EReal) - m)) * v0)
      = ((Real.exp a0 / ∑ c, ∑ k, Real.exp (a c k) : ℝ) : EReal) * v0
        + ((Real.exp a0 / ∑ c, ∑ k, Real.exp (a c k) : ℝ) : EReal) * v0 + ((Real.exp a0 / ∑ c, ∑ k, Real.exp (a c k) : ℝ) : EReal) * v0 := by
    have h3 : (3 : EReal) = ((3 : ℝ) : EReal) := rfl
    have hn : (0 : EReal) ≤ ((Real.exp a0 / ∑ c, ∑ k, Real.exp (a c k) : ℝ) : EReal) :=
      EReal.coe_nonneg.mpr (div_nonneg (Real.exp_pos _).le hZ.le)
    rw [← EReal.right_distrib_of_nonneg hn hn, ← EReal.right_distrib_of_nonneg (add_nonneg hn hn) hn, ← mul_assoc, h3, ← EReal.coe_sub,
      Ideal.exp_coe, ← EReal.coe_mul, ← EReal.coe_mul, ← EReal.coe_add, ← EReal.coe_add]
    congr 2
    rw [mul_left_comm, hw]
    ring
  rw [hd, hd, hd, hsum, hsum, hsum, hnew]
  have hv' : ∀ d, ∑ j, ((Real.exp (a d j) / ∑ c, ∑ k, Real.exp (a c k) : ℝ) : EReal) * v d j
      = ((Real.exp a0 / ∑ c, ∑ k, Real.exp (a c k) : ℝ) : EReal) * v0
        + ∑ s, ((Real.exp (b d s) / ∑ c, ∑ k, Real.exp (a c k) : ℝ) : EReal) * w d s := fun d => by
    rw [Fin.sum_univ_succ, ha0, hv0,
      ← Equiv.sum_comp Fin.revPerm (fun s => ((Real.exp (b d s) / ∑ c, ∑ k, Real.exp (a c k) : ℝ) : EReal) * w d s)]
    simp only [ha, hv, Fin.revPerm_apply]
  generalize (∑ c, ∑ k, Real.exp (a c k)) = Z at hv' ⊢
  rw [Fin.sum_univ_three, hv', hv', hv']
  abel

end Cert.Proof.SampleAttn

end
-- ==== Proof.SampleAttnRefValue.lean ====
/-
  What the reference's attention of the samples computes, at one element: the keys and values it gathers, the scores of one
  dilation, the three softmaxes and their combination, as one weighted sum over all attended rows.
-/
module

public import proofs.«01_k».proof.Proof.Gen.SampleAttnRefIdeal.Read
public import proofs.«01_k».proof.Proof.SampleAttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.SampleAttn

open Cert.Proof.Softmax Cert.SampleAttnRefIdeal Cert.SampleAttnRefIdeal.Gen Cert.SampleAttnRefIdeal.Read

/-! ## Constants -/

/-- Three, the number of times the new row is counted. -/
theorem bits_three : Ideal.ofBits .f32 0x40400000#32 = (3 : EReal) := by
  have h : (3 : EReal) = ((3 : ℝ) : EReal) := rfl
  rw [h]
  simp [Ideal.ofBits, Ideal.ieee, -EReal.coe_mul]
  norm_num

/-! ## The rows a dilation attends -/

/-- The three dilations. -/
def dil (d : Fin 3) : Nat := match d with
  | ⟨0, _⟩ => 1
  | ⟨1, _⟩ => 4
  | ⟨2, _⟩ => 16

/-- The `j`-th row dilation `d` attends: the new row after the 2048 of the cache, then every `dil d`-th row before it. -/
def rowOf (new : S128x16x128.Idx → EReal) (past : S128x2048x16x128.Idx → EReal) (d : Fin 3) (n : Fin 128) (j : Fin 129) (a : Fin 16) (e : Fin 128) : EReal :=
  if h : 2048 - dil d * j.val < 2048 then past (ix4 n ⟨2048 - dil d * j.val, h⟩ a e) else new (ix3 n a e)

/-- The score of the `j`-th row of dilation `d`. -/
def scoreOf (q kn : S128x16x128.Idx → EReal) (ck : S128x2048x16x128.Idx → EReal) (d : Fin 3) (n : Fin 128) (a : Fin 16) (j : Fin 129) : EReal :=
  (∑ x, q (ix3 n a x) * rowOf kn ck d n j a x) * Ideal.ofBits .f32 0x3DB504F3#32

/-! ## Gathering rows -/

/-- The dimension numbers of the reference's gathers. -/
abbrev rowDims := gather_S128x2049x16x128_S1x129x1_S128x1x129x16x128_034_1_n_n_1_2_128116128

/-- A gather of rows reads, at row `j`, the row whose index the `j`-th word is. -/
theorem gather_at (x : S128x2049x16x128.Idx → EReal) (w : IVec S1x129x1 32) (n : Fin 128) (j : Fin 129) (a : Fin 16) (e : Fin 128) :
    Host.gather rowDims x w (ix5 n 0 j a e) = x (ix4 n ⟨min (w (ix3 0 j 0)).toInt.toNat 2048, by omega⟩ a e) := by
  unfold Host.gather
  congr 1
  funext b
  refine Fin.ext ?_
  show GatherDims.start rowDims (ix5 n 0 j a e) w b + GatherDims.batchCoord rowDims (ix5 n 0 j a e) b + GatherDims.offCoord rowDims (ix5 n 0 j a e) b = _
  rw [GatherDims.batchCoord_eq_zero _ _ _ List.not_mem_nil]
  match b with
  | ⟨0, _⟩ =>
    show GatherDims.start rowDims (ix5 n 0 j a e) w (0 : Fin 4) + 0 + GatherDims.offCoord rowDims (ix5 n 0 j a e) (0 : Fin 4) = n.val
    unfold GatherDims.start GatherDims.offCoord
    rw [dif_neg (show (0 : Fin 4) ∉ rowDims.startIndexMap by decide), dif_pos (show (0 : Fin 4) ∈ rowDims.sKept by decide)]
    simp only [Nat.zero_add]
    rfl
  | ⟨1, _⟩ =>
    show GatherDims.start rowDims (ix5 n 0 j a e) w (1 : Fin 4) + 0 + GatherDims.offCoord rowDims (ix5 n 0 j a e) (1 : Fin 4) = min (w (ix3 0 j 0)).toInt.toNat 2048
    rw [GatherDims.offCoord_eq_zero _ _ _ (show (1 : Fin 4) ∉ rowDims.sKept by decide)]
    unfold GatherDims.start
    rw [dif_pos (show (1 : Fin 4) ∈ rowDims.startIndexMap by decide)]
    simp only [Nat.add_zero]
    have hsi : GatherDims.siIdx rowDims (ix5 n 0 j a e) ⟨List.idxOf (1 : Fin 4) (GatherDims.startIndexMap rowDims), by decide⟩ = ix3 0 j 0 := by
      funext b; refine Fin.ext ?_
      match b with
      | ⟨0, _⟩ => rfl
      | ⟨1, _⟩ => rfl
      | ⟨2, _⟩ => rfl
    exact congrArg (fun i => min (w i).toInt.toNat 2048) hsi
  | ⟨2, _⟩ =>
    show GatherDims.start rowDims (ix5 n 0 j a e) w (2 : Fin 4) + 0 + GatherDims.offCoord rowDims (ix5 n 0 j a e) (2 : Fin 4) = a.val
    unfold GatherDims.start GatherDims.offCoord
    rw [dif_neg (show (2 : Fin 4) ∉ rowDims.startIndexMap by decide), dif_pos (show (2 : Fin 4) ∈ rowDims.sKept by decide)]
    simp only [Nat.zero_add]
    rfl
  | ⟨3, _⟩ =>
    show GatherDims.start rowDims (ix5 n 0 j a e) w (3 : Fin 4) + 0 + GatherDims.offCoord rowDims (ix5 n 0 j a e) (3 : Fin 4) = e.val
    unfold GatherDims.start GatherDims.offCoord
    rw [dif_neg (show (3 : Fin 4) ∉ rowDims.startIndexMap by decide), dif_pos (show (3 : Fin 4) ∈ rowDims.sKept by decide)]
    simp only [Nat.zero_add]
    rfl

/-- The words of dilation `d`'s gather: row `j` is the row `dil d * j` before the new one. -/
def Words (d : Fin 3) (w : IVec S1x129x1 32) : Prop := ∀ j : Fin 129, min (w (ix3 0 j 0)).toInt.toNat 2048 = 2048 - dil d * j.val

instance (d : Fin 3) (w : IVec S1x129x1 32) : Decidable (Words d w) := inferInstanceAs (Decidable (∀ _, _))

/-- The cache followed by the new row, at a row. -/
theorem all_at (new : FVec Ideal S128x16x128 .f32) (past : FVec Ideal S128x2048x16x128 .f32) (n : Fin 128) (r : Fin 2049) (a : Fin 16) (e : Fin 128) :
    (show EReal from val_main_v1 (F := Ideal) new past (ix4 n r a e)) = if h : r.val < 2048 then past (ix4 n ⟨r.val, h⟩ a e) else new (ix3 n a e) := by
  pointwise [val_main_v1, val_main_v0]

/-- The rows dilation `d` gathers, of the cache followed by the new row. -/
def rowsBy (w : IVec S1x129x1 32) (new : FVec Ideal S128x16x128 .f32) (past : FVec Ideal S128x2048x16x128 .f32) : FVec Ideal S128x1x129x16x128 .f32 :=
  Host.gather rowDims (val_main_v1 (F := Ideal) new past) w

/-- The cache followed by the new row, at a gathered row. -/
theorem row_at (new : FVec Ideal S128x16x128 .f32) (past : FVec Ideal S128x2048x16x128 .f32) (w : IVec S1x129x1 32) (d : Fin 3) (hw : Words d w)
    (n : Fin 128) (j : Fin 129) (a : Fin 16) (e : Fin 128) :
    (show EReal from rowsBy w new past (ix5 n 0 j a e)) = rowOf new past d n j a e := by
  refine (gather_at (val_main_v1 (F := Ideal) new past) w n j a e).trans ?_
  have hr : (⟨min (w (ix3 0 j 0)).toInt.toNat 2048, by omega⟩ : Fin 2049) = ⟨2048 - dil d * j.val, by omega⟩ := Fin.ext (hw j)
  rw [hr]
  exact all_at new past n _ a e

/-! ## One dilation -/

/-- The scores of one dilation, from the mask of the rows that exist and the words of the gather. -/
def scoresBy (valid : IVec S1x129 1) (w : IVec S1x129x1 32) (q kn : FVec Ideal S128x16x128 .f32) (ck : FVec Ideal S128x2048x16x128 .f32) : FVec Ideal S128x1x16x129 .f32 :=
  select (broadcastInDim S128x1x16x129 ![0, 1, 2, 3] bcast_S1x1x1x129_S128x1x16x129_0_1_2_3 (broadcastInDim S1x1x1x129 ![1, 3] bcast_S1x129_S1x1x1x129_1_3 valid))
    (mulf (Host.dotGeneral dot_S128x1x16x128_S128x1x129x16x128_S128x1x16x129_3_4_n_2_012_013 none (φ₁ := .f32) (φ₂ := .f32) (val_main_v4 (F := Ideal) q)
      (rowsBy w kn ck)) (val_main_v34 (F := Ideal))) (val_main_call0_v2 (F := Ideal))

/-- The largest score of each head. -/
def topBy (g : FVec Ideal S128x1x16x129 .f32) : FVec Ideal S128x1x16x1 .f32 :=
  broadcastInDim S128x1x16x1 ![0, 1, 2] bcast_S128x1x16_S128x1x16x1_0_1_2
    (Host.reduce FloatOps.maximumf g (val_main_cst_8 (F := Ideal)) reducesTo_S128x1x16x129_S128x1x16_d3 h_S_)

/-- The exponentials of the scores, shifted. -/
def expBy (g : FVec Ideal S128x1x16x129 .f32) : FVec Ideal S128x1x16x129 .f32 :=
  Host.exp (subf g (broadcastInDim S128x1x16x129 ![0, 1, 2, 3] bcast_S128x1x16x1_S128x1x16x129_0_1_2_3 (topBy g)))

/-- The denominators. -/
def denBy (g : FVec Ideal S128x1x16x129 .f32) : FVec Ideal S128x1x16x1 .f32 :=
  broadcastInDim S128x1x16x1 ![0, 1, 2] bcast_S128x1x16_S128x1x16x1_0_1_2
    (Host.reduceAdd (expBy g) (val_main_cst_9 (F := Ideal)) reducesTo_S128x1x16x129_S128x1x16_d3 h_S_)

/-- The logarithms of the denominators. -/
def lseBy (g : FVec Ideal S128x1x16x129 .f32) : FVec Ideal S128x1x16 .f32 :=
  shapeCast _ (addf (topBy g) (Host.log (denBy g))) shapeCasts_S128x1x16x1_S128x1x16

/-- The softmax's weighted sum of the gathered values. -/
def outBy (g : FVec Ideal S128x1x16x129 .f32) (w : IVec S1x129x1 32) (vn : FVec Ideal S128x16x128 .f32) (cv : FVec Ideal S128x2048x16x128 .f32) : FVec Ideal S128x1x16x128 .f32 :=
  Host.dotGeneral dot_S128x1x16x129_S128x1x129x16x128_S128x1x16x128_3_2_n_4_012_013 none
    (Host.divf (expBy g) (broadcastInDim S128x1x16x129 ![0, 1, 2, 3] bcast_S128x1x16x1_S128x1x16x129_0_1_2_3 (denBy g)))
    (rowsBy w vn cv)

/-- A score where every row exists. -/
theorem scores_at (valid : IVec S1x129 1) (w : IVec S1x129x1 32) (q kn : FVec Ideal S128x16x128 .f32) (ck : FVec Ideal S128x2048x16x128 .f32) (d : Fin 3)
    (hv : ∀ j : Fin 129, valid (ix2 0 j) = 1#1) (hw : Words d w) (n : Fin 128) (a : Fin 16) (j : Fin 129) :
    (show EReal from scoresBy valid w q kn ck (ix4 n 0 a j)) = scoreOf q kn ck d n a j := by
  have hk := fun x : Fin 128 => row_at kn ck w d hw n j a x
  unfold scoresBy scoreOf
  simp only [← hk]
  generalize rowsBy w kn ck = g
  pointwise [val_main_v34, val_main_v4, val_main_cst]
  rw [hv]
  rfl

/-- A head's largest score is a real where its scores are. -/
theorem top_at (g : FVec Ideal S128x1x16x129 .f32) (n : Fin 128) (a : Fin 16) (r : Fin 129 → ℝ)
    (hg : ∀ j, (show EReal from g (ix4 n 0 a j)) = (r j : EReal)) : ∃ μ : ℝ, (show EReal from topBy g (ix4 n 0 a 0)) = (μ : EReal) := by
  obtain ⟨μ, hμ⟩ := fold_max_real r
  refine ⟨μ, Eq.trans ?_ hμ⟩
  pointwise [topBy, val_main_cst_8]
  rw [bits_bot]
  simp only [← hg]

/-- The logarithm of a head's denominator. -/
theorem lse_at (g : FVec Ideal S128x1x16x129 .f32) (n : Fin 128) (a : Fin 16) :
    (show EReal from lseBy g (ix3 n 0 a)) = (show EReal from topBy g (ix4 n 0 a 0))
      + Ideal.log (∑ k : Fin 129, Ideal.exp ((show EReal from g (ix4 n 0 a k)) - (show EReal from topBy g (ix4 n 0 a 0)))) := by
  unfold lseBy denBy expBy
  generalize topBy g = t
  pointwise [val_main_cst_9]

/-- A head's weighted sum of the values. -/
theorem out_at (g : FVec Ideal S128x1x16x129 .f32) (w : IVec S1x129x1 32) (vn : FVec Ideal S128x16x128 .f32) (cv : FVec Ideal S128x2048x16x128 .f32)
    (d : Fin 3) (hw : Words d w) (n : Fin 128) (a : Fin 16) (e : Fin 128) :
    (show EReal from outBy g w vn cv (ix4 n 0 a e))
      = ∑ j : Fin 129, Ideal.div (Ideal.exp ((show EReal from g (ix4 n 0 a j)) - (show EReal from topBy g (ix4 n 0 a 0))))
          (∑ k : Fin 129, Ideal.exp ((show EReal from g (ix4 n 0 a k)) - (show EReal from topBy g (ix4 n 0 a 0)))) * rowOf vn cv d n j a e := by
  have hv := fun x : Fin 129 => row_at vn cv w d hw n x a e
  simp only [← hv]
  unfold outBy denBy expBy
  generalize topBy g = t
  generalize rowsBy w vn cv = v
  pointwise [val_main_cst_9]

/-! ## The three dilations together -/

/-- One of three, by the position a concatenation along an axis of one each finds it at. -/
theorem pick {α : Type} (p q r : α) (x : Fin 3) : (if x.val < 1 then p else if x.val - 1 < 1 then q else r) = ![p, q, r] x := by
  match x with
  | ⟨0, _⟩ => rfl
  | ⟨1, _⟩ => rfl
  | ⟨2, _⟩ => rfl

section
variable (q kn vn : FVec Ideal S128x16x128 .f32) (ck cv : FVec Ideal S128x2048x16x128 .f32)

/-- The mask of dilation `d`. -/
def validOf (d : Fin 3) : IVec S1x129 1 := match d with
  | ⟨0, _⟩ => val_main_v16 (F := Ideal)
  | ⟨1, _⟩ => val_main_v63 (F := Ideal)
  | ⟨2, _⟩ => val_main_v110 (F := Ideal)

/-- The words of dilation `d`. -/
def wordsOf (d : Fin 3) : IVec S1x129x1 32 := match d with
  | ⟨0, _⟩ => val_main_v24 (F := Ideal)
  | ⟨1, _⟩ => val_main_v71 (F := Ideal)
  | ⟨2, _⟩ => val_main_v118 (F := Ideal)

/-- Every row of every dilation exists. -/
theorem valid_all : ∀ d : Fin 3, ∀ j : Fin 129, validOf d (ix2 0 j) = 1#1 := by decide +kernel

/-- The words are those of the dilations. -/
theorem words_all : ∀ d : Fin 3, Words d (wordsOf d) := by decide +kernel

/-- The scores of dilation 1. -/
theorem score_stage_1 : val_main_v37 (F := Ideal) q kn ck = scoresBy (validOf 0) (wordsOf 0) q kn ck := rfl

/-- The logarithms of the denominators of dilation 1. -/
theorem lse_stage_1 : val_main_v50 (F := Ideal) q kn ck = lseBy (scoresBy (validOf 0) (wordsOf 0) q kn ck) := by
  rw [← score_stage_1]
  rfl

/-- The weighted sums of dilation 1. -/
theorem out_stage_1 : val_main_v47 (F := Ideal) q kn vn ck cv = outBy (scoresBy (validOf 0) (wordsOf 0) q kn ck) (wordsOf 0) vn cv := by
  rw [← score_stage_1]
  rfl

/-- The scores of dilation 4. -/
theorem score_stage_4 : val_main_v84 (F := Ideal) q kn ck = scoresBy (validOf 1) (wordsOf 1) q kn ck := rfl

/-- The logarithms of the denominators of dilation 4. -/
theorem lse_stage_4 : val_main_v97 (F := Ideal) q kn ck = lseBy (scoresBy (validOf 1) (wordsOf 1) q kn ck) := by
  rw [← score_stage_4]
  rfl

/-- The weighted sums of dilation 4. -/
theorem out_stage_4 : val_main_v94 (F := Ideal) q kn vn ck cv = outBy (scoresBy (validOf 1) (wordsOf 1) q kn ck) (wordsOf 1) vn cv := by
  rw [← score_stage_4]
  rfl

/-- The scores of dilation 16. -/
theorem score_stage_16 : val_main_v131 (F := Ideal) q kn ck = scoresBy (validOf 2) (wordsOf 2) q kn ck := rfl

/-- The logarithms of the denominators of dilation 16. -/
theorem lse_stage_16 : val_main_v144 (F := Ideal) q kn ck = lseBy (scoresBy (validOf 2) (wordsOf 2) q kn ck) := by
  rw [← score_stage_16]
  rfl

/-- The weighted sums of dilation 16. -/
theorem out_stage_16 : val_main_v141 (F := Ideal) q kn vn ck cv = outBy (scoresBy (validOf 2) (wordsOf 2) q kn ck) (wordsOf 2) vn cv := by
  rw [← score_stage_16]
  rfl

/-- The reference's result from the three dilations' logarithms `L` and sums `O`. -/
theorem combine_at (n : Fin 128) (a : Fin 16) (e : Fin 128) (L O : Fin 3 → EReal)
    (hL : ∀ x, (show EReal from lseBy (scoresBy (validOf x) (wordsOf x) q kn ck) (ix3 n 0 a)) = L x)
    (hO : ∀ x, (show EReal from outBy (scoresBy (validOf x) (wordsOf x) q kn ck) (wordsOf x) vn cv (ix4 n 0 a e)) = O x) :
    (show EReal from val_main_v168 (F := Ideal) q kn vn ck cv (ix3 n a e))
      = ∑ x, Ideal.div (Ideal.exp (L x - max ⊥ (Finset.univ.fold max ⊥ L))) (∑ c, Ideal.exp (L c - max ⊥ (Finset.univ.fold max ⊥ L))) * O x := by
  have e1 := out_stage_1 q kn vn ck cv
  have e4 := out_stage_4 q kn vn ck cv
  have e16 := out_stage_16 q kn vn ck cv
  have f1 := lse_stage_1 q kn ck
  have f4 := lse_stage_4 q kn ck
  have f16 := lse_stage_16 q kn ck
  unfold val_main_v168 val_main_v167 val_main_v166 val_main_v148 val_main_v145 val_main_v146 val_main_v147
  rw [e1, e4, e16]
  unfold val_main_v165 val_main_v164 val_main_v163 val_main_v162 val_main_v161 val_main_v160 val_main_v159 val_main_v158 val_main_v157 val_main_v156 val_main_v155 val_main_v153 val_main_v152 val_main_v149 val_main_v150 val_main_v151
  rw [f1, f4, f16]
  generalize hl0 : lseBy (scoresBy (validOf 0) (wordsOf 0) q kn ck) = l0
  generalize ho0 : outBy (scoresBy (validOf 0) (wordsOf 0) q kn ck) (wordsOf 0) vn cv = o0
  generalize hl1 : lseBy (scoresBy (validOf 1) (wordsOf 1) q kn ck) = l1
  generalize ho1 : outBy (scoresBy (validOf 1) (wordsOf 1) q kn ck) (wordsOf 1) vn cv = o1
  generalize hl2 : lseBy (scoresBy (validOf 2) (wordsOf 2) q kn ck) = l2
  generalize ho2 : outBy (scoresBy (validOf 2) (wordsOf 2) q kn ck) (wordsOf 2) vn cv = o2
  have pl : ![(show EReal from l0 (ix3 n 0 a)), l1 (ix3 n 0 a), l2 (ix3 n 0 a)] = L := by
    funext x
    match x with
    | ⟨0, _⟩ => exact (congrArg (fun l => (show EReal from l (ix3 n 0 a))) hl0).symm.trans (hL 0)
    | ⟨1, _⟩ => exact (congrArg (fun l => (show EReal from l (ix3 n 0 a))) hl1).symm.trans (hL 1)
    | ⟨2, _⟩ => exact (congrArg (fun l => (show EReal from l (ix3 n 0 a))) hl2).symm.trans (hL 2)
  have po : ![(show EReal from o0 (ix4 n 0 a e)), o1 (ix4 n 0 a e), o2 (ix4 n 0 a e)] = O := by
    funext x
    match x with
    | ⟨0, _⟩ => exact (congrArg (fun o => (show EReal from o (ix4 n 0 a e))) ho0).symm.trans (hO 0)
    | ⟨1, _⟩ => exact (congrArg (fun o => (show EReal from o (ix4 n 0 a e))) ho1).symm.trans (hO 1)
    | ⟨2, _⟩ => exact (congrArg (fun o => (show EReal from o (ix4 n 0 a e))) ho2).symm.trans (hO 2)
  rw [← pl, ← po, ← bits_bot]
  pointwise [val_main_v154, val_main_cst_34, val_main_cst_35, val_main_cst_36, val_main_cst_37]
  simp only [dite_eq_ite, pick]

/-- The reference's result where the scores are reals: one softmax's weighted sum over all attended rows. -/
theorem ref_value (n : Fin 128) (a : Fin 16) (e : Fin 128) (r : Fin 3 → Fin 129 → ℝ) (hr : ∀ d j, scoreOf q kn ck d n a j = (r d j : EReal)) :
    (show EReal from val_main_v168 (F := Ideal) q kn vn ck cv (ix3 n a e))
      = ∑ d, ∑ j, ((Real.exp (r d j) / ∑ c, ∑ k, Real.exp (r c k) : ℝ) : EReal) * rowOf vn cv d n j a e := by
  have hg : ∀ d j, (show EReal from scoresBy (validOf d) (wordsOf d) q kn ck (ix4 n 0 a j)) = (r d j : EReal) := fun d j =>
    (scores_at (validOf d) (wordsOf d) q kn ck d (valid_all d) (words_all d) n a j).trans (hr d j)
  choose μ hμ using fun d => top_at (scoresBy (validOf d) (wordsOf d) q kn ck) n a (r d) (hg d)
  have hL := fun d => lse_at (scoresBy (validOf d) (wordsOf d) q kn ck) n a
  have hO := fun d => out_at (scoresBy (validOf d) (wordsOf d) q kn ck) (wordsOf d) vn cv d (words_all d) n a e
  simp only [hg, hμ] at hL hO
  rw [combine_at q kn vn ck cv n a e _ _ hL hO]
  obtain ⟨M, hM⟩ : ∃ M : ℝ, max (⊥ : EReal) (Finset.univ.fold max ⊥ fun d => (μ d : EReal) + Ideal.log (∑ k, Ideal.exp ((r d k : EReal) - μ d))) = M := by
    simp only [lse_eq]
    obtain ⟨M, hM⟩ := fold_max_real fun d : Fin 3 => Real.log (∑ k, Real.exp (r d k))
    exact ⟨M, by rw [hM, bot_sup_eq]⟩
  rw [hM]
  exact combined r μ M fun d j => rowOf vn cv d n j a e
end

end Cert.Proof.SampleAttn

end
-- ==== Proof.SampleAttnKernelValue.lean ====
/-
  What the kernel's attention of the samples computes, at one element: the rows of the cache its blocks hold, the scores, and
  the quotient of the two accumulated sums.
-/
module

public import proofs.«01_k».proof.Proof.Gen.SampleAttnIdeal.Frame
public import proofs.«01_k».proof.Proof.Gen.SampleAttnIdeal.Value
public import proofs.«01_k».proof.Proof.SampleAttnMath
public import proofs.«01_k».proof.Proof.SampleAttnRefValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.SampleAttn

open Cert.Proof.Softmax Cert.SampleAttnIdeal Cert.SampleAttnIdeal.Gen

/-! ## One sample -/

/-- The position of row `s`, head `a`, lane `e` of sample `b` in a block of `k` samples of the cache's view. -/
abbrev at6 {k : Nat} (b : Fin k) (s : Fin 128) (a : Fin 16) (e : Fin 128) : (⟨6, ![k, 1, 128, 1, 16, 128]⟩ : Shape).Idx :=
  Fin.cons b (ix5 0 s 0 a e : (⟨5, ![1, 128, 1, 16, 128]⟩ : Shape).Idx)

/-- The rows of one sample, without the axes of one. -/
theorem cast6 (v : S1x1x128x1x16x128.Idx → EReal) (h : S1x1x128x1x16x128.ShapeCasts S128x16x128) (s : Fin 128) (a : Fin 16) (e : Fin 128) :
    shapeCast S128x16x128 v h (ix3 s a e) = v (at6 0 s a e) := by
  refine shapeCast_apply v h _ _ ?_
  rw [Shape.rowMajor_val_succ, Shape.rowMajor_val_three]
  show 0 * _ + ((⟨5, ![1, 128, 1, 16, 128]⟩ : Shape).rowMajor (ix5 0 s 0 a e)).val = _
  rw [Shape.rowMajor_val_five]
  show 0 * _ + ((((0 * 128 + s.val) * 1 + 0) * 16 + a.val) * 128 + e.val) = (s.val * 16 + a.val) * 128 + e.val
  omega

/-- The score of the new row. -/
theorem score_new (q kn : FVec Ideal S1x16x128 .f32) (a : Fin 16) :
    (show EReal from k0_pay3 (F := Ideal) q kn (ix2 a 0)) = ∑ x, q (ix3 0 a x) * Ideal.ofBits .f32 0x3DB504F3#32 * kn (ix3 0 a x) := by
  pointwise [k0_pay3, k0_pay2]

/-- The score of a row of the cache. -/
theorem score_row (q : FVec Ideal S1x16x128 .f32) (k : FVec Ideal S1x1x128x1x16x128 .f32) (s : Fin 128) (a : Fin 16) :
    (show EReal from k0_pay4 (F := Ideal) q k (ix3 s a 0)) = ∑ x, k (at6 0 s a x) * (q (ix3 0 a x) * Ideal.ofBits .f32 0x3DB504F3#32) := by
  have hk := fun x : Fin 128 => cast6 k shapeCasts_S1x1x128x1x16x128_S128x16x128 s a x
  simp only [← hk]
  unfold k0_pay4
  generalize shapeCast S128x16x128 k _ = w
  pointwise [k0_pay2]

/-- What the kernel computes for one sample, from its query, its new key and value, and the three blocks of its keys and values. -/
def sample (q kn vn : FVec Ideal S1x16x128 .f32) (k1 k4 k16 v1 v4 v16 : FVec Ideal S1x1x128x1x16x128 .f32) : FVec Ideal S1x16x128 .f32 :=
  k0_pay14 (F := Ideal) (k0_pay6 (F := Ideal) q k16) (k0_pay7 (F := Ideal) (k0_pay3 (F := Ideal) q kn) (k0_pay4 (F := Ideal) q k1) (k0_pay5 (F := Ideal) q k4) (k0_pay6 (F := Ideal) q k16))
    (k0_pay10 (F := Ideal) (k0_pay3 (F := Ideal) q kn) (k0_pay4 (F := Ideal) q k1) (k0_pay5 (F := Ideal) q k4) (k0_pay6 (F := Ideal) q k16) vn v1)
    (k0_pay12 (F := Ideal) (k0_pay3 (F := Ideal) q kn) (k0_pay4 (F := Ideal) q k1) (k0_pay5 (F := Ideal) q k4) (k0_pay6 (F := Ideal) q k16))
    (k0_pay13 (F := Ideal) (k0_pay3 (F := Ideal) q kn) (k0_pay4 (F := Ideal) q k1) (k0_pay5 (F := Ideal) q k4) (k0_pay6 (F := Ideal) q k16) v4) v16

/-- The second sample of a block is computed as the first. -/
theorem second (q kn vn : FVec Ideal S1x16x128 .f32) (k1 k4 k16 v1 v4 v16 : FVec Ideal S1x1x128x1x16x128 .f32) :
    k0_pay1 (F := Ideal) (k0_pay26 (F := Ideal) (k0_pay19 (F := Ideal) (k0_pay15 (F := Ideal) q) k4) (k0_pay20 (F := Ideal) (k0_pay15 (F := Ideal) q) k16)
      (k0_pay21 (F := Ideal) (k0_pay15 (F := Ideal) q) (k0_pay16 (F := Ideal) q kn) (k0_pay17 (F := Ideal) q k1) k4 k16)
      (k0_pay23 (F := Ideal) (k0_pay15 (F := Ideal) q) (k0_pay16 (F := Ideal) q kn) (k0_pay17 (F := Ideal) q k1) k4 k16 vn)
      (k0_pay24 (F := Ideal) (k0_pay15 (F := Ideal) q) (k0_pay16 (F := Ideal) q kn) (k0_pay17 (F := Ideal) q k1) k4 k16)
      (k0_pay25 (F := Ideal) (k0_pay15 (F := Ideal) q) (k0_pay16 (F := Ideal) q kn) (k0_pay17 (F := Ideal) q k1) k4 k16) v1 v4 v16)
      = sample q kn vn k1 k4 k16 v1 v4 v16 := by
  rfl

/-- One sample's result where its scores are reals: the weighted sum over the quotient of sums. -/
theorem sample_at (q kn vn : FVec Ideal S1x16x128 .f32) (k1 k4 k16 v1 v4 v16 : FVec Ideal S1x1x128x1x16x128 .f32) (a : Fin 16) (e : Fin 128)
    (r0 : ℝ) (b : Fin 3 → Fin 128 → ℝ)
    (h0 : ∑ x, q (ix3 0 a x) * Ideal.ofBits .f32 0x3DB504F3#32 * kn (ix3 0 a x) = (r0 : EReal))
    (h1 : ∀ s, ∑ x, k1 (at6 0 s a x) * (q (ix3 0 a x) * Ideal.ofBits .f32 0x3DB504F3#32) = (b 0 s : EReal))
    (h4 : ∀ s, ∑ x, k4 (at6 0 s a x) * (q (ix3 0 a x) * Ideal.ofBits .f32 0x3DB504F3#32) = (b 1 s : EReal))
    (h16 : ∀ s, ∑ x, k16 (at6 0 s a x) * (q (ix3 0 a x) * Ideal.ofBits .f32 0x3DB504F3#32) = (b 2 s : EReal)) :
    ∃ μ : ℝ, (show EReal from sample q kn vn k1 k4 k16 v1 v4 v16 (ix3 0 a e))
      = Ideal.div
          (((3 * Ideal.exp ((r0 : EReal) - μ)) * vn (ix3 0 a e) + ∑ s, Ideal.exp ((b 0 s : EReal) - μ) * v1 (at6 0 s a e)
            + ∑ s, Ideal.exp ((b 1 s : EReal) - μ) * v4 (at6 0 s a e)) + ∑ s, Ideal.exp ((b 2 s : EReal) - μ) * v16 (at6 0 s a e))
          (((3 * Ideal.exp ((r0 : EReal) - μ)) + ∑ s, Ideal.exp ((b 0 s : EReal) - μ)
            + ∑ s, Ideal.exp ((b 1 s : EReal) - μ)) + ∑ s, Ideal.exp ((b 2 s : EReal) - μ)) := by
  have g0 := (score_new q kn a).trans h0
  have g1 := fun s => (score_row q k1 s a).trans (h1 s)
  have g4 := fun s => (show (show EReal from k0_pay5 (F := Ideal) q k4 (ix3 s a 0)) = _ from score_row q k4 s a).trans (h4 s)
  have g16 := fun s => (show (show EReal from k0_pay6 (F := Ideal) q k16 (ix3 s a 0)) = _ from score_row q k16 s a).trans (h16 s)
  have c1 := fun s : Fin 128 => cast6 v1 shapeCasts_S1x1x128x1x16x128_S128x16x128 s a e
  have c4 := fun s : Fin 128 => cast6 v4 shapeCasts_S1x1x128x1x16x128_S128x16x128 s a e
  have c16 := fun s : Fin 128 => cast6 v16 shapeCasts_S1x1x128x1x16x128_S128x16x128 s a e
  unfold sample
  generalize k0_pay3 (F := Ideal) q kn = s0 at g0 ⊢
  generalize k0_pay4 (F := Ideal) q k1 = s1 at g1 ⊢
  generalize k0_pay5 (F := Ideal) q k4 = s4 at g4 ⊢
  generalize k0_pay6 (F := Ideal) q k16 = s16 at g16 ⊢
  have hm : (show EReal from k0_pay7 (F := Ideal) s0 s1 s4 s16 (ix2 a 0))
      = max (max (max (r0 : EReal) (Finset.univ.fold max ⊥ fun s => (b 0 s : EReal))) (Finset.univ.fold max ⊥ fun s => (b 1 s : EReal)))
          (Finset.univ.fold max ⊥ fun s => (b 2 s : EReal)) := by
    rw [← bits_bot, ← g0]
    simp only [← g1, ← g4, ← g16]
    pointwise [k0_pay7]
  choose μ hμ using fun d => fold_max_real (b d)
  rw [hμ 0, hμ 1, hμ 2, max_real, max_real, max_real] at hm
  refine ⟨max (max (max r0 (μ 0)) (μ 1)) (μ 2), ?_⟩
  rw [← hm]
  simp only [← g0, ← g1, ← g4, ← g16, ← c1, ← c4, ← c16, ← bits_three]
  unfold k0_pay14 k0_pay10 k0_pay12 k0_pay13
  generalize shapeCast S128x16x128 v1 _ = w1
  generalize shapeCast S128x16x128 v4 _ = w4
  generalize shapeCast S128x16x128 v16 _ = w16
  pointwise [k0_pay7, k0_pay8, k0_pay9, k0_pay11]

/-! ## The blocks -/

/-- The row of the cache the `s`-th row of dilation `d`'s block is. -/
def rowIx (d : Fin 3) (s : Fin 128) : Fin 2048 := ⟨2048 - dil d * (128 - s.val), by
  match d with
  | ⟨0, _⟩ => show 2048 - 1 * (128 - s.val) < 2048; omega
  | ⟨1, _⟩ => show 2048 - 4 * (128 - s.val) < 2048; omega
  | ⟨2, _⟩ => show 2048 - 16 * (128 - s.val) < 2048; omega⟩

theorem rowIx_1 (s : Fin 128) : (rowIx 0 s).val = ((15 : Fin 16).val * 128 + s.val) * 1 := by show 2048 - 1 * (128 - s.val) = (15 * 128 + s.val) * 1; omega
theorem rowIx_4 (s : Fin 128) : (rowIx 1 s).val = ((3 : Fin 4).val * 128 + s.val) * 4 := by show 2048 - 4 * (128 - s.val) = (3 * 128 + s.val) * 4; omega
theorem rowIx_16 (s : Fin 128) : (rowIx 2 s).val = ((0 : Fin 1).val * 128 + s.val) * 16 := by show 2048 - 16 * (128 - s.val) = (0 * 128 + s.val) * 16; omega

variable (m : (ℓ : Loc nD τ sig) → Buf (Elt Ideal) ℓ)

/-- Where each window's block of a grid point lies. -/
theorem place : ∀ t : Fin cfg0.N, win0_0.index t = ![t.val, 0, 0] ∧ win0_1.index t = ![t.val, 0, 0] ∧ win0_2.index t = ![t.val, 0, 0]
    ∧ win0_3.index t = ![t.val, 15, 0, 0, 0, 0] ∧ win0_4.index t = ![t.val, 3, 0, 0, 0, 0] ∧ win0_5.index t = ![t.val, 0, 0, 0, 0, 0]
    ∧ win0_6.index t = ![t.val, 15, 0, 0, 0, 0] ∧ win0_7.index t = ![t.val, 3, 0, 0, 0, 0] ∧ win0_8.index t = ![t.val, 0, 0, 0, 0, 0]
    ∧ win0_9.index t = ![t.val, 0, 0] :=
  (by decide +kernel : ∀ t : Fin grid0.N, _)

/-- The sample the block of grid point `t` holds at row `b`. -/
def at' (t : Fin cfg0.N) (b : Fin 2) : Fin 128 :=
  ⟨2 * t.val + b.val, by have h : t.val < 64 := lt_of_lt_of_eq t.isLt (by decide +kernel); omega⟩

/-- A view of the cache that splits its rows into `B` times 128 times `D` reads row `(β * 128 + s) * D` at block `β`, row `s`. -/
theorem view_at {B D : Nat} (x : S128x2048x16x128.Idx → EReal) (h : S128x2048x16x128.ShapeCasts ⟨6, ![128, B, 128, D, 16, 128]⟩)
    (hn : (⟨5, ![B, 128, D, 16, 128]⟩ : Shape).numel = 4194304) (n : Fin 128) (β : Fin B) (s : Fin 128) (z : Fin D) (hz : z.val = 0) (a : Fin 16) (e : Fin 128)
    (r : Fin 2048) (hr : r.val = (β.val * 128 + s.val) * D) :
    shapeCast ⟨6, ![128, B, 128, D, 16, 128]⟩ x h (Fin.cons n (ix5 β s z a e : (⟨5, ![B, 128, D, 16, 128]⟩ : Shape).Idx)) = x (ix4 n r a e) := by
  refine shapeCast_apply x h _ _ ?_
  rw [Shape.rowMajor_val_four, Shape.rowMajor_val_succ]
  show ((n.val * 2048 + r.val) * 16 + a.val) * 128 + e.val
    = n.val * (⟨5, ![B, 128, D, 16, 128]⟩ : Shape).numel + ((⟨5, ![B, 128, D, 16, 128]⟩ : Shape).rowMajor (ix5 β s z a e)).val
  rw [Shape.rowMajor_val_five, hn]
  show ((n.val * 2048 + r.val) * 16 + a.val) * 128 + e.val
    = n.val * 4194304 + ((((β.val * 128 + s.val) * D + z.val) * 16 + a.val) * 128 + e.val)
  rw [← hr, hz]
  omega

/-- The query of a block's sample. -/
theorem blk_q (c : Dev nD) (t : Fin cfg0.N) (b : Fin 2) (a : Fin 16) (e : Fin 128) :
    (show EReal from (show FVec Ideal S2x16x128 .f32 from iblk m c 0 t) (ix3 b a e)) = (m ((c : Thread nD τ).loc main_arg0) : S128x16x128.Idx → EReal) (ix3 (at' t b) a e) := by
  unfold at'
  blk_point [iblk, V, place t]

/-- The new key of a block's sample. -/
theorem blk_new_k (c : Dev nD) (t : Fin cfg0.N) (b : Fin 2) (a : Fin 16) (e : Fin 128) :
    (show EReal from (show FVec Ideal S2x16x128 .f32 from iblk m c 1 t) (ix3 b a e)) = (m ((c : Thread nD τ).loc main_arg1) : S128x16x128.Idx → EReal) (ix3 (at' t b) a e) := by
  unfold at'
  blk_point [iblk, V, place t]

/-- The new value of a block's sample. -/
theorem blk_new_v (c : Dev nD) (t : Fin cfg0.N) (b : Fin 2) (a : Fin 16) (e : Fin 128) :
    (show EReal from (show FVec Ideal S2x16x128 .f32 from iblk m c 2 t) (ix3 b a e)) = (m ((c : Thread nD τ).loc main_arg2) : S128x16x128.Idx → EReal) (ix3 (at' t b) a e) := by
  unfold at'
  blk_point [iblk, V, place t]

/-- The keys of dilation 1 of a block's sample. -/
theorem blk_k1 (c : Dev nD) (t : Fin cfg0.N) (b : Fin 2) (s : Fin 128) (a : Fin 16) (e : Fin 128) :
    (show EReal from (show FVec Ideal S2x1x128x1x16x128 .f32 from iblk m c 3 t) (at6 b s a e)) = (m ((c : Thread nD τ).loc main_arg3) : S128x2048x16x128.Idx → EReal) (ix4 (at' t b) (rowIx 0 s) a e) := by
  unfold iblk; entry_read; blk_simp
  have hi : ((win0_3.blk t).view.emb (at6 b s a e) : S128x16x128x1x16x128.Idx)
      = Fin.cons (at' t b) (ix5 (15 : Fin 16) s (0 : Fin 1) a e : (⟨5, ![16, 128, 1, 16, 128]⟩ : Shape).Idx) := by
    unfold at' at6
    blk_ext [place t]
    all_goals first | rfl | (show t.val * 2 + b.val = 2 * t.val + b.val; omega) | (show t.val * 2 + 1 * b.val = 2 * t.val + b.val; omega)
  exact (congrArg _ hi).trans (view_at (B := 16) (D := 1) _ _ (by decide +kernel) _ _ _ _ rfl _ _ _ (rowIx_1 s))

/-- The keys of dilation 4 of a block's sample. -/
theorem blk_k4 (c : Dev nD) (t : Fin cfg0.N) (b : Fin 2) (s : Fin 128) (a : Fin 16) (e : Fin 128) :
    (show EReal from (show FVec Ideal S2x1x128x1x16x128 .f32 from iblk m c 4 t) (at6 b s a e)) = (m ((c : Thread nD τ).loc main_arg3) : S128x2048x16x128.Idx → EReal) (ix4 (at' t b) (rowIx 1 s) a e) := by
  unfold iblk; entry_read; blk_simp
  have hi : ((win0_4.blk t).view.emb (at6 b s a e) : S128x4x128x4x16x128.Idx)
      = Fin.cons (at' t b) (ix5 (3 : Fin 4) s (0 : Fin 4) a e : (⟨5, ![4, 128, 4, 16, 128]⟩ : Shape).Idx) := by
    unfold at' at6
    blk_ext [place t]
    all_goals first | rfl | (show t.val * 2 + b.val = 2 * t.val + b.val; omega) | (show t.val * 2 + 1 * b.val = 2 * t.val + b.val; omega)
  exact (congrArg _ hi).trans (view_at (B := 4) (D := 4) _ _ (by decide +kernel) _ _ _ _ rfl _ _ _ (rowIx_4 s))

/-- The keys of dilation 16 of a block's sample. -/
theorem blk_k16 (c : Dev nD) (t : Fin cfg0.N) (b : Fin 2) (s : Fin 128) (a : Fin 16) (e : Fin 128) :
    (show EReal from (show FVec Ideal S2x1x128x1x16x128 .f32 from iblk m c 5 t) (at6 b s a e)) = (m ((c : Thread nD τ).loc main_arg3) : S128x2048x16x128.Idx → EReal) (ix4 (at' t b) (rowIx 2 s) a e) := by
  unfold iblk; entry_read; blk_simp
  have hi : ((win0_5.blk t).view.emb (at6 b s a e) : S128x1x128x16x16x128.Idx)
      = Fin.cons (at' t b) (ix5 (0 : Fin 1) s (0 : Fin 16) a e : (⟨5, ![1, 128, 16, 16, 128]⟩ : Shape).Idx) := by
    unfold at' at6
    blk_ext [place t]
    all_goals first | rfl | (show t.val * 2 + b.val = 2 * t.val + b.val; omega) | (show t.val * 2 + 1 * b.val = 2 * t.val + b.val; omega)
  exact (congrArg _ hi).trans (view_at (B := 1) (D := 16) _ _ (by decide +kernel) _ _ _ _ rfl _ _ _ (rowIx_16 s))

/-- The values of dilation 1 of a block's sample. -/
theorem blk_v1 (c : Dev nD) (t : Fin cfg0.N) (b : Fin 2) (s : Fin 128) (a : Fin 16) (e : Fin 128) :
    (show EReal from (show FVec Ideal S2x1x128x1x16x128 .f32 from iblk m c 6 t) (at6 b s a e)) = (m ((c : Thread nD τ).loc main_arg4) : S128x2048x16x128.Idx → EReal) (ix4 (at' t b) (rowIx 0 s) a e) := by
  unfold iblk; entry_read; blk_simp
  have hi : ((win0_6.blk t).view.emb (at6 b s a e) : S128x16x128x1x16x128.Idx)
      = Fin.cons (at' t b) (ix5 (15 : Fin 16) s (0 : Fin 1) a e : (⟨5, ![16, 128, 1, 16, 128]⟩ : Shape).Idx) := by
    unfold at' at6
    blk_ext [place t]
    all_goals first | rfl | (show t.val * 2 + b.val = 2 * t.val + b.val; omega) | (show t.val * 2 + 1 * b.val = 2 * t.val + b.val; omega)
  exact (congrArg _ hi).trans (view_at (B := 16) (D := 1) _ _ (by decide +kernel) _ _ _ _ rfl _ _ _ (rowIx_1 s))

/-- The values of dilation 4 of a block's sample. -/
theorem blk_v4 (c : Dev nD) (t : Fin cfg0.N) (b : Fin 2) (s : Fin 128) (a : Fin 16) (e : Fin 128) :
    (show EReal from (show FVec Ideal S2x1x128x1x16x128 .f32 from iblk m c 7 t) (at6 b s a e)) = (m ((c : Thread nD τ).loc main_arg4) : S128x2048x16x128.Idx → EReal) (ix4 (at' t b) (rowIx 1 s) a e) := by
  unfold iblk; entry_read; blk_simp
  have hi : ((win0_7.blk t).view.emb (at6 b s a e) : S128x4x128x4x16x128.Idx)
      = Fin.cons (at' t b) (ix5 (3 : Fin 4) s (0 : Fin 4) a e : (⟨5, ![4, 128, 4, 16, 128]⟩ : Shape).Idx) := by
    unfold at' at6
    blk_ext [place t]
    all_goals first | rfl | (show t.val * 2 + b.val = 2 * t.val + b.val; omega) | (show t.val * 2 + 1 * b.val = 2 * t.val + b.val; omega)
  exact (congrArg _ hi).trans (view_at (B := 4) (D := 4) _ _ (by decide +kernel) _ _ _ _ rfl _ _ _ (rowIx_4 s))

/-- The values of dilation 16 of a block's sample. -/
theorem blk_v16 (c : Dev nD) (t : Fin cfg0.N) (b : Fin 2) (s : Fin 128) (a : Fin 16) (e : Fin 128) :
    (show EReal from (show FVec Ideal S2x1x128x1x16x128 .f32 from iblk m c 8 t) (at6 b s a e)) = (m ((c : Thread nD τ).loc main_arg4) : S128x2048x16x128.Idx → EReal) (ix4 (at' t b) (rowIx 2 s) a e) := by
  unfold iblk; entry_read; blk_simp
  have hi : ((win0_8.blk t).view.emb (at6 b s a e) : S128x1x128x16x16x128.Idx)
      = Fin.cons (at' t b) (ix5 (0 : Fin 1) s (0 : Fin 16) a e : (⟨5, ![1, 128, 16, 16, 128]⟩ : Shape).Idx) := by
    unfold at' at6
    blk_ext [place t]
    all_goals first | rfl | (show t.val * 2 + b.val = 2 * t.val + b.val; omega) | (show t.val * 2 + 1 * b.val = 2 * t.val + b.val; omega)
  exact (congrArg _ hi).trans (view_at (B := 1) (D := 16) _ _ (by decide +kernel) _ _ _ _ rfl _ _ _ (rowIx_16 s))

end Cert.Proof.SampleAttn

end
-- ==== Proof.SampleAttnValue.lean ====
/-
  The attention of the samples: where the queries and keys are finite, the result the kernel leaves is the reference's.
-/
module

public import proofs.«01_k».proof.Proof.SampleAttnKernelValue
public import proofs.«01_k».proof.Proof.SampleAttnRefValue
public import proofs.«01_k».proof.Proof.SampleAttnMath
public import proofs.«01_k».proof.Defs
public import proofs.«01_k».proof.Proof.Gen.Pre_finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.SampleAttn

open Cert.Proof.Softmax Cert.SampleAttnIdeal Cert.SampleAttnIdeal.Gen
open Cert.SampleAttnRefIdeal.Read (val_main_v168)

/-! ## Finite arguments -/

/-- Under the precondition the queries, the new keys and the keys of the cache are reals. -/
theorem reals (q kn vn : FVec Ideal S128x16x128 .f32) (ck cv : FVec Ideal S128x2048x16x128 .f32)
    (h : (Cert.Pre_finite.fn (F := Ideal) q kn vn ck cv).1 = (fun _ => 1#1) ∧ (Cert.Pre_finite.fn (F := Ideal) q kn vn ck cv).2.1 = (fun _ => 1#1)
      ∧ (Cert.Pre_finite.fn (F := Ideal) q kn vn ck cv).2.2 = (fun _ => 1#1)) :
    (∀ i, ∃ r : ℝ, (show EReal from q i) = (r : EReal)) ∧ (∀ i, ∃ r : ℝ, (show EReal from kn i) = (r : EReal)) ∧ ∀ i, ∃ r : ℝ, (show EReal from ck i) = (r : EReal) := by
  obtain ⟨h0, h1, h2⟩ := h
  refine ⟨fun i => real_of_lt _ ?_, fun i => real_of_lt _ ?_, fun i => real_of_lt _ ?_⟩
  · rw [← bits_top]; exact congrFun h0 i
  · rw [← bits_top]; exact congrFun h1 i
  · rw [← bits_top]; exact congrFun h2 i

/-! ## One sample -/

/-- A dilation's first row is the new one. -/
theorem rowOf_new (new : S128x16x128.Idx → EReal) (past : S128x2048x16x128.Idx → EReal) (d : Fin 3) (n : Fin 128) (a : Fin 16) (e : Fin 128) :
    rowOf new past d n 0 a e = new (ix3 n a e) := by
  unfold rowOf
  rw [dif_neg]
  show ¬ 2048 - dil d * 0 < 2048
  omega

/-- Its other rows are those of the kernel's block, backwards. -/
theorem rowOf_past (new : S128x16x128.Idx → EReal) (past : S128x2048x16x128.Idx → EReal) (d : Fin 3) (n : Fin 128) (i : Fin 128) (a : Fin 16) (e : Fin 128) :
    rowOf new past d n i.succ a e = past (ix4 n (rowIx d i.rev) a e) := by
  have hr : 2048 - dil d * (i.succ : Fin 129).val = (rowIx d i.rev).val := by
    show 2048 - dil d * (i.val + 1) = 2048 - dil d * (128 - (128 - (i.val + 1)))
    rw [show 128 - (128 - (i.val + 1)) = i.val + 1 by omega]
  unfold rowOf
  rw [dif_pos (hr ▸ (rowIx d i.rev).isLt)]
  exact congrArg (fun r => past (ix4 n r a e)) (Fin.ext hr)

/-- What the kernel computes for a sample is what the reference computes for it. -/
theorem point (q kn vn : FVec Ideal S128x16x128 .f32) (ck cv : FVec Ideal S128x2048x16x128 .f32)
    (hq : ∀ i, ∃ r : ℝ, (show EReal from q i) = (r : EReal)) (hkn : ∀ i, ∃ r : ℝ, (show EReal from kn i) = (r : EReal)) (hck : ∀ i, ∃ r : ℝ, (show EReal from ck i) = (r : EReal))
    (q' kn' vn' : FVec Ideal S1x16x128 .f32) (k1 k4 k16 v1 v4 v16 : FVec Ideal S1x1x128x1x16x128 .f32) (n : Fin 128)
    (eq : ∀ a x, q' (ix3 0 a x) = q (ix3 n a x)) (ekn : ∀ a x, kn' (ix3 0 a x) = kn (ix3 n a x)) (evn : ∀ a x, vn' (ix3 0 a x) = vn (ix3 n a x))
    (ek1 : ∀ s a x, k1 (at6 0 s a x) = ck (ix4 n (rowIx 0 s) a x)) (ek4 : ∀ s a x, k4 (at6 0 s a x) = ck (ix4 n (rowIx 1 s) a x))
    (ek16 : ∀ s a x, k16 (at6 0 s a x) = ck (ix4 n (rowIx 2 s) a x))
    (ev1 : ∀ s a x, v1 (at6 0 s a x) = cv (ix4 n (rowIx 0 s) a x)) (ev4 : ∀ s a x, v4 (at6 0 s a x) = cv (ix4 n (rowIx 1 s) a x))
    (ev16 : ∀ s a x, v16 (at6 0 s a x) = cv (ix4 n (rowIx 2 s) a x)) (a : Fin 16) (e : Fin 128) :
    (show EReal from sample q' kn' vn' k1 k4 k16 v1 v4 v16 (ix3 0 a e)) = (show EReal from val_main_v168 (F := Ideal) q kn vn ck cv (ix3 n a e)) := by
  obtain ⟨g, hg⟩ := bits_scale
  choose qr hqr using hq
  choose nr hnr using hkn
  choose pr hpr using hck
  have hrow : ∀ d j x, ∃ r : ℝ, rowOf kn ck d n j a x = (r : EReal) := fun d j x => by
    unfold rowOf
    split
    · exact ⟨_, hpr _⟩
    · exact ⟨_, hnr _⟩
  choose rr hrr using hrow
  have hr0 : ∀ d x, rr d 0 x = nr (ix3 n a x) := fun d x => EReal.coe_injective ((hrr d 0 x).symm.trans ((rowOf_new kn ck d n a x).trans (hnr _)))
  have hrs : ∀ d (i : Fin 128) x, rr d i.succ x = pr (ix4 n (rowIx d i.rev) a x) := fun d i x =>
    EReal.coe_injective ((hrr d i.succ x).symm.trans ((rowOf_past kn ck d n i a x).trans (hpr _)))
  have hs : ∀ d j, scoreOf q kn ck d n a j = (((∑ x, qr (ix3 n a x) * rr d j x) * g : ℝ) : EReal) := fun d j => by
    unfold scoreOf
    rw [hg, EReal.coe_mul, coe_sum]
    refine congrArg (· * (g : EReal)) (Finset.sum_congr rfl fun x _ => ?_)
    rw [hrr, EReal.coe_mul]
    exact congrArg (· * _) (hqr _)
  have hold : ∀ d s, ∑ x, (show EReal from ck (ix4 n (rowIx d s) a x)) * ((show EReal from q (ix3 n a x)) * Ideal.ofBits .f32 0x3DB504F3#32)
      = ((∑ x, pr (ix4 n (rowIx d s) a x) * (qr (ix3 n a x) * g) : ℝ) : EReal) := fun d s => by
    rw [coe_sum]
    refine Finset.sum_congr rfl fun x _ => ?_
    rw [hg, hqr, hpr, EReal.coe_mul, EReal.coe_mul]
  have hnew : ∑ x, (show EReal from q (ix3 n a x)) * Ideal.ofBits .f32 0x3DB504F3#32 * (show EReal from kn (ix3 n a x))
      = ((∑ x, qr (ix3 n a x) * g * nr (ix3 n a x) : ℝ) : EReal) := by
    rw [coe_sum]
    refine Finset.sum_congr rfl fun x _ => ?_
    rw [hg, hqr, hnr, EReal.coe_mul, EReal.coe_mul]
  obtain ⟨μ, hμ⟩ := sample_at q' kn' vn' k1 k4 k16 v1 v4 v16 a e _ (fun d s => ∑ x, pr (ix4 n (rowIx d s) a x) * (qr (ix3 n a x) * g))
    (by simp only [eq, ekn]; exact hnew) (fun s => by simp only [eq, ek1]; exact hold 0 s) (fun s => by simp only [eq, ek4]; exact hold 1 s)
    (fun s => by simp only [eq, ek16]; exact hold 2 s)
  refine hμ.trans ?_
  simp only [evn, ev1, ev4, ev16]
  refine (fused _ (fun d s => ∑ x, pr (ix4 n (rowIx d s) a x) * (qr (ix3 n a x) * g)) μ (vn (ix3 n a e)) (fun d s => cv (ix4 n (rowIx d s) a e))
    (fun d j => (∑ x, qr (ix3 n a x) * rr d j x) * g) (fun d j => rowOf vn cv d n j a e) (fun d => ?_) (fun d i => ?_)
    (fun d => rowOf_new vn cv d n a e) (fun d i => rowOf_past vn cv d n i a e)).trans (ref_value q kn vn ck cv n a e _ hs).symm
  · rw [Finset.sum_mul]
    exact Finset.sum_congr rfl fun x _ => by rw [hr0]; ring
  · rw [Finset.sum_mul]
    exact Finset.sum_congr rfl fun x _ => by rw [hrs]; ring

/-! ## The result -/

theorem row_0 (a : Fin 16) (x : Fin 128) : r0_0.idx (ix3 0 a x) = ix3 0 a x := funext fun b => Fin.ext <| by
  match b with
  | ⟨0, _⟩ => rfl
  | ⟨1, _⟩ => show 0 + 1 * a.val = a.val; omega
  | ⟨2, _⟩ => show 0 + 1 * x.val = x.val; omega

theorem row_1 (a : Fin 16) (x : Fin 128) : r0_2.idx (ix3 0 a x) = ix3 1 a x := funext fun b => Fin.ext <| by
  match b with
  | ⟨0, _⟩ => rfl
  | ⟨1, _⟩ => show 0 + 1 * a.val = a.val; omega
  | ⟨2, _⟩ => show 0 + 1 * x.val = x.val; omega

theorem rows_0 (s : Fin 128) (a : Fin 16) (x : Fin 128) : r0_1.idx (at6 0 s a x) = at6 0 s a x := funext fun b => Fin.ext <| by
  match b with
  | ⟨0, _⟩ => rfl
  | ⟨1, _⟩ => rfl
  | ⟨2, _⟩ => show 0 + 1 * s.val = s.val; omega
  | ⟨3, _⟩ => rfl
  | ⟨4, _⟩ => show 0 + 1 * a.val = a.val; omega
  | ⟨5, _⟩ => show 0 + 1 * x.val = x.val; omega

theorem rows_1 (s : Fin 128) (a : Fin 16) (x : Fin 128) : r0_3.idx (at6 0 s a x) = at6 1 s a x := funext fun b => Fin.ext <| by
  match b with
  | ⟨0, _⟩ => rfl
  | ⟨1, _⟩ => rfl
  | ⟨2, _⟩ => show 0 + 1 * s.val = s.val; omega
  | ⟨3, _⟩ => rfl
  | ⟨4, _⟩ => show 0 + 1 * a.val = a.val; omega
  | ⟨5, _⟩ => show 0 + 1 * x.val = x.val; omega

variable (m : (ℓ : Loc nD τ sig) → Buf (Elt Ideal) ℓ)

/-- The kernel's result is the reference's where the queries and keys are finite. -/
theorem result (h : Cert.Pre_SampleAttnIdeal_finite m) (c : Dev nD) : (dats m 0 c).arrAt 9 (cfgs 0).N
    = (val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S128x16x128.Idx → EReal) := by
  obtain ⟨fq, fkn, fck⟩ := reals _ _ _ _ _ (h c)
  refine (dats m 0 c).arrAt_eq_of_covers 9 _ (by decide +kernel) fun t _ y => ?_
  blk_simp
  rw [after0_9]; unfold_out out0_9
  frame_out
  clear h
  canon_tiles y h
  · obtain ⟨a, e, rfl⟩ : ∃ (a : Fin 16) (e : Fin 128), y = ix3 0 a e := ⟨y 1, y 2, by ext b; fin_cases b <;> simp [Fin.ext_iff] <;> omega⟩
    rw [second]
    refine (point _ _ _ _ _ fq fkn fck _ _ _ _ _ _ _ _ _ (at' t 1)
      (fun a x => (congrArg (show FVec Ideal S2x16x128 .f32 from iblk m c 0 t) (row_1 a x)).trans (blk_q m c t 1 a x))
      (fun a x => (congrArg (show FVec Ideal S2x16x128 .f32 from iblk m c 1 t) (row_1 a x)).trans (blk_new_k m c t 1 a x))
      (fun a x => (congrArg (show FVec Ideal S2x16x128 .f32 from iblk m c 2 t) (row_1 a x)).trans (blk_new_v m c t 1 a x))
      (fun s a x => (congrArg (show FVec Ideal S2x1x128x1x16x128 .f32 from iblk m c 3 t) (rows_1 s a x)).trans (blk_k1 m c t 1 s a x))
      (fun s a x => (congrArg (show FVec Ideal S2x1x128x1x16x128 .f32 from iblk m c 4 t) (rows_1 s a x)).trans (blk_k4 m c t 1 s a x))
      (fun s a x => (congrArg (show FVec Ideal S2x1x128x1x16x128 .f32 from iblk m c 5 t) (rows_1 s a x)).trans (blk_k16 m c t 1 s a x))
      (fun s a x => (congrArg (show FVec Ideal S2x1x128x1x16x128 .f32 from iblk m c 6 t) (rows_1 s a x)).trans (blk_v1 m c t 1 s a x))
      (fun s a x => (congrArg (show FVec Ideal S2x1x128x1x16x128 .f32 from iblk m c 7 t) (rows_1 s a x)).trans (blk_v4 m c t 1 s a x))
      (fun s a x => (congrArg (show FVec Ideal S2x1x128x1x16x128 .f32 from iblk m c 8 t) (rows_1 s a x)).trans (blk_v16 m c t 1 s a x)) a e).trans (congrArg (val_main_v168 (F := Ideal) _ _ _ _ _) ?_)
    unfold at'
    blk_ext [place t]
    · exact h1.symm
    · exact h2.symm
  · obtain ⟨a, e, rfl⟩ : ∃ (a : Fin 16) (e : Fin 128), y = ix3 0 a e := ⟨y 1, y 2, by ext b; fin_cases b <;> simp [Fin.ext_iff] <;> omega⟩
    refine (point _ _ _ _ _ fq fkn fck _ _ _ _ _ _ _ _ _ (at' t 0)
      (fun a x => (congrArg (show FVec Ideal S2x16x128 .f32 from iblk m c 0 t) (row_0 a x)).trans (blk_q m c t 0 a x))
      (fun a x => (congrArg (show FVec Ideal S2x16x128 .f32 from iblk m c 1 t) (row_0 a x)).trans (blk_new_k m c t 0 a x))
      (fun a x => (congrArg (show FVec Ideal S2x16x128 .f32 from iblk m c 2 t) (row_0 a x)).trans (blk_new_v m c t 0 a x))
      (fun s a x => (congrArg (show FVec Ideal S2x1x128x1x16x128 .f32 from iblk m c 3 t) (rows_0 s a x)).trans (blk_k1 m c t 0 s a x))
      (fun s a x => (congrArg (show FVec Ideal S2x1x128x1x16x128 .f32 from iblk m c 4 t) (rows_0 s a x)).trans (blk_k4 m c t 0 s a x))
      (fun s a x => (congrArg (show FVec Ideal S2x1x128x1x16x128 .f32 from iblk m c 5 t) (rows_0 s a x)).trans (blk_k16 m c t 0 s a x))
      (fun s a x => (congrArg (show FVec Ideal S2x1x128x1x16x128 .f32 from iblk m c 6 t) (rows_0 s a x)).trans (blk_v1 m c t 0 s a x))
      (fun s a x => (congrArg (show FVec Ideal S2x1x128x1x16x128 .f32 from iblk m c 7 t) (rows_0 s a x)).trans (blk_v4 m c t 0 s a x))
      (fun s a x => (congrArg (show FVec Ideal S2x1x128x1x16x128 .f32 from iblk m c 8 t) (rows_0 s a x)).trans (blk_v16 m c t 0 s a x)) a e).trans (congrArg (val_main_v168 (F := Ideal) _ _ _ _ _) ?_)
    unfold at'
    blk_ext [place t]
    · exact h1.symm
    · exact h2.symm

end Cert.Proof.SampleAttn

end
-- ==== Proof.NormProjValue.lean ====
/-
  The cross-attention's queries: the kernel's row blocks are the reference's normalised rows times the query weight.
-/
module

public import proofs.«01_k».proof.Proof.Gen.NormProjIdeal.Value
public import proofs.«01_k».proof.Proof.Gen.NormProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.NormProj

open Cert.NormProjIdeal Cert.NormProjIdeal.Gen Cert.NormProjRefIdeal.Read

variable (m : (ℓ : Loc nD τ sig) → Buf (Elt Ideal) ℓ)

/-- Where each window's block lies: the rows' and the result's at the point's row block, gain and weight whole. -/
theorem place : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The kernel's formula on a block's row is the reference's on the array's. -/
theorem row_at (X : FVec Ideal S520x4096 .f32) (G : FVec Ideal S1x4096 .f32) (W : FVec Ideal S4096x512 .f32) (x : FVec Ideal S8320x4096 .f32)
    (g : FVec Ideal S1x4096 .f32) (w : FVec Ideal S1x4096x512 .f32) (r : Fin 520) (R : Fin 8320) (l : Fin 512)
    (hX : ∀ k : Fin 4096, (X (ix2 r k) : EReal) = x (ix2 R k)) (hG : ∀ k : Fin 4096, (G (ix2 0 k) : EReal) = g (ix2 0 k))
    (hW : ∀ k : Fin 4096, (W (ix2 k l) : EReal) = w (ix3 0 k l)) :
    (show EReal from k0_pay1 (F := Ideal) X G W (ix2 r l)) = (show EReal from val_main_v15 (F := Ideal) x g w (ix2 R l)) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1]
  simp only [hX, hG, hW]

/-- The rows' block. -/
theorem rows_at (c : Dev nD) (t : Fin cfg0.N) (r : Fin 520) (R : Fin 8320) (h : R.val = t.val * 520 + r.val) (k : Fin 4096) :
    (show EReal from (show FVec Ideal S520x4096 .f32 from iblk m c 0 t) (ix2 r k)) = (m ((c : Thread nD τ).loc main_arg0) : S8320x4096.Idx → EReal) (ix2 R k) := by
  blk_point [iblk, V, place t]

/-- The gain's block. -/
theorem gain_at (c : Dev nD) (t : Fin cfg0.N) (k : Fin 4096) :
    (show EReal from (show FVec Ideal S1x4096 .f32 from iblk m c 1 t) (ix2 0 k)) = (m ((c : Thread nD τ).loc main_arg1) : S1x4096.Idx → EReal) (ix2 0 k) := by
  unfold iblk; entry_read; blk_simp; pointwise; blk_ext [place t]

/-- The weight's block. -/
theorem weight_at (c : Dev nD) (t : Fin cfg0.N) (k : Fin 4096) (l : Fin 512) :
    (show EReal from (show FVec Ideal S4096x512 .f32 from iblk m c 2 t) (ix2 k l)) = (m ((c : Thread nD τ).loc main_arg2) : S1x4096x512.Idx → EReal) (ix3 0 k l) := by
  unfold iblk; entry_read; blk_simp; pointwise; blk_ext [place t]

/-- The kernel's result is the reference's. -/
theorem result (c : Dev nD) : (dats m 0 c).arrAt 3 (cfgs 0).N
    = (val_main_v15 (F := Ideal) (m ((c : Thread nD τ).loc main_arg0)) (m ((c : Thread nD τ).loc main_arg1)) (m ((c : Thread nD τ).loc main_arg2)) : S8320x512.Idx → EReal) := by
  refine (dats m 0 c).arrAt_eq_of_covers 3 _ (by decide +kernel) fun t _ y => ?_
  have hN : t.val < 16 := N_0 ▸ t.isLt
  blk_simp
  rw [after0_3]; unfold out0_3; frame_out
  obtain ⟨n, l, rfl⟩ : ∃ (n : Fin 520) (l : Fin 512), y = ix2 n l := ⟨y 0, y 1, by ext a; fin_cases a <;> rfl⟩
  refine (row_at (iblk m c 0 t) (iblk m c 1 t) (iblk m c 2 t) _ _ _ n ⟨t.val * 520 + n.val, by omega⟩ l (rows_at m c t n _ rfl)
    (gain_at m c t) (fun k => weight_at m c t k l)).trans (congrArg (val_main_v15 (F := Ideal) _ _ _) ?_)
  blk_ext [place t]

end Cert.Proof.NormProj

end
-- ==== Proof.SampleXattnValue.lean ====
/-
  The cross-attention of the samples: where queries and keys are finite, the result the kernel leaves is the reference's.
-/
module

public import proofs.«01_k».proof.Proof.Gen.SampleXattnIdeal.Value
public import proofs.«01_k».proof.Proof.Gen.SampleXattnRefIdeal.Read
public import proofs.«01_k».proof.Proof.SoftmaxMath
public import proofs.«01_k».proof.Defs
public import proofs.«01_k».proof.Proof.Gen.Pre_finite_memory
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.SampleXattn

open Cert.Proof.Softmax Cert.SampleXattnIdeal Cert.SampleXattnIdeal.Gen Cert.SampleXattnRefIdeal.Read

/-- Under the precondition the queries and the keys are reals. -/
theorem reals (q : FVec Ideal S128x4x128 .f32) (k v : FVec Ideal S1x128x256x4x128 .f32)
    (h : (Cert.Pre_finite_memory.fn (F := Ideal) q k v).1 = (fun _ => 1#1) ∧ (Cert.Pre_finite_memory.fn (F := Ideal) q k v).2 = (fun _ => 1#1)) :
    (∀ i, ∃ r : ℝ, (show EReal from q i) = (r : EReal)) ∧ ∀ i, ∃ r : ℝ, (show EReal from k i) = (r : EReal) := by
  obtain ⟨h0, h1⟩ := h
  refine ⟨fun i => real_of_lt _ ?_, fun i => real_of_lt _ ?_⟩
  · rw [← bits_top]; exact congrFun h0 i
  · rw [← bits_top]; exact congrFun h1 i

/-! ## One sample -/

/-- The kernel's scores. -/
def scores (q : FVec Ideal S1x4x128 .f32) (k : FVec Ideal S1x256x4x128 .f32) : FVec Ideal S256x4x1 .f32 :=
  shapeCast S256x4x1 (multiReduction .add [2] S256x4 (mulf (shapeCast S256x4x128 k shapeCasts_S1x256x4x128_S256x4x128)
    (broadcastTo S256x4x128 (shapeCast S1x4x128 (mulf (shapeCast S4x128 q shapeCasts_S1x4x128_S4x128) (broadcast S4x128 (Scalar.ofBits .f32 0x3DB504F3#32))) shapeCasts_S4x128_S1x4x128) broadcasts_S1x4x128_S256x4x128))
    0x00000000#32 reduces_S256x4x128_S256x4 (.inl rfl) rfl) shapeCasts_S256x4_S256x4x1

/-- Their largest of each head. -/
def top (s : FVec Ideal S256x4x1 .f32) : FVec Ideal S4x1 .f32 :=
  multiReduction .maximumf [0] S4x1 s 0xFF800000#32 reduces_S256x4x1_S4x1 (.inl rfl) rfl

/-- Their exponentials, shifted. -/
def exps (s : FVec Ideal S256x4x1 .f32) (t : FVec Ideal S4x1 .f32) : FVec Ideal S256x4x1 .f32 :=
  exp (subf s (broadcastTo S256x4x1 (shapeCast S1x4x1 t shapeCasts_S4x1_S1x4x1) broadcasts_S1x4x1_S256x4x1))

/-- The quotient of sums. -/
def quotient (p : FVec Ideal S256x4x1 .f32) (v : FVec Ideal S1x256x4x128 .f32) : FVec Ideal S1x4x128 .f32 :=
  shapeCast S1x4x128 (divf (multiReduction .add [0] S4x128 (mulf (broadcastTo S256x4x128 p broadcasts_S256x4x1_S256x4x128) (shapeCast S256x4x128 v shapeCasts_S1x256x4x128_S256x4x128)) 0x00000000#32 reduces_S256x4x128_S4x128 (.inl rfl) rfl)
    (broadcastTo S4x128 (multiReduction .add [0] S4x1 p 0x00000000#32 reduces_S256x4x1_S4x1 (.inl rfl) rfl) broadcasts_S4x1_S4x128)) shapeCasts_S4x128_S1x4x128

/-- What the kernel computes for one sample. -/
def sample (q : FVec Ideal S1x4x128 .f32) (k v : FVec Ideal S1x256x4x128 .f32) : FVec Ideal S1x4x128 .f32 :=
  quotient (exps (scores q k) (top (scores q k))) v

/-- A score. -/
theorem score_at (q : FVec Ideal S1x4x128 .f32) (k : FVec Ideal S1x256x4x128 .f32) (s : Fin 256) (a : Fin 4) :
    (show EReal from scores q k (ix3 s a 0)) = ∑ x, k (ix4 0 s a x) * (q (ix3 0 a x) * Ideal.ofBits .f32 0x3DB504F3#32) := by
  pointwise [scores]

/-- One sample's result where its scores are reals: the weighted sum over the quotient of sums. -/
theorem sample_at (q : FVec Ideal S1x4x128 .f32) (k v : FVec Ideal S1x256x4x128 .f32) (a : Fin 4) (e : Fin 128) (b : Fin 256 → ℝ)
    (h : ∀ s, ∑ x, k (ix4 0 s a x) * (q (ix3 0 a x) * Ideal.ofBits .f32 0x3DB504F3#32) = (b s : EReal)) :
    (show EReal from sample q k v (ix3 0 a e)) = ∑ j, ((Real.exp (b j) / ∑ c, Real.exp (b c) : ℝ) : EReal) * v (ix4 0 j a e) := by
  have g := fun s => (score_at q k s a).trans (h s)
  unfold sample
  generalize scores q k = s at g ⊢
  obtain ⟨μ, hμ⟩ := fold_max_real b
  have hm : (show EReal from top s (ix2 a 0)) = (μ : EReal) := by
    rw [← hμ, ← bits_bot]
    simp only [← g]
    pointwise [top]
  generalize top s = t at hm ⊢
  refine Eq.trans ?_ (quotient_eq b μ fun j => v (ix4 0 j a e))
  rw [← hm]
  simp only [← g]
  pointwise [quotient, exps]

/-! ## The reference -/

/-- The reference's scores. -/
theorem ref_score (q : FVec Ideal S128x4x128 .f32) (k : FVec Ideal S1x128x256x4x128 .f32) (n : Fin 128) (a : Fin 4) (s : Fin 256) :
    (show EReal from val_main_v5 (F := Ideal) q k (ix4 n a 0 s)) = (∑ x, q (ix3 n a x) * k (ix5 0 n s a x)) * Ideal.ofBits .f32 0x3DB504F3#32 := by
  pointwise [val_main_v5, val_main_v4, val_main_v3, val_main_v1, val_main_v0, val_main_cst]

/-- The reference's result where its scores are reals. -/
theorem ref_at (q : FVec Ideal S128x4x128 .f32) (k v : FVec Ideal S1x128x256x4x128 .f32) (n : Fin 128) (a : Fin 4) (e : Fin 128) (b : Fin 256 → ℝ)
    (h : ∀ s, (∑ x, q (ix3 n a x) * k (ix5 0 n s a x)) * Ideal.ofBits .f32 0x3DB504F3#32 = (b s : EReal)) :
    (show EReal from val_main_v19 (F := Ideal) q k v (ix3 n a e)) = ∑ j, ((Real.exp (b j) / ∑ c, Real.exp (b c) : ℝ) : EReal) * v (ix5 0 n j a e) := by
  have g := fun s => (ref_score q k n a s).trans (h s)
  obtain ⟨μ, hμ⟩ := fold_max_real b
  have hm : (show EReal from val_main_v8 (F := Ideal) q k (ix3 n a 0)) = (μ : EReal) := by
    rw [← hμ]
    simp only [← g]
    unfold val_main_v8 val_main_v6
    generalize val_main_v5 (F := Ideal) q k = s
    pointwise [val_main_v7, val_main_cst_0, val_main_cst_1]
    rw [bits_bot, max_eq_right bot_le]
  refine Eq.trans ?_ (row_eq b μ fun j => v (ix5 0 n j a e))
  rw [← hm]
  simp only [← g]
  unfold val_main_v19 val_main_v18 val_main_v17 val_main_v16 val_main_v15 val_main_v14 val_main_v13 val_main_v12 val_main_v11 val_main_v10 val_main_v9
  generalize val_main_v8 (F := Ideal) q k = t
  generalize val_main_v5 (F := Ideal) q k = s
  pointwise [val_main_v2, val_main_cst_2]
  exact Finset.sum_congr rfl fun j _ => mul_comm _ _

/-- What the kernel computes for a sample is what the reference computes for it. -/
theorem point (q : FVec Ideal S128x4x128 .f32) (k v : FVec Ideal S1x128x256x4x128 .f32)
    (hq : ∀ i, ∃ r : ℝ, (show EReal from q i) = (r : EReal)) (hk : ∀ i, ∃ r : ℝ, (show EReal from k i) = (r : EReal))
    (q' : FVec Ideal S1x4x128 .f32) (k' v' : FVec Ideal S1x256x4x128 .f32) (n : Fin 128)
    (eq : ∀ a x, q' (ix3 0 a x) = q (ix3 n a x)) (ek : ∀ s a x, k' (ix4 0 s a x) = k (ix5 0 n s a x)) (ev : ∀ s a x, v' (ix4 0 s a x) = v (ix5 0 n s a x))
    (a : Fin 4) (e : Fin 128) :
    (show EReal from sample q' k' v' (ix3 0 a e)) = (show EReal from val_main_v19 (F := Ideal) q k v (ix3 n a e)) := by
  obtain ⟨g, hg⟩ := bits_scale
  choose qr hqr using hq
  choose kr hkr using hk
  replace hqr : ∀ i, @Eq EReal (q i) (qr i) := hqr
  replace hkr : ∀ i, @Eq EReal (k i) (kr i) := hkr
  refine (sample_at q' k' v' a e (fun s => ∑ x, kr (ix5 0 n s a x) * (qr (ix3 n a x) * g)) (fun s => ?_)).trans ?_
  · simp only [eq, ek]
    rw [coe_sum]
    refine Finset.sum_congr rfl fun x _ => ?_
    rw [hg, hqr, hkr, EReal.coe_mul, EReal.coe_mul]
  · simp only [ev]
    refine (ref_at q k v n a e _ fun s => ?_).symm
    rw [hg]
    have hc : ∑ x, kr (ix5 0 n s a x) * (qr (ix3 n a x) * g) = (∑ x, qr (ix3 n a x) * kr (ix5 0 n s a x)) * g := by
      rw [Finset.sum_mul]
      exact Finset.sum_congr rfl fun x _ => by ring
    rw [hc, EReal.coe_mul, coe_sum]
    refine congrArg (· * (g : EReal)) (Finset.sum_congr rfl fun x _ => ?_)
    rw [hqr, hkr, EReal.coe_mul]

/-! ## The blocks -/

/-- The query of the block's sample `b`, read out of the block. -/
theorem row (b : Fin 4) (h) (a : Fin 4) (x : Fin 128) :
    (Rect.unit (s := S4x4x128) ![b.val, 0, 0] S1x4x128.size h).idx (ix3 0 a x) = ix3 b a x := funext fun i => Fin.ext <| by
  match i with
  | ⟨0, _⟩ => show b.val + 1 * 0 = b.val; omega
  | ⟨1, _⟩ => show 0 + 1 * a.val = a.val; omega
  | ⟨2, _⟩ => show 0 + 1 * x.val = x.val; omega

/-- The memory of the block's sample `b`, read out of the block. -/
theorem rows (b : Fin 4) (h) (s : Fin 256) (a : Fin 4) (x : Fin 128) :
    (Rect.unit (s := S4x256x4x128) ![b.val, 0, 0, 0] S1x256x4x128.size h).idx (ix4 0 s a x) = ix4 b s a x := funext fun i => Fin.ext <| by
  match i with
  | ⟨0, _⟩ => show b.val + 1 * 0 = b.val; omega
  | ⟨1, _⟩ => show 0 + 1 * s.val = s.val; omega
  | ⟨2, _⟩ => show 0 + 1 * a.val = a.val; omega
  | ⟨3, _⟩ => show 0 + 1 * x.val = x.val; omega

/-- Where each window's block lies: four samples at each point. -/
theorem place : ∀ t : Fin cfg0.N, win0_0.index t = ![t.val, 0, 0] ∧ win0_1.index t = ![t.val, 0, 0, 0] ∧ win0_2.index t = ![t.val, 0, 0, 0]
    ∧ win0_3.index t = ![t.val, 0, 0] :=
  (by decide +kernel : ∀ t : Fin grid0.N, _)

/-- The `b`-th sample of point `t`. -/
def at' (t : Fin cfg0.N) (b : Fin 4) : Fin 128 := ⟨4 * t.val + b.val, by have h : t.val < 32 := N_0 ▸ t.isLt; omega⟩

variable (m : (ℓ : Loc nD τ sig) → Buf (Elt Ideal) ℓ)

/-- The queries' block. -/
theorem blk_q (c : Dev nD) (t : Fin cfg0.N) (b : Fin 4) (a : Fin 4) (x : Fin 128) :
    (show FVec Ideal S4x4x128 .f32 from iblk m c 0 t) (ix3 b a x) = (m ((c : Thread nD τ).loc main_arg0) : S128x4x128.Idx → EReal) (ix3 (at' t b) a x) := by
  unfold iblk at'; entry_read; blk_simp; blk_ext [place t]
  all_goals omega

/-- The keys' block. -/
theorem blk_k (c : Dev nD) (t : Fin cfg0.N) (b : Fin 4) (s : Fin 256) (a : Fin 4) (x : Fin 128) :
    (show FVec Ideal S4x256x4x128 .f32 from iblk m c 1 t) (ix4 b s a x) = (m ((c : Thread nD τ).loc main_arg1) : S1x128x256x4x128.Idx → EReal) (ix5 0 (at' t b) s a x) := by
  unfold iblk at'; entry_read; blk_simp; pointwise; blk_ext [place t]
  all_goals omega

/-- The values' block. -/
theorem blk_v (c : Dev nD) (t : Fin cfg0.N) (b : Fin 4) (s : Fin 256) (a : Fin 4) (x : Fin 128) :
    (show FVec Ideal S4x256x4x128 .f32 from iblk m c 2 t) (ix4 b s a x) = (m ((c : Thread nD τ).loc main_arg2) : S1x128x256x4x128.Idx → EReal) (ix5 0 (at' t b) s a x) := by
  unfold iblk at'; entry_read; blk_simp; pointwise; blk_ext [place t]
  all_goals omega

/-- The block's sample `b` at point `t`, computed from the blocks read there. -/
theorem piece {c : Dev nD} (hq : ∀ i, ∃ r : ℝ, (show EReal from (m ((c : Thread nD τ).loc main_arg0) : S128x4x128.Idx → EReal) i) = (r : EReal))
    (hk : ∀ i, ∃ r : ℝ, (show EReal from (m ((c : Thread nD τ).loc main_arg1) : S1x128x256x4x128.Idx → EReal) i) = (r : EReal)) (t : Fin cfg0.N) (b : Fin 4) (h h') (y : S1x4x128.Idx) :
    (show EReal from sample (fun i => (show FVec Ideal S4x4x128 .f32 from iblk m c 0 t) ((Rect.unit (s := S4x4x128) ![b.val, 0, 0] S1x4x128.size h).idx i))
      (fun i => (show FVec Ideal S4x256x4x128 .f32 from iblk m c 1 t) ((Rect.unit (s := S4x256x4x128) ![b.val, 0, 0, 0] S1x256x4x128.size h').idx i))
      (fun i => (show FVec Ideal S4x256x4x128 .f32 from iblk m c 2 t) ((Rect.unit (s := S4x256x4x128) ![b.val, 0, 0, 0] S1x256x4x128.size h').idx i)) y)
    = (show EReal from val_main_v19 (F := Ideal) (m ((c : Thread nD τ).loc main_arg0)) (m ((c : Thread nD τ).loc main_arg1)) (m ((c : Thread nD τ).loc main_arg2))
        (ix3 (at' t b) (y 1) (y 2))) := by
  obtain ⟨a, e, rfl⟩ : ∃ (a : Fin 4) (e : Fin 128), y = ix3 0 a e := ⟨y 1, y 2, by ext b; fin_cases b <;> simp [Fin.ext_iff] <;> omega⟩
  exact point _ _ _ hq hk _ _ _ (at' t b)
    (fun a x => (congrArg (show FVec Ideal S4x4x128 .f32 from iblk m c 0 t) (row b h a x)).trans (blk_q m c t b a x))
    (fun s a x => (congrArg (show FVec Ideal S4x256x4x128 .f32 from iblk m c 1 t) (rows b h' s a x)).trans (blk_k m c t b s a x))
    (fun s a x => (congrArg (show FVec Ideal S4x256x4x128 .f32 from iblk m c 2 t) (rows b h' s a x)).trans (blk_v m c t b s a x)) a e

/-- The kernel's result is the reference's where the queries and keys are finite. -/
theorem result (h : Cert.Pre_SampleXattnIdeal_finite_memory m) (c : Dev nD) : (dats m 0 c).arrAt 3 (cfgs 0).N
    = (val_main_v19 (F := Ideal) (m ((c : Thread nD τ).loc main_arg0)) (m ((c : Thread nD τ).loc main_arg1)) (m ((c : Thread nD τ).loc main_arg2)) : S128x4x128.Idx → EReal) := by
  obtain ⟨fq, fk⟩ := reals _ _ _ (h c)
  refine (dats m 0 c).arrAt_eq_of_covers 3 _ (by decide +kernel) fun t _ y => ?_
  blk_simp
  rw [after0_3]; unfold out0_3
  frame_out
  clear h
  canon_tiles y h
  · refine (piece m fq fk t 3 _ _ _).trans (congrArg (val_main_v19 (F := Ideal) _ _ _) ?_)
    unfold at'
    blk_ext [place t]
  · refine (piece m fq fk t 2 _ _ _).trans (congrArg (val_main_v19 (F := Ideal) _ _ _) ?_)
    unfold at'
    blk_ext [place t]
  · refine (piece m fq fk t 1 _ _ _).trans (congrArg (val_main_v19 (F := Ideal) _ _ _) ?_)
    unfold at'
    blk_ext [place t]
  · refine (piece m fq fk t 0 _ _ _).trans (congrArg (val_main_v19 (F := Ideal) _ _ _) ?_)
    unfold at'
    blk_ext [place t]

end Cert.Proof.SampleXattn

end
-- ==== Proof.ProjResNormValue.lean ====
/-
  The cross-attention's way back: the residual with the projected heads, and its norm, are the reference's.
-/
module

public import proofs.«01_k».proof.Proof.Gen.ProjResNormIdeal.Value
public import proofs.«01_k».proof.Proof.Gen.ProjResNormRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.ProjResNorm

open Cert.ProjResNormIdeal Cert.ProjResNormIdeal.Gen Cert.ProjResNormRefIdeal.Read

variable (m : (ℓ : Loc nD τ sig) → Buf (Elt Ideal) ℓ)

/-- Where each window's block lies: heads, residual and results at the point's row block, weight and gain whole. -/
theorem place : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- A row of the residual with the projected heads. -/
theorem sum_at (O : FVec Ideal S416x512 .bf16) (W : FVec Ideal S512x4096 .f32) (X : FVec Ideal S416x4096 .f32) (o : FVec Ideal S8320x512 .bf16)
    (w : FVec Ideal S1x512x4096 .f32) (x : FVec Ideal S8320x4096 .f32) (r : Fin 416) (R : Fin 8320)
    (hO : ∀ k : Fin 512, (O (ix2 r k) : EReal) = o (ix2 R k)) (hW : ∀ (k : Fin 512) (l : Fin 4096), (W (ix2 k l) : EReal) = w (ix3 0 k l))
    (hX : ∀ l : Fin 4096, (X (ix2 r l) : EReal) = x (ix2 R l)) (l : Fin 4096) :
    (show EReal from k0_pay1 (F := Ideal) X O W (ix2 r l)) = (show EReal from val_main_v3 (F := Ideal) o w x (ix2 R l)) := by
  pointwise [k0_pay1, val_main_v0, val_main_v1, val_main_v2, val_main_v3]
  simp only [hO, hW, hX]

/-- The norm of such a row. -/
theorem norm_at (O : FVec Ideal S416x512 .bf16) (W : FVec Ideal S512x4096 .f32) (X : FVec Ideal S416x4096 .f32) (G : FVec Ideal S1x4096 .f32)
    (o : FVec Ideal S8320x512 .bf16) (w : FVec Ideal S1x512x4096 .f32) (x : FVec Ideal S8320x4096 .f32) (g : FVec Ideal S1x4096 .f32) (r : Fin 416) (R : Fin 8320)
    (hO : ∀ k : Fin 512, (O (ix2 r k) : EReal) = o (ix2 R k)) (hW : ∀ (k : Fin 512) (l : Fin 4096), (W (ix2 k l) : EReal) = w (ix3 0 k l))
    (hX : ∀ l : Fin 4096, (X (ix2 r l) : EReal) = x (ix2 R l)) (hG : ∀ l : Fin 4096, (G (ix2 0 l) : EReal) = g (ix2 0 l)) (l : Fin 4096) :
    (show EReal from k0_pay2 (F := Ideal) X O W G (ix2 r l)) = (show EReal from val_main_v18 (F := Ideal) o w x g (ix2 R l)) := by
  pointwise [k0_pay2, k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1]
  simp only [hO, hW, hX, hG]

/-- The heads' block. -/
theorem heads_at (c : Dev nD) (t : Fin cfg0.N) (r : Fin 416) (R : Fin 8320) (h : R.val = t.val * 416 + r.val) (k : Fin 512) :
    (show EReal from (show FVec Ideal S416x512 .bf16 from iblk m c 0 t) (ix2 r k)) = (m ((c : Thread nD τ).loc main_arg0) : S8320x512.Idx → EReal) (ix2 R k) := by
  blk_point [iblk, V, place t]

/-- The weight's block. -/
theorem weight_at (c : Dev nD) (t : Fin cfg0.N) (k : Fin 512) (l : Fin 4096) :
    (show EReal from (show FVec Ideal S512x4096 .f32 from iblk m c 1 t) (ix2 k l)) = (m ((c : Thread nD τ).loc main_arg1) : S1x512x4096.Idx → EReal) (ix3 0 k l) := by
  unfold iblk; entry_read; blk_simp; pointwise; blk_ext [place t]

/-- The residual's block. -/
theorem rows_at (c : Dev nD) (t : Fin cfg0.N) (r : Fin 416) (R : Fin 8320) (h : R.val = t.val * 416 + r.val) (k : Fin 4096) :
    (show EReal from (show FVec Ideal S416x4096 .f32 from iblk m c 2 t) (ix2 r k)) = (m ((c : Thread nD τ).loc main_arg2) : S8320x4096.Idx → EReal) (ix2 R k) := by
  blk_point [iblk, V, place t]

/-- The gain's block. -/
theorem gain_at (c : Dev nD) (t : Fin cfg0.N) (k : Fin 4096) :
    (show EReal from (show FVec Ideal S1x4096 .f32 from iblk m c 3 t) (ix2 0 k)) = (m ((c : Thread nD τ).loc main_arg3) : S1x4096.Idx → EReal) (ix2 0 k) := by
  unfold iblk; entry_read; blk_simp; pointwise; blk_ext [place t]

/-- The first result is the reference's residual. -/
theorem result_x (c : Dev nD) : (dats m 0 c).arrAt 4 (cfgs 0).N
    = (val_main_v3 (F := Ideal) (m ((c : Thread nD τ).loc main_arg0)) (m ((c : Thread nD τ).loc main_arg1)) (m ((c : Thread nD τ).loc main_arg2)) : S8320x4096.Idx → EReal) := by
  refine (dats m 0 c).arrAt_eq_of_covers 4 _ (by decide +kernel) fun t _ y => ?_
  have hN : t.val < 20 := N_0 ▸ t.isLt
  blk_simp
  rw [after0_4]; unfold out0_4; frame_out
  obtain ⟨n, l, rfl⟩ : ∃ (n : Fin 416) (l : Fin 4096), y = ix2 n l := ⟨y 0, y 1, by ext a; fin_cases a <;> rfl⟩
  refine (sum_at (iblk m c 0 t) (iblk m c 1 t) (iblk m c 2 t) _ _ _ n ⟨t.val * 416 + n.val, by omega⟩ (heads_at m c t n _ rfl)
    (weight_at m c t) (rows_at m c t n _ rfl) l).trans (congrArg (val_main_v3 (F := Ideal) _ _ _) ?_)
  blk_ext [place t]

/-- The second result is the reference's norm of it. -/
theorem result_h (c : Dev nD) : (dats m 0 c).arrAt 5 (cfgs 0).N
    = (val_main_v18 (F := Ideal) (m ((c : Thread nD τ).loc main_arg0)) (m ((c : Thread nD τ).loc main_arg1)) (m ((c : Thread nD τ).loc main_arg2)) (m ((c : Thread nD τ).loc main_arg3)) : S8320x4096.Idx → EReal) := by
  refine (dats m 0 c).arrAt_eq_of_covers 5 _ (by decide +kernel) fun t _ y => ?_
  have hN : t.val < 20 := N_0 ▸ t.isLt
  blk_simp
  rw [after0_5]; unfold out0_5; frame_out
  obtain ⟨n, l, rfl⟩ : ∃ (n : Fin 416) (l : Fin 4096), y = ix2 n l := ⟨y 0, y 1, by ext a; fin_cases a <;> rfl⟩
  refine (norm_at (iblk m c 0 t) (iblk m c 1 t) (iblk m c 2 t) (iblk m c 3 t) _ _ _ _ n ⟨t.val * 416 + n.val, by omega⟩ (heads_at m c t n _ rfl)
    (weight_at m c t) (rows_at m c t n _ rfl) (gain_at m c t) l).trans (congrArg (val_main_v18 (F := Ideal) _ _ _ _) ?_)
  blk_ext [place t]

end Cert.Proof.ProjResNorm

end
-- ==== Proof.FinalNormIdealRun.lean ====
/-
  The run of the program `FinalNormIdeal` (hand-written): the final normalisation's one pallas_call, a grid of seventeen points over
  blocks of 512 rows. The first sixteen points normalise the prompt's rows into the first result; the last one, whose input
  block overhangs the array (128 of its 512 rows exist), normalises the sample's rows into the second. The input window is
  cut at the last point, so its buffer's rows past the array are unspecified: the body reads none of them (`ld_tail`).
  Everything is over any float values, so the frame serves the program and its idealisation, which have the same text.
  `run_main` is the run with every array of the pipeline named, `run_blocks` the same read at the results and arguments,
  `frame` the frame claim.
-/
module

public import proofs.«01_k».proof.Proof.Gen.FinalNormIdeal.Launch
public import proofs.«01_k».proof.Proof.Gen.FinalNormIdeal.Skeleton
public import proofs.«01_k».proof.Proof.Gen.FinalNormIdeal.Points
public import Idealize.ShloMosaic.Lib.Pipeline.FrameBody
public import Idealize.ShloMosaic.Lib.Pipeline.Value
public import Idealize.ShloMosaic.Lib.Pipeline.ValueKit.Tiles
public import Idealize.ShloMosaic.Lib.Claim
public import Idealize.ShloMosaic.Lib.Tactic

@[expose] public section

set_option maxRecDepth 16384

noncomputable section

namespace Cert.FinalNormIdeal.Run

open Cert.FinalNormIdeal Cert.FinalNormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the call -/

/-- The buffers of core `c` when the call is entered: after the host's reshape of the weight. -/
abbrev V (c : Dev nD) (b : Ref sig .tc) : Buf (Elt F) ((c : Thread nD τ).loc b) :=
  StableHlo.after hostOps0 (fun b => m (c, b)) b

/-- The host's one operation allocates nothing. -/
theorem fresh_none : (hostOps0 : List (HloOp τ sig (Elt F))).Forall fun op => op.fresh = ∅ := by
  simp only [List.Forall]; repeat' constructor

/-- The program up to the call. -/
theorem to_call : Pipeline.HMain (Ix := Unit) (Name := ℕ) (U := UR sig nD τ) (Lvl := ℕ) cfgs 0 defs₀ Variants.none m
    (main (F := F)) (V m) :=
  Pipeline.hmain_prefix cfgs 0 defs₀ Variants.none m main hostOps0 hostOps0_sub fresh_none main_chain

/-- A buffer other than the reshaped weight is at the call as launched. -/
theorem V_kept (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

/-- Window `w`'s block at point `t`: its part inside the array, read at the call. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What the body leaves -/

abbrev rAll : Rect S512x4096 := Rect.unit (s := S512x4096) ![0, 0] S512x4096.size inb_S512x4096_S512x4096_0_0
abbrev rTop : Rect S512x4096 := Rect.unit (s := S512x4096) ![0, 0] S128x4096.size inb_S512x4096_S128x4096_0_0
abbrev rGain : Rect S1x4096 := Rect.unit (s := S1x4096) ![0, 0] S1x4096.size inb_S1x4096_S1x4096_0_0
abbrev rTail : Rect S128x4096 := Rect.unit (s := S128x4096) ![0, 0] S128x4096.size inb_S128x4096_S128x4096_0_0

/-- The input's buffer at point `t` with the rows past the array at zero: what the proof data names there. -/
def rows (c : Dev nD) (t : Fin cfg0.N) : Vec F S512x4096 .f32 :=
  win0_0.fill (grid0.coords t) (fun _ => Scalar.ofBits .f32 0#32) (iblk m c 0 t)

/-- A prompt block's result, from the two input buffers. -/
def outPrompt (x0 : Vec F S512x4096 .f32) (x1 : Vec F S1x4096 .f32) : Vec F S512x4096 .f32 :=
  View.canon [⟨rAll, k0_pay1 (View.ld x0 rAll) (View.ld x1 rGain)⟩]

/-- The sample's result, from the two input buffers. -/
def outSample (x0 : Vec F S512x4096 .f32) (x1 : Vec F S1x4096 .f32) : Vec F S128x4096 .f32 :=
  View.canon [⟨rTail, k0_pay2 (View.ld x0 rTop) (View.ld x1 rGain)⟩]

/-- The store of a prompt block covers its buffer. -/
theorem cover_prompt (p : Vec F S512x4096 .f32) (y : S512x4096.Idx) :
    ∃ pc ∈ ([⟨rAll, p⟩] : List (View.Piece (Elt F) S512x4096 .f32)), y ∈ pc.1.set :=
  View.cover_of_tiled [⟨rAll, p⟩] S512x4096.size (by rfl) y

/-- The store of the sample's block covers its buffer. -/
theorem cover_sample (p : Vec F S128x4096 .f32) (y : S128x4096.Idx) :
    ∃ pc ∈ ([⟨rTail, p⟩] : List (View.Piece (Elt F) S128x4096 .f32)), y ∈ pc.1.set :=
  View.cover_of_tiled [⟨rTail, p⟩] S128x4096.size (by rfl) y

/-- The last prompt point at or before `t`: the first result's buffer still holds its block after the last point. -/
def prompt (t : Fin cfg0.N) : Fin cfg0.N := ⟨min t.val 15, lt_of_le_of_lt (Nat.min_le_left _ _) t.isLt⟩

/-! ## The schedule -/

/-- Which branch the body takes at a point, and where the first result is written back. -/
theorem sched : ∀ t : Fin cfg0.N,
    (t.val < 16 → k0_cond1 (grid0.coords t) = 1#1 ∧ ¬ k0_cond2 (grid0.coords t) = 1#1)
    ∧ (¬ t.val < 16 → ¬ k0_cond1 (grid0.coords t) = 1#1 ∧ k0_cond2 (grid0.coords t) = 1#1) :=
  (by decide +kernel : ∀ t : Fin grid0.N, _)

/-- The first result is written back at every point but the sixteenth, whose block the last point shares. -/
theorem flush_prompt : ∀ t : Fin cfg0.N, (cfg0.win 2).flush t = decide (t.val ≠ 15) :=
  (by decide +kernel : ∀ t : Fin grid0.N, win0_2.flush t = decide (t.val ≠ 15))

/-- How much of the input's block lies inside the array: all of it but at the last point, where 128 rows do. -/
theorem inside : ∀ t : Fin cfg0.N, win0_0.xsize (grid0.coords t) 0 = (if t.val < 16 then 512 else 128)
    ∧ win0_0.xsize (grid0.coords t) 1 = 4096 :=
  (by decide +kernel : ∀ t : Fin grid0.N, _)

/-- At a prompt point the whole buffer is fetched, so what was there before does not matter. -/
theorem fill_prompt (t : Fin cfg0.N) (ht : t.val < 16) (d d' : win0_0.block.Idx → Elt F .f32)
    (g : (win0_0.xblock (grid0.coords t)).Idx → Elt F .f32) :
    win0_0.fill (grid0.coords t) d g = win0_0.fill (grid0.coords t) d' g := by
  funext j
  have hj : win0_0.moved (grid0.coords t) j = true := (win0_0.moved_iff _ _).mpr fun a => by
    match a with
    | ⟨0, _⟩ => rw [show win0_0.xsize (grid0.coords t) ⟨0, _⟩ = 512 from (inside t).1.trans (if_pos ht)]; exact (j 0).isLt
    | ⟨1, _⟩ => rw [show win0_0.xsize (grid0.coords t) ⟨1, _⟩ = 4096 from (inside t).2]; exact (j 1).isLt
  unfold Window.fill
  rw [dif_pos hj, dif_pos hj]

/-- The buffer's first 128 rows are fetched at every point. -/
theorem ld_tail (t : Fin cfg0.N) (d d' : win0_0.block.Idx → Elt F .f32)
    (g : (win0_0.xblock (grid0.coords t)).Idx → Elt F .f32) :
    View.ld (Val := Elt F) (e' := .f32) (S := S512x4096) (win0_0.fill (grid0.coords t) d g) rTop
      = View.ld (Val := Elt F) (e' := .f32) (S := S512x4096) (win0_0.fill (grid0.coords t) d' g) rTop := by
  funext y
  rw [View.ld_apply, View.ld_apply]
  have hj : win0_0.moved (grid0.coords t) (rTop.idx y) = true := (win0_0.moved_iff _ _).mpr fun a => by
    match a with
    | ⟨0, _⟩ =>
      rw [show win0_0.xsize (grid0.coords t) ⟨0, _⟩ = _ from (inside t).1]
      have h : (y 0).val < 128 := (y 0).isLt
      show 0 + 1 * (y 0).val < _
      split <;> omega
    | ⟨1, _⟩ =>
      rw [show win0_0.xsize (grid0.coords t) ⟨1, _⟩ = 4096 from (inside t).2]
      have h : (y 1).val < 4096 := (y 1).isLt
      show 0 + 1 * (y 1).val < _
      omega
  unfold Window.fill
  rw [dif_pos hj, dif_pos hj]

/-! ## The body's triples -/

set_option maxHeartbeats 1000000 in
/-- The body at a prompt point, the second result's buffer not touched. -/
theorem prompt_triple (c : Dev nD) (E : Set ℕ) (i : grid0.Coords) (h1 : k0_cond1 i = 1#1) (h2 : ¬ k0_cond2 i = 1#1)
    (arg1 : Memref sig .tc .vmem S512x4096 .f32) (harg1 : arg1.IsWhole) (arg2 : Memref sig .tc .vmem S1x4096 .f32) (harg2 : arg2.IsWhole)
    (arg3 : Memref sig .tc .vmem S512x4096 .f32) (harg3 : arg3.IsWhole) (arg4 : Memref sig .tc .vmem S128x4096 .f32) (harg4 : arg4.IsWhole)
    (x0 : Vec F S512x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outPrompt x0 x1)) -∗ K ⟨⟩))
      ⊢ wp frame (wpE (defs₀ (F := F)) Variants.none c none) E (cc0_final_norm i arg1 harg1 arg2 harg2 arg3 harg3 arg4 harg4) K := by
  simp only [cc0_final_norm_eq_skeleton]; unfold cc0_final_norm_skel
  simp only [dif_pos h1, dif_neg h2]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prompt _)

set_option maxHeartbeats 1000000 in
/-- The body at the last point, the first result's buffer not touched. -/
theorem sample_triple (c : Dev nD) (E : Set ℕ) (i : grid0.Coords) (h1 : ¬ k0_cond1 i = 1#1) (h2 : k0_cond2 i = 1#1)
    (arg1 : Memref sig .tc .vmem S512x4096 .f32) (harg1 : arg1.IsWhole) (arg2 : Memref sig .tc .vmem S1x4096 .f32) (harg2 : arg2.IsWhole)
    (arg3 : Memref sig .tc .vmem S512x4096 .f32) (harg3 : arg3.IsWhole) (arg4 : Memref sig .tc .vmem S128x4096 .f32) (harg4 : arg4.IsWhole)
    (x0 : Vec F S512x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (outSample x0 x1)) -∗ K ⟨⟩))
      ⊢ wp frame (wpE (defs₀ (F := F)) Variants.none c none) E (cc0_final_norm i arg1 harg1 arg2 harg2 arg3 harg3 arg4 harg4) K := by
  simp only [cc0_final_norm_eq_skeleton]; unfold cc0_final_norm_skel
  simp only [dif_neg h1, dif_pos h2]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_sample _)

/-! ## The pipeline's proof data -/

/-- After the body: the inputs' buffers at their blocks, the first result's at the block of the last prompt point so far,
    the second's at the sample's. -/
def dats (_ : Fin 1) (c : Dev nD) : Dat τ (Elt F) Unit ℕ (UR sig nD τ) ℕ cfg0 c where
  A w := V m c (Pipeline.arrRef spec0 w)
  after w t := match w with
    | ⟨0, _⟩ => rows m c t
    | ⟨1, _⟩ => iblk m c 1 t
    | ⟨2, _⟩ => outPrompt (rows m c (prompt t)) (iblk m c 1 (prompt t))
    | ⟨3, _⟩ => outSample (rows m c t) (iblk m c 1 t)
  Φ _ := Pipeline.ΦA spec0 c
  q _ := fullShare
  owed _ := 0

/-- The proof data's arrays are those at the call. -/
theorem A_eq (c : Dev nD) (w : Fin cfg0.W) : (dats m 0 c).A w = V m c (Pipeline.arrRef spec0 w) := by dsimp only [dats]

/-- What the body leaves, window by window. -/
theorem after0_0 (c : Dev nD) (t : Fin cfg0.N) : (dats m 0 c).after 0 t = rows m c t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outPrompt (rows m c (prompt t)) (iblk m c 1 (prompt t)) := by dsimp only [dats]
theorem after0_3 (c : Dev nD) (t : Fin cfg0.N) : (dats m 0 c).after 3 t = outSample (rows m c t) (iblk m c 1 t) := by
  dsimp only [dats]

/-- The body finds the input's block, the rows past the array unspecified. -/
theorem before_rows (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The body finds the weight, fetched once. -/
theorem before_gain (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- At the last point the first result's buffer still holds the last prompt block. -/
theorem before_prompt (c : Dev nD) (t : Fin cfg0.N) (ht : ¬ t.val < 16) (d) : (dats m 0 c).before 2 t d = (dats m 0 c).after 2 t := by
  have hN : t.val < 17 := N_0 ▸ t.isLt
  have h16 : t.val = 16 := by omega
  rw [(dats m 0 c).before_of_pos 2 t (by omega) rfl,
    if_neg (by rw [flush_prompt]; simp [h16])]
  unfold Dat.left
  have hi : cfg0.idle 2 (cfg0.grid.coords ⟨t.val - 1, Nat.lt_of_le_of_lt (Nat.sub_le _ _) t.isLt⟩) = false := by
    show (!(k0_cond1 (grid0.coords ⟨t.val - 1, _⟩) == 1#1)) = false
    rw [((sched ⟨t.val - 1, Nat.lt_of_le_of_lt (Nat.sub_le _ _) t.isLt⟩).1 (by simp only; omega)).1]; rfl
  rw [hi]
  show (dats m 0 c).after 2 _ = _
  rw [after0_2, after0_2, show prompt ⟨t.val - 1, Nat.lt_of_le_of_lt (Nat.sub_le _ _) t.isLt⟩ = prompt t from
    Fin.ext (by simp only [prompt]; omega)]

/-! ## The body's obligation -/

/-- The body's row of the table. -/
theorem body_row (t : Fin cfg0.N) : defs₀ (F := F) .tc cfg0.body (cfg0.bodyArgs t (cfg0.slots t)) = bodyAt0 t := by
  unfold defs₀; rw [Defs.onTc_tc]

/-- The library's obligation of the body, at every point. -/
theorem body_obligation (c : Dev nD) :
    BodyObligationLoose (dats (F := F) m 0 c) (defs₀ (F := F)) Variants.none () Set.univ := fun t => by
  show iprop((dats m 0 c).Φ t.castSucc ∗ (dats m 0 c).owesAt () t.castSucc ∗ bigSep Finset.univ fun w : Fin 4 =>
      iprop(∃ d, owns (c : Thread nD τ) ((cfg0.win w).stage (cfg0.slots t w)) fullShare ((dats m 0 c).before w t d)))
    ⊢ wp frame (wpE (defs₀ (F := F)) Variants.none c none) Set.univ (defs₀ .tc cfg0.body (cfg0.bodyArgs t (cfg0.slots t))) fun _ =>
      iprop((dats m 0 c).Φ t.succ ∗ (dats m 0 c).owesAt () t.succ ∗ bigSep Finset.univ fun w : Fin 4 => (dats m 0 c).leaves w t)
  rw [bigSep_W0, bigSep_W0, body_row]
  have e0 : (dats m 0 c).leaves 0 t = iprop(∃ d, owns (c : Thread nD τ) (win0_0.stage (cfg0.slots t 0)) fullShare
      (win0_0.fill (grid0.coords t) d (win0_0.cut (grid0.coords t) ((dats m 0 c).after 0 t)))) := rfl
  have e1 : (dats m 0 c).leaves 1 t = owns (c : Thread nD τ) (win0_1.stage (cfg0.slots t 1)) fullShare ((dats m 0 c).after 1 t) := rfl
  have hcut : win0_0.cut (grid0.coords t) (rows m c t) = iblk m c 0 t := win0_0.cut_fill _ _ _
  rw [e0, e1, after0_0, hcut, after0_1, show (dats m 0 c).Φ t.succ = (dats m 0 c).Φ t.castSucc from rfl,
    show (dats m 0 c).owesAt () t.succ = (dats m 0 c).owesAt () t.castSucc from rfl]
  by_cases ht : t.val < 16
  · obtain ⟨h1, h2⟩ := (sched t).1 ht
    have e2 : (dats m 0 c).leaves 2 t = owns (c : Thread nD τ) (win0_2.stage (cfg0.slots t 2)) fullShare ((dats m 0 c).after 2 t) := by
      unfold Dat.leaves
      rw [show cfg0.idle 2 (cfg0.grid.coords t) = false from by
        show (!(k0_cond1 (grid0.coords t) == 1#1)) = false
        rw [h1]; rfl]
    have e3 := (dats m 0 c).leaves_idle 3 t
      (show (!(k0_cond2 (grid0.coords t) == 1#1)) = true by simp [h2])
      (Bool.eq_false_iff.mpr fun h => by have := (flush0_3 t).mp h; omega)
    rw [e2, e3, after0_2, show prompt t = t from Fin.ext (by simp only [prompt]; omega)]
    iintro ⟨HΦ, Ho, ⟨%d0, H0⟩, ⟨%d1, H1⟩, ⟨%d2, H2⟩, H3⟩
    rw [before_rows m c t d0, before_gain m c t d1]
    iapply (prompt_triple c Set.univ (grid0.coords t) h1 h2 _ _ _ _ _ _ _ _
      (win0_0.fill (grid0.coords t) d0 (iblk m c 0 t)) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexists d0; iexact H0
    isplitl [H1]; · iexact H1
    isplitl [H2]
    · unfold rows
      rw [fill_prompt t ht (fun _ => Scalar.ofBits .f32 0#32) d0 (iblk m c 0 t)]
      iexact H2
    · iexact H3
  · obtain ⟨h1, h2⟩ := (sched t).2 ht
    have hN : t.val < 17 := N_0 ▸ t.isLt
    have e2 : (dats m 0 c).leaves 2 t = owns (c : Thread nD τ) (win0_2.stage (cfg0.slots t 2)) fullShare ((dats m 0 c).after 2 t) := by
      unfold Dat.leaves
      rw [show cfg0.idle 2 (cfg0.grid.coords t) = true from
        (show (!(k0_cond1 (grid0.coords t) == 1#1)) = true by simp [h1]),
        show (cfg0.win 2).flush t = true from (flush_prompt t).trans (by simp; omega)]
    have e3 : (dats m 0 c).leaves 3 t = owns (c : Thread nD τ) (win0_3.stage (cfg0.slots t 3)) fullShare ((dats m 0 c).after 3 t) := by
      unfold Dat.leaves
      rw [show cfg0.idle 3 (cfg0.grid.coords t) = false from by
        show (!(k0_cond2 (grid0.coords t) == 1#1)) = false
        rw [h2]; rfl]
    rw [e2, e3, after0_3]
    iintro ⟨HΦ, Ho, ⟨%d0, H0⟩, ⟨%d1, H1⟩, ⟨%d2, H2⟩, ⟨%d3, H3⟩⟩
    rw [before_rows m c t d0, before_gain m c t d1, before_prompt m c t ht d2]
    iapply (sample_triple c Set.univ (grid0.coords t) h1 h2 _ _ _ _ _ _ _ _
      (win0_0.fill (grid0.coords t) d0 (iblk m c 0 t)) (iblk m c 1 t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexists d0; iexact H0
    isplitl [H1]; · iexact H1
    isplitl [H2]; · iexact H2
    rw [show outSample (rows m c t) (iblk m c 1 t) = outSample (win0_0.fill (grid0.coords t) d0 (iblk m c 0 t)) (iblk m c 1 t) from by
      unfold outSample rows
      rw [ld_tail t (fun _ => Scalar.ofBits .f32 0#32) d0 (iblk m c 0 t)]]
    iexact H3

/-! ## The run -/

set_option backward.isDefEq.respectTransparency.types false in
set_option maxHeartbeats 800000 in
/-- Every weakly fair execution terminates with every array of the pipeline at what the proof data computes, every other
    buffer as at the call, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := to_call m) (hA := A_eq m) (hΦ := fun _ _ => rfl)

/-- The arguments end as launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).1 0).trans (((dats m 0 c).arrAt_in 0 rfl _).trans ((A_eq m c 0).trans (V_kept m c main_arg0 (by decide)))),
    ((h c).2 main_arg1 (Pipeline.mem_restRefs_of main_arg1 (by decide) (by decide))).trans (V_kept m c main_arg1 (by decide))⟩

/-- The run with the two results named. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, (h.1 c).1 3, kept m r h.1 c⟩) (run_main m ρ)

/-- The frame claim: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨kept m r h.1, h.2⟩) (run_main m ρ)

end Cert.FinalNormIdeal.Run

end
-- ==== Proof.FinalNormValue.lean ====
/-
  The final normalisation: the prompt's rows and the sample's rows that the kernel leaves are the reference's.
-/
module

public import proofs.«01_k».proof.Proof.FinalNormIdealRun
public import proofs.«01_k».proof.Proof.Gen.FinalNormRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.FinalNorm

open Cert.FinalNormIdeal Cert.FinalNormIdeal.Gen Cert.FinalNormIdeal.Run Cert.FinalNormRefIdeal.Read

variable (m : (ℓ : Loc nD τ sig) → Buf (Elt Ideal) ℓ)

/-- Where each window's block lies: the input's at the point's row block, the weight whole, the first result's at the last
    prompt block so far, the second's whole. -/
theorem place : ∀ t : Fin cfg0.N, win0_0.index t = ![t.val, 0] ∧ win0_1.index t = ![0, 0] ∧ win0_2.index t = ![min t.val 15, 0]
    ∧ win0_3.index t = ![0, 0] :=
  (by decide +kernel : ∀ t : Fin grid0.N, _)

/-- A normalised prompt row: the kernel's formula on a block's row is the reference's on the array's. -/
theorem prompt_at (X : FVec Ideal S512x4096 .f32) (G : FVec Ideal S1x4096 .f32) (x : FVec Ideal S8320x4096 .f32) (g : FVec Ideal S4096 .f32)
    (r : Fin 512) (R : Fin 8192) (l : Fin 4096) (hX : ∀ k : Fin 4096, (X (ix2 r k) : EReal) = x (ix2 ⟨R, by omega⟩ k))
    (hG : (G (ix2 0 l) : EReal) = g (ix1 l)) :
    (show EReal from k0_pay1 (F := Ideal) X G (ix2 r l)) = (show EReal from val_main_v13 (F := Ideal) x g (ix2 R l)) := by
  pointwise [k0_pay1, val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  simp only [hX, hG]

/-- A normalised sample row likewise: the reference's rows start at 8192. -/
theorem sample_at (X : FVec Ideal S128x4096 .f32) (G : FVec Ideal S1x4096 .f32) (x : FVec Ideal S8320x4096 .f32) (g : FVec Ideal S4096 .f32)
    (r : Fin 128) (l : Fin 4096) (hX : ∀ k : Fin 4096, (X (ix2 r k) : EReal) = x (ix2 ⟨8192 + r, by omega⟩ k))
    (hG : (G (ix2 0 l) : EReal) = g (ix1 l)) :
    (show EReal from k0_pay2 (F := Ideal) X G (ix2 r l)) = (show EReal from val_main_v27 (F := Ideal) x g (ix2 r l)) := by
  pointwise [k0_pay2, val_main_v14, val_main_v15, val_main_v16, val_main_v17, val_main_v18, val_main_v19, val_main_v20, val_main_v21, val_main_v22, val_main_v23, val_main_v24, val_main_v25, val_main_v26, val_main_v27, val_main_cst_2, val_main_cst_3, val_main_cst_4]
  simp only [hX, hG]

/-- The input's buffer holds the array's rows from the point's block on, where there are any. -/
theorem rows_at (c : Dev nD) (t : Fin cfg0.N) (r : Fin 512) (l : Fin 4096) (h : 512 * t.val + r.val < 8320) :
    (show EReal from rows m c t (ix2 r l)) = (m ((c : Thread nD τ).loc main_arg0) : S8320x4096.Idx → EReal) (ix2 ⟨512 * t.val + r.val, h⟩ l) := by
  have hN : t.val < 17 := N_0 ▸ t.isLt
  have hj : win0_0.moved (grid0.coords t) (ix2 r l) = true := (win0_0.moved_iff _ _).mpr fun a => by
    match a with
    | ⟨0, _⟩ =>
      rw [show win0_0.xsize (grid0.coords t) ⟨0, _⟩ = _ from (inside t).1]
      show r.val < _
      split <;> omega
    | ⟨1, _⟩ => rw [show win0_0.xsize (grid0.coords t) ⟨1, _⟩ = 4096 from (inside t).2]; exact l.isLt
  unfold rows Pipeline.Window.fill
  rw [dif_pos hj]
  unfold iblk
  entry_read
  blk_simp
  blk_ext [place t]

/-- The weight's buffer holds the weight. -/
theorem gain_at (c : Dev nD) (t : Fin cfg0.N) (l : Fin 4096) :
    (show EReal from (show FVec Ideal S1x4096 .f32 from iblk m c 1 t) (ix2 0 l)) = (m ((c : Thread nD τ).loc main_arg1) : S4096.Idx → EReal) (ix1 l) := by
  unfold iblk; entry_read; blk_simp; pointwise; blk_ext [place t]

/-- The first result is the reference's normalised prompt. -/
theorem result_prompt (c : Dev nD) : (dats m 0 c).arrAt 2 (cfgs 0).N
    = (val_main_v13 (F := Ideal) (m ((c : Thread nD τ).loc main_arg0)) (m ((c : Thread nD τ).loc main_arg1)) : S8192x4096.Idx → EReal) := by
  refine (dats m 0 c).arrAt_eq_of_covers 2 _ (by decide +kernel) fun t hf y => ?_
  have hN : t.val < 17 := N_0 ▸ t.isLt
  blk_simp
  rw [after0_2]; unfold outPrompt; frame_out
  obtain ⟨n, l, rfl⟩ : ∃ (n : Fin 512) (l : Fin 4096), y = ix2 n l := ⟨y 0, y 1, by ext a; fin_cases a <;> rfl⟩
  have hp : (prompt t).val = min t.val 15 := rfl
  refine (prompt_at (rows m c (prompt t)) (iblk m c 1 (prompt t)) (m ((c : Thread nD τ).loc main_arg0)) (m ((c : Thread nD τ).loc main_arg1)) n
    ⟨512 * min t.val 15 + n.val, by omega⟩ l (fun k => rows_at m c (prompt t) n k (by omega)) (gain_at m c (prompt t) l)).trans
    (congrArg (val_main_v13 (F := Ideal) _ _) ?_)
  blk_ext [place t]

/-- The second result is the reference's normalised sample. -/
theorem result_sample (c : Dev nD) : (dats m 0 c).arrAt 3 (cfgs 0).N
    = (val_main_v27 (F := Ideal) (m ((c : Thread nD τ).loc main_arg0)) (m ((c : Thread nD τ).loc main_arg1)) : S128x4096.Idx → EReal) := by
  refine (dats m 0 c).arrAt_eq_of_covers 3 _ (by decide +kernel) fun t hf y => ?_
  have ht : t.val = 16 := by have := (flush0_3 t).mp hf; have hN : t.val < 17 := N_0 ▸ t.isLt; omega
  blk_simp
  rw [after0_3]; unfold outSample; frame_out
  obtain ⟨n, l, rfl⟩ : ∃ (n : Fin 128) (l : Fin 4096), y = ix2 n l := ⟨y 0, y 1, by ext a; fin_cases a <;> rfl⟩
  refine (sample_at (View.ld (rows m c t) rTop) (iblk m c 1 t) (m ((c : Thread nD τ).loc main_arg0)) (m ((c : Thread nD τ).loc main_arg1)) n l
    (fun k => ?_) (gain_at m c t l)).trans (congrArg (val_main_v27 (F := Ideal) _ _) ?_)
  · refine Eq.trans ?_ ((rows_at m c t ⟨n.val, by omega⟩ k (by simp only; omega)).trans ?_)
    · rw [View.ld_apply]
      refine congrArg (rows m c t) (funext fun a => Fin.ext ?_)
      match a with
      | ⟨0, _⟩ => show 0 + 1 * n.val = n.val; omega
      | ⟨1, _⟩ => show 0 + 1 * k.val = k.val; omega
    · blk_ext [ht]
  · blk_ext [place t]

end Cert.Proof.FinalNorm

end
-- ==== Proof.OutProjIdealRun.lean ====
/-
  The run of the program `OutProjIdeal` (hand-written): the output projection's one pallas_call, a grid of eight row blocks
  of 1040 rows by eight column blocks of 512, point `8 i + j` at block `(i, j)`. A block of the result is the sum of two
  products of 2048 positions, the attention's rows with the upper half of the weight and the gate's with the lower half, added
  to the residual. The residual's prompt rows end at 8192, inside the last row block: its window is cut there to 912 rows, so
  its buffer's other rows are unspecified, and the body reads none of them (`ld_upper`) but takes the last 128 rows'
  residual from the samples' array. Two windows are on the one weight array, each at its share of it.
  Everything is over any float values, so the frame serves the program and its idealisation, which have the same text.
  `run_main` is the run with every array of the pipeline named, `run_blocks` the same read at the result and arguments,
  `frame` the frame claim.
-/
module

public import proofs.«01_k».proof.Proof.Gen.OutProjIdeal.Launch
public import proofs.«01_k».proof.Proof.Gen.OutProjIdeal.Skeleton
public import proofs.«01_k».proof.Proof.Gen.OutProjIdeal.Points
public import Idealize.ShloMosaic.Lib.Pipeline.FrameBody
public import Idealize.ShloMosaic.Lib.Pipeline.Value
public import Idealize.ShloMosaic.Lib.Pipeline.ValueKit.Tiles
public import Idealize.ShloMosaic.Lib.Claim
public import Idealize.ShloMosaic.Lib.Tactic

@[expose] public section

set_option maxRecDepth 16384

noncomputable section

namespace Cert.OutProjIdeal.Run

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the call -/

/-- The buffers of core `c` when the call is entered: after the host's three reshapes. -/
abbrev V (c : Dev nD) (b : Ref sig .tc) : Buf (Elt F) ((c : Thread nD τ).loc b) :=
  StableHlo.after hostOps0 (fun b => m (c, b)) b

/-- The host's operations allocate nothing. -/
theorem fresh_none : (hostOps0 : List (HloOp τ sig (Elt F))).Forall fun op => op.fresh = ∅ := by
  simp only [List.Forall]; repeat' constructor

/-- The program up to the call. -/
theorem to_call : Pipeline.HMain (Ix := Unit) (Name := ℕ) (U := UR sig nD τ) (Lvl := ℕ) cfgs 0 defs₀ Variants.none m
    (main (F := F)) (V m) :=
  Pipeline.hmain_prefix cfgs 0 defs₀ Variants.none m main hostOps0 hostOps0_sub fresh_none main_chain

/-- A buffer other than the reshaped ones is at the call as launched. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- Window `w`'s block at point `t`: its part inside the array, read at the call. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What the body leaves -/

abbrev rRows : Rect S1040x2048 := Rect.unit (s := S1040x2048) ![0, 0] S1040x2048.size inb_S1040x2048_S1040x2048_0_0
abbrev rWeight : Rect S2048x512 := Rect.unit (s := S2048x512) ![0, 0] S2048x512.size inb_S2048x512_S2048x512_0_0
abbrev rAll : Rect S1040x512 := Rect.unit (s := S1040x512) ![0, 0] S1040x512.size inb_S1040x512_S1040x512_0_0
abbrev rUpper : Rect S1040x512 := Rect.unit (s := S1040x512) ![0, 0] S912x512.size inb_S1040x512_S912x512_0_0
abbrev rLower : Rect S1040x512 := Rect.unit (s := S1040x512) ![912, 0] S128x512.size inb_S1040x512_S128x512_912_0
abbrev rTail : Rect S128x512 := Rect.unit (s := S128x512) ![0, 0] S128x512.size inb_S128x512_S128x512_0_0

/-- The residual's buffer at point `t` with the rows past the array at zero: what the proof data names there. -/
def resid (c : Dev nD) (t : Fin cfg0.N) : Vec F S1040x512 .f32 :=
  win0_4.fill (grid0.coords t) (fun _ => Scalar.ofBits .f32 0#32) (iblk m c 4 t)

/-- A result block before the last row block, from the input buffers. -/
def outInner (x0 x1 : Vec F S1040x2048 .bf16) (x2 x3 : Vec F S2048x512 .f32) (x4 : Vec F S1040x512 .f32) : Vec F S1040x512 .f32 :=
  View.canon [⟨rAll, k0_pay2 (View.ld x0 rRows) (View.ld x2 rWeight) (View.ld x1 rRows) (View.ld x3 rWeight) (View.ld x4 rAll)⟩]

/-- The two stores of a block of the last row block, the latest first. -/
abbrev lastPieces (x0 x1 : Vec F S1040x2048 .bf16) (x2 x3 : Vec F S2048x512 .f32) (x4 : Vec F S1040x512 .f32) (x5 : Vec F S128x512 .f32) :
    List (View.Piece (Elt F) S1040x512 .f32) :=
  [⟨rLower, k0_pay4 (View.ld x0 rRows) (View.ld x2 rWeight) (View.ld x1 rRows) (View.ld x3 rWeight) (View.ld x5 rTail)⟩,
    ⟨rUpper, k0_pay3 (View.ld x0 rRows) (View.ld x2 rWeight) (View.ld x1 rRows) (View.ld x3 rWeight) (View.ld x4 rUpper)⟩]

/-- A result block of the last row block, from the input buffers. -/
def outLast (x0 x1 : Vec F S1040x2048 .bf16) (x2 x3 : Vec F S2048x512 .f32) (x4 : Vec F S1040x512 .f32) (x5 : Vec F S128x512 .f32) :
    Vec F S1040x512 .f32 :=
  View.canon (lastPieces x0 x1 x2 x3 x4 x5)

/-- The one store of an inner block covers its buffer. -/
theorem cover_inner (p : Vec F S1040x512 .f32) (y : S1040x512.Idx) :
    ∃ pc ∈ ([⟨rAll, p⟩] : List (View.Piece (Elt F) S1040x512 .f32)), y ∈ pc.1.set :=
  View.cover_of_tiled [⟨rAll, p⟩] S1040x512.size (by rfl) y

/-- The two stores of a last block cover its buffer: 912 rows and 128. -/
theorem cover_last (p : Vec F S912x512 .f32) (q : Vec F S128x512 .f32) (y : S1040x512.Idx) :
    ∃ pc ∈ ([⟨rLower, q⟩, ⟨rUpper, p⟩] : List (View.Piece (Elt F) S1040x512 .f32)), y ∈ pc.1.set := by
  have h1 : (y 1).val < 512 := (y 1).isLt
  by_cases h : (y 0).val < 912
  · exact ⟨_, List.mem_cons_of_mem _ List.mem_cons_self, (Rect.mem_set_unit (inb := inb_S1040x512_S912x512_0_0)).mpr
      (Fin.forall_fin_two.mpr ⟨⟨Nat.zero_le _, h⟩, ⟨Nat.zero_le _, h1⟩⟩)⟩
  · have h0 : (y 0).val < 1040 := (y 0).isLt
    exact ⟨_, List.mem_cons_self, (Rect.mem_set_unit (inb := inb_S1040x512_S128x512_912_0)).mpr
      (Fin.forall_fin_two.mpr ⟨⟨Nat.le_of_not_lt h, h0⟩, ⟨Nat.zero_le _, h1⟩⟩)⟩

/-! ## The schedule -/

/-- Which branch the body takes at a point. -/
theorem sched : ∀ t : Fin cfg0.N,
    (t.val < 56 → k0_cond1 (grid0.coords t) = 1#1 ∧ ¬ k0_cond2 (grid0.coords t) = 1#1)
    ∧ (¬ t.val < 56 → ¬ k0_cond1 (grid0.coords t) = 1#1 ∧ k0_cond2 (grid0.coords t) = 1#1) :=
  (by decide +kernel : ∀ t : Fin grid0.N, _)

/-- The body stores the result's block at every point. -/
theorem stores (t : Fin cfg0.N) : (!(k0_cond1 (grid0.coords t) == 1#1) && !(k0_cond2 (grid0.coords t) == 1#1)) = false := by
  by_cases ht : t.val < 56
  · simp [((sched t).1 ht).1]
  · simp [((sched t).2 ht).2]

/-- How much of the residual's block lies inside the array: all of it but in the last row block, where 912 rows do. -/
theorem inside : ∀ t : Fin cfg0.N, win0_4.xsize (grid0.coords t) 0 = (if t.val < 56 then 1040 else 912)
    ∧ win0_4.xsize (grid0.coords t) 1 = 512 :=
  (by decide +kernel : ∀ t : Fin grid0.N, _)

/-- Before the last row block the whole buffer is fetched, so what was there before does not matter. -/
theorem fill_inner (t : Fin cfg0.N) (ht : t.val < 56) (d d' : win0_4.block.Idx → Elt F .f32)
    (g : (win0_4.xblock (grid0.coords t)).Idx → Elt F .f32) :
    win0_4.fill (grid0.coords t) d g = win0_4.fill (grid0.coords t) d' g := by
  funext j
  have hj : win0_4.moved (grid0.coords t) j = true := (win0_4.moved_iff _ _).mpr fun a => by
    match a with
    | ⟨0, _⟩ => rw [show win0_4.xsize (grid0.coords t) ⟨0, _⟩ = 1040 from (inside t).1.trans (if_pos ht)]; exact (j 0).isLt
    | ⟨1, _⟩ => rw [show win0_4.xsize (grid0.coords t) ⟨1, _⟩ = 512 from (inside t).2]; exact (j 1).isLt
  unfold Window.fill
  rw [dif_pos hj, dif_pos hj]

/-- The buffer's first 912 rows are fetched at every point. -/
theorem ld_upper (t : Fin cfg0.N) (d d' : win0_4.block.Idx → Elt F .f32)
    (g : (win0_4.xblock (grid0.coords t)).Idx → Elt F .f32) :
    View.ld (Val := Elt F) (e' := .f32) (S := S1040x512) (win0_4.fill (grid0.coords t) d g) rUpper
      = View.ld (Val := Elt F) (e' := .f32) (S := S1040x512) (win0_4.fill (grid0.coords t) d' g) rUpper := by
  funext y
  rw [View.ld_apply, View.ld_apply]
  have hj : win0_4.moved (grid0.coords t) (rUpper.idx y) = true := (win0_4.moved_iff _ _).mpr fun a => by
    match a with
    | ⟨0, _⟩ =>
      rw [show win0_4.xsize (grid0.coords t) ⟨0, _⟩ = _ from (inside t).1]
      have h : (y 0).val < 912 := (y 0).isLt
      show 0 + 1 * (y 0).val < _
      split <;> omega
    | ⟨1, _⟩ =>
      rw [show win0_4.xsize (grid0.coords t) ⟨1, _⟩ = 512 from (inside t).2]
      have h : (y 1).val < 512 := (y 1).isLt
      show 0 + 1 * (y 1).val < _
      omega
  unfold Window.fill
  rw [dif_pos hj, dif_pos hj]

/-! ## The body's triples -/

set_option maxHeartbeats 2000000 in
/-- The body before the last row block. -/
theorem inner_triple (c : Dev nD) (E : Set ℕ) (i : grid0.Coords) (h1 : k0_cond1 i = 1#1) (h2 : ¬ k0_cond2 i = 1#1)
    (arg2 : Memref sig .tc .vmem S1040x2048 .bf16) (harg2 : arg2.IsWhole)
    (arg3 : Memref sig .tc .vmem S1040x2048 .bf16) (harg3 : arg3.IsWhole)
    (arg4 : Memref sig .tc .vmem S2048x512 .f32) (harg4 : arg4.IsWhole)
    (arg5 : Memref sig .tc .vmem S2048x512 .f32) (harg5 : arg5.IsWhole)
    (arg6 : Memref sig .tc .vmem S1040x512 .f32) (harg6 : arg6.IsWhole)
    (arg7 : Memref sig .tc .vmem S128x512 .f32) (harg7 : arg7.IsWhole)
    (arg8 : Memref sig .tc .vmem S1040x512 .f32) (harg8 : arg8.IsWhole)
    (x0 : Vec F S1040x2048 .bf16) (x1 : Vec F S1040x2048 .bf16) (x2 : Vec F S2048x512 .f32) (x3 : Vec F S2048x512 .f32) (x4 : Vec F S1040x512 .f32) (x5 : Vec F S128x512 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5 ∗ (∃ d, owns (c : Thread nD τ) arg8 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (outInner x0 x1 x2 x3 x4)) -∗ K ⟨⟩))
      ⊢ wp frame (wpE (defs₀ (F := F)) Variants.none c none) E (cc0_out_proj i arg2 harg2 arg3 harg3 arg4 harg4 arg5 harg5 arg6 harg6 arg7 harg7 arg8 harg8) K := by
  simp only [cc0_out_proj_eq_skeleton]; unfold cc0_out_proj_skel
  simp only [dif_pos h1, dif_neg h2]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_inner _)

set_option maxHeartbeats 2000000 in
/-- The body in the last row block. -/
theorem last_triple (c : Dev nD) (E : Set ℕ) (i : grid0.Coords) (h1 : ¬ k0_cond1 i = 1#1) (h2 : k0_cond2 i = 1#1)
    (arg2 : Memref sig .tc .vmem S1040x2048 .bf16) (harg2 : arg2.IsWhole)
    (arg3 : Memref sig .tc .vmem S1040x2048 .bf16) (harg3 : arg3.IsWhole)
    (arg4 : Memref sig .tc .vmem S2048x512 .f32) (harg4 : arg4.IsWhole)
    (arg5 : Memref sig .tc .vmem S2048x512 .f32) (harg5 : arg5.IsWhole)
    (arg6 : Memref sig .tc .vmem S1040x512 .f32) (harg6 : arg6.IsWhole)
    (arg7 : Memref sig .tc .vmem S128x512 .f32) (harg7 : arg7.IsWhole)
    (arg8 : Memref sig .tc .vmem S1040x512 .f32) (harg8 : arg8.IsWhole)
    (x0 : Vec F S1040x2048 .bf16) (x1 : Vec F S1040x2048 .bf16) (x2 : Vec F S2048x512 .f32) (x3 : Vec F S2048x512 .f32) (x4 : Vec F S1040x512 .f32) (x5 : Vec F S128x512 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5 ∗ (∃ d, owns (c : Thread nD τ) arg8 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (outLast x0 x1 x2 x3 x4 x5)) -∗ K ⟨⟩))
      ⊢ wp frame (wpE (defs₀ (F := F)) Variants.none c none) E (cc0_out_proj i arg2 harg2 arg3 harg3 arg4 harg4 arg5 harg5 arg6 harg6 arg7 harg7 arg8 harg8) K := by
  simp only [cc0_out_proj_eq_skeleton]; unfold cc0_out_proj_skel
  simp only [dif_neg h1, dif_pos h2]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_last _ _)

/-! ## The pipeline's proof data -/

/-- After the body: the inputs' buffers at their blocks, the result's at the sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => resid m c t
    | ⟨5, _⟩ => iblk m c 5 t
    | ⟨6, _⟩ => if t.val < 56 then outInner (iblk m c 0 t) (iblk m c 1 t) (iblk m c 2 t) (iblk m c 3 t) (resid m c t)
        else outLast (iblk m c 0 t) (iblk m c 1 t) (iblk m c 2 t) (iblk m c 3 t) (resid m c t) (iblk m c 5 t)
  Φ _ := Pipeline.ΦA spec0 c
  q w := Pipeline.shareOf spec0 w
  owed _ := 0

/-- The proof data's arrays are those at the call. -/
theorem A_eq (c : Dev nD) (w : Fin cfg0.W) : (dats m 0 c).A w = V m c (Pipeline.arrRef spec0 w) := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_5 (c : Dev nD) (t : Fin cfg0.N) : (dats m 0 c).after 5 t = iblk m c 5 t := by dsimp only [dats]
theorem after0_4 (c : Dev nD) (t : Fin cfg0.N) : (dats m 0 c).after 4 t = resid m c t := by dsimp only [dats]
theorem after0_6_inner (c : Dev nD) (t : Fin cfg0.N) (ht : t.val < 56) : (dats m 0 c).after 6 t
    = outInner (iblk m c 0 t) (iblk m c 1 t) (iblk m c 2 t) (iblk m c 3 t) (resid m c t) := by dsimp only [dats]; exact if_pos ht
theorem after0_6_last (c : Dev nD) (t : Fin cfg0.N) (ht : ¬ t.val < 56) : (dats m 0 c).after 6 t
    = outLast (iblk m c 0 t) (iblk m c 1 t) (iblk m c 2 t) (iblk m c 3 t) (resid m c t) (iblk m c 5 t) := by
  dsimp only [dats]; exact if_neg ht

/-- The body finds the residual's block, the rows past the array unspecified. -/
theorem before_resid (c : Dev nD) (t : Fin cfg0.N) (d) :
    (dats m 0 c).before 4 t d = win0_4.fill (grid0.coords t) d (iblk m c 4 t) := by
  unfold Dat.before; rw [if_pos (fetch0_4 t)]
  unfold Dat.fetched Dat.blockOf iblk; rw [A_eq]

/-- The body finds each other input's block, whole. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body's obligation -/

/-- The body's row of the table. -/
theorem body_row (t : Fin cfg0.N) : defs₀ (F := F) .tc cfg0.body (cfg0.bodyArgs t (cfg0.slots t)) = bodyAt0 t := by
  unfold defs₀; rw [Defs.onTc_tc]

set_option maxHeartbeats 1000000 in
/-- The library's obligation of the body, at every point. -/
theorem body_obligation (c : Dev nD) :
    BodyObligationLoose (dats (F := F) m 0 c) (defs₀ (F := F)) Variants.none () Set.univ := fun t => by
  show iprop((dats m 0 c).Φ t.castSucc ∗ (dats m 0 c).owesAt () t.castSucc ∗ bigSep Finset.univ fun w : Fin 7 =>
      iprop(∃ d, owns (c : Thread nD τ) ((cfg0.win w).stage (cfg0.slots t w)) fullShare ((dats m 0 c).before w t d)))
    ⊢ wp frame (wpE (defs₀ (F := F)) Variants.none c none) Set.univ (defs₀ .tc cfg0.body (cfg0.bodyArgs t (cfg0.slots t))) fun _ =>
      iprop((dats m 0 c).Φ t.succ ∗ (dats m 0 c).owesAt () t.succ ∗ bigSep Finset.univ fun w : Fin 7 => (dats m 0 c).leaves w t)
  rw [bigSep_W0, bigSep_W0, body_row]
  have e0 : (dats m 0 c).leaves 0 t = owns (c : Thread nD τ) (win0_0.stage (cfg0.slots t 0)) fullShare ((dats m 0 c).after 0 t) := rfl
  have e1 : (dats m 0 c).leaves 1 t = owns (c : Thread nD τ) (win0_1.stage (cfg0.slots t 1)) fullShare ((dats m 0 c).after 1 t) := rfl
  have e2 : (dats m 0 c).leaves 2 t = owns (c : Thread nD τ) (win0_2.stage (cfg0.slots t 2)) fullShare ((dats m 0 c).after 2 t) := rfl
  have e3 : (dats m 0 c).leaves 3 t = owns (c : Thread nD τ) (win0_3.stage (cfg0.slots t 3)) fullShare ((dats m 0 c).after 3 t) := rfl
  have e5 : (dats m 0 c).leaves 5 t = owns (c : Thread nD τ) (win0_5.stage (cfg0.slots t 5)) fullShare ((dats m 0 c).after 5 t) := rfl
  have e4 : (dats m 0 c).leaves 4 t = iprop(∃ d, owns (c : Thread nD τ) (win0_4.stage (cfg0.slots t 4)) fullShare
      (win0_4.fill (grid0.coords t) d (win0_4.cut (grid0.coords t) ((dats m 0 c).after 4 t)))) := rfl
  have e6 : (dats m 0 c).leaves 6 t = owns (c : Thread nD τ) (win0_6.stage (cfg0.slots t 6)) fullShare ((dats m 0 c).after 6 t) := by
    unfold Dat.leaves
    rw [show cfg0.idle 6 (cfg0.grid.coords t) = false from stores t]
  have hcut : win0_4.cut (grid0.coords t) (resid m c t) = iblk m c 4 t := win0_4.cut_fill _ _ _
  rw [e0, e1, e2, e3, e4, e5, e6, after0_0, after0_1, after0_2, after0_3, after0_4, hcut, after0_5,
    show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before_resid m c t d4, before0_5 m c t d5]
  by_cases ht : t.val < 56
  · obtain ⟨h1, h2⟩ := (sched t).1 ht
    rw [after0_6_inner m c t ht]
    iapply (inner_triple c Set.univ (grid0.coords t) h1 h2 _ _ _ _ _ _ _ _ _ _ _ _ _ _ (iblk m c 0 t) (iblk m c 1 t) (iblk m c 2 t)
      (iblk m c 3 t) (win0_4.fill (grid0.coords t) d4 (iblk m c 4 t)) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    isplitl [H5]; · iexact H5
    unfold resid
    rw [fill_inner t ht (fun _ => Scalar.ofBits .f32 0#32) d4 (iblk m c 4 t)]
    iexact H6
  · obtain ⟨h1, h2⟩ := (sched t).2 ht
    rw [after0_6_last m c t ht]
    iapply (last_triple c Set.univ (grid0.coords t) h1 h2 _ _ _ _ _ _ _ _ _ _ _ _ _ _ (iblk m c 0 t) (iblk m c 1 t) (iblk m c 2 t)
      (iblk m c 3 t) (win0_4.fill (grid0.coords t) d4 (iblk m c 4 t)) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    isplitl [H5]; · iexact H5
    rw [show outLast (iblk m c 0 t) (iblk m c 1 t) (iblk m c 2 t) (iblk m c 3 t) (resid m c t) (iblk m c 5 t)
        = outLast (iblk m c 0 t) (iblk m c 1 t) (iblk m c 2 t) (iblk m c 3 t) (win0_4.fill (grid0.coords t) d4 (iblk m c 4 t)) (iblk m c 5 t) from by
      unfold outLast lastPieces resid
      rw [ld_upper t (fun _ => Scalar.ofBits .f32 0#32) d4 (iblk m c 4 t)]]
    iexact H6

/-! ## The run -/

set_option backward.isDefEq.respectTransparency.types false in
set_option maxHeartbeats 800000 in
/-- Every weakly fair execution terminates with every array of the pipeline at what the proof data computes, every other
    buffer as at the call, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl) (howed := fun _ _ => rfl) (V := V m) (hmain := to_call m)
    (hA := A_eq m) (hΦ := fun _ _ => rfl)

/-- The arguments end as launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans (((dats m 0 c).arrAt_in 0 rfl _).trans ((A_eq m c 0).trans (V_kept m c main_arg0 (by decide) (by decide) (by decide)))),
    ((h c).1 1).trans (((dats m 0 c).arrAt_in 1 rfl _).trans ((A_eq m c 1).trans (V_kept m c main_arg1 (by decide) (by decide) (by decide)))),
    ((h c).2 main_arg2 (Pipeline.mem_restRefs_of main_arg2 (by decide) (by decide))).trans (V_kept m c main_arg2 (by decide) (by decide) (by decide)),
    ((h c).2 main_arg3 (Pipeline.mem_restRefs_of main_arg3 (by decide) (by decide))).trans (V_kept m c main_arg3 (by decide) (by decide) (by decide)),
    ((h c).2 main_arg4 (Pipeline.mem_restRefs_of main_arg4 (by decide) (by decide))).trans (V_kept m c main_arg4 (by decide) (by decide) (by decide))⟩

/-- The run with the result named. -/
theorem run_blocks : θ_run defs (onTc (τ := τ) (main (F := F))) ⟨m, fun _ => 0, ρ⟩ fun r => ∀ c : Dev nD,
      r.2.mem ((c : Thread nD τ).loc main_v3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 6, kept m r h.1 c⟩) (run_main m ρ)

/-- The frame claim: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_main m ρ)

end Cert.OutProjIdeal.Run

end
-- ==== Proof.OutProjValue.lean ====
/-
  The output projection: the kernel adds two products of 2048 positions, the attention's rows with the weight's upper half and
  the gate's rows with its lower half; the reference takes one product of 4096 positions of the two joined side by side. The
  residual is the prompt's rows followed by the samples'.
-/
module

public import proofs.«01_k».proof.Proof.OutProjIdealRun
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.OutProj

open Cert.OutProjIdeal Cert.OutProjIdeal.Gen Cert.OutProjIdeal.Run Cert.OutProjRefIdeal.Read

variable (m : (ℓ : Loc nD τ sig) → Buf (Elt Ideal) ℓ)

/-- Where each window's block lies at point `8 i + j`: the rows at `i`, the weight's two halves at column block `j`, the prompt's
    residual and the result at `(i, j)`, the samples' residual at column block `j`. -/
theorem place : ∀ t : Fin cfg0.N, win0_0.index t = ![t.val / 8, 0] ∧ win0_1.index t = ![t.val / 8, 0] ∧ win0_2.index t = ![0, t.val % 8]
    ∧ win0_3.index t = ![1, t.val % 8] ∧ win0_4.index t = ![t.val / 8, t.val % 8] ∧ win0_5.index t = ![0, t.val % 8]
    ∧ win0_6.index t = ![t.val / 8, t.val % 8] :=
  (by decide +kernel : ∀ t : Fin grid0.N, _)

/-! ## The reference at a point -/

/-- The joined rows are the attention's on the left. -/
theorem left_at (a g : FVec Ideal S8320x2048 .bf16) (R : Fin 8320) (k : Fin 2048) :
    (show EReal from val_main_v4 (F := Ideal) a g (ix2 R ⟨k.val, by omega⟩)) = a (ix2 R k) := by
  pointwise [val_main_v4, val_main_v3]

/-- The joined rows are the gate's on the right. -/
theorem right_at (a g : FVec Ideal S8320x2048 .bf16) (R : Fin 8320) (k : Fin 2048) :
    (show EReal from val_main_v4 (F := Ideal) a g (ix2 R ⟨2048 + k.val, by omega⟩)) = g (ix2 R k) := by
  pointwise [val_main_v4, val_main_v3]

/-- The weight without its leading axis. -/
theorem weight_at (w : FVec Ideal S1x4096x4096 .f32) (k L : Fin 4096) :
    (show EReal from val_main_v5 (F := Ideal) w (ix2 k L)) = w (ix3 0 k L) := by
  pointwise [val_main_v5]

/-- The reference's product, in two halves of its positions. -/
theorem product (a g : FVec Ideal S8320x2048 .bf16) (w : FVec Ideal S1x4096x4096 .f32) (R : Fin 8320) (L : Fin 4096) :
    (show EReal from val_main_v6 (F := Ideal) a g w (ix2 R L))
      = (∑ k : Fin 2048, (show EReal from a (ix2 R k)) * (show EReal from w (ix3 0 ⟨k.val, by omega⟩ L)))
        + ∑ k : Fin 2048, (show EReal from g (ix2 R k)) * (show EReal from w (ix3 0 ⟨2048 + k.val, by omega⟩ L)) := by
  rw [show (show EReal from val_main_v6 (F := Ideal) a g w (ix2 R L)) = ∑ k : Fin 4096, (show EReal from val_main_v4 (F := Ideal) a g (ix2 R k)) * (show EReal from val_main_v5 (F := Ideal) w (ix2 k L)) from by
    pointwise [val_main_v6]]
  refine (Fin.sum_univ_add (a := 2048) (b := 2048) (fun k : Fin 4096 => (show EReal from val_main_v4 (F := Ideal) a g (ix2 R k)) * (show EReal from val_main_v5 (F := Ideal) w (ix2 k L)))).trans ?_
  refine congrArg₂ (· + ·) (Finset.sum_congr rfl fun k _ => ?_) (Finset.sum_congr rfl fun k _ => ?_)
  · exact congrArg₂ (· * ·) (left_at a g R k) (weight_at w ⟨k.val, by omega⟩ L)
  · exact congrArg₂ (· * ·) (right_at a g R k) (weight_at w ⟨2048 + k.val, by omega⟩ L)

/-! ## The kernel at a point -/

/-- The kernel's two products on a block's row are the reference's one on the array's. -/
theorem product_at (A G : FVec Ideal S1040x2048 .bf16) (U D : FVec Ideal S2048x512 .f32) (a g : FVec Ideal S8320x2048 .bf16) (w : FVec Ideal S1x4096x4096 .f32)
    (r : Fin 1040) (R : Fin 8320) (l : Fin 512) (L : Fin 4096) (hA : ∀ k : Fin 2048, (A (ix2 r k) : EReal) = a (ix2 R k))
    (hG : ∀ k : Fin 2048, (G (ix2 r k) : EReal) = g (ix2 R k)) (hU : ∀ k : Fin 2048, (U (ix2 k l) : EReal) = w (ix3 0 ⟨k.val, by omega⟩ L))
    (hD : ∀ k : Fin 2048, (D (ix2 k l) : EReal) = w (ix3 0 ⟨2048 + k.val, by omega⟩ L)) :
    (show EReal from k0_pay1 (F := Ideal) A U G D (ix2 r l)) = (show EReal from val_main_v6 (F := Ideal) a g w (ix2 R L)) := by
  rw [product]
  pointwise [k0_pay1]
  simp only [hA, hG, hU, hD]

/-- The attention's rows. -/
theorem attn_at (c : Dev nD) (t : Fin cfg0.N) (r : Fin 1040) (R : Fin 8320) (h : R.val = t.val / 8 * 1040 + r.val) (k : Fin 2048) :
    (show EReal from (show FVec Ideal S1040x2048 .bf16 from iblk m c 0 t) (ix2 r k)) = (m ((c : Thread nD τ).loc main_arg0) : S8320x2048.Idx → EReal) (ix2 R k) := by
  unfold iblk; entry_read; blk_simp; blk_ext [place t]

/-- The gate's rows. -/
theorem gate_at (c : Dev nD) (t : Fin cfg0.N) (r : Fin 1040) (R : Fin 8320) (h : R.val = t.val / 8 * 1040 + r.val) (k : Fin 2048) :
    (show EReal from (show FVec Ideal S1040x2048 .bf16 from iblk m c 1 t) (ix2 r k)) = (m ((c : Thread nD τ).loc main_arg1) : S8320x2048.Idx → EReal) (ix2 R k) := by
  unfold iblk; entry_read; blk_simp; blk_ext [place t]

/-- The weight's upper half. -/
theorem upper_at (c : Dev nD) (t : Fin cfg0.N) (l : Fin 512) (L : Fin 4096) (h : L.val = t.val % 8 * 512 + l.val) (k : Fin 2048) :
    (show EReal from (show FVec Ideal S2048x512 .f32 from iblk m c 2 t) (ix2 k l)) = (m ((c : Thread nD τ).loc main_arg2) : S1x4096x4096.Idx → EReal) (ix3 0 ⟨k.val, by omega⟩ L) := by
  unfold iblk; entry_read; blk_simp; pointwise; blk_ext [place t]

/-- The weight's lower half. -/
theorem lower_at (c : Dev nD) (t : Fin cfg0.N) (l : Fin 512) (L : Fin 4096) (h : L.val = t.val % 8 * 512 + l.val) (k : Fin 2048) :
    (show EReal from (show FVec Ideal S2048x512 .f32 from iblk m c 3 t) (ix2 k l)) = (m ((c : Thread nD τ).loc main_arg2) : S1x4096x4096.Idx → EReal) (ix3 0 ⟨2048 + k.val, by omega⟩ L) := by
  unfold iblk; entry_read; blk_simp; pointwise; blk_ext [place t]

/-- The residual's prompt rows, where there are any. -/
theorem prompt_at (c : Dev nD) (t : Fin cfg0.N) (r : Fin 1040) (R : Fin 8320) (hR : R.val = t.val / 8 * 1040 + r.val) (h : R.val < 8192)
    (l : Fin 512) (L : Fin 4096) (hL : L.val = t.val % 8 * 512 + l.val) :
    (show EReal from resid m c t (ix2 r l)) = (show EReal from val_main_v2 (F := Ideal) (m ((c : Thread nD τ).loc main_arg3)) (m ((c : Thread nD τ).loc main_arg4)) (ix2 R L)) := by
  have hN : t.val < 64 := N_0 ▸ t.isLt
  have hj : win0_4.moved (grid0.coords t) (ix2 r l) = true := (win0_4.moved_iff _ _).mpr fun a => by
    match a with
    | ⟨0, _⟩ =>
      rw [show win0_4.xsize (grid0.coords t) ⟨0, _⟩ = _ from (inside t).1]
      show r.val < _
      split <;> omega
    | ⟨1, _⟩ => rw [show win0_4.xsize (grid0.coords t) ⟨1, _⟩ = 512 from (inside t).2]; exact l.isLt
  unfold resid Pipeline.Window.fill
  rw [dif_pos hj]
  unfold iblk
  entry_read
  blk_simp
  pointwise [val_main_v2]
  rw [dif_pos (show (R : ℕ) < 8192 from h)]
  pointwise [val_main_v0]
  blk_ext [place t]

/-- The residual's sample rows. -/
theorem sample_at (c : Dev nD) (t : Fin cfg0.N) (r : Fin 128) (R : Fin 8320) (hR : R.val = 8192 + r.val)
    (l : Fin 512) (L : Fin 4096) (hL : L.val = t.val % 8 * 512 + l.val) :
    (show EReal from (show FVec Ideal S128x512 .f32 from iblk m c 5 t) (ix2 r l)) = (show EReal from val_main_v2 (F := Ideal) (m ((c : Thread nD τ).loc main_arg3)) (m ((c : Thread nD τ).loc main_arg4)) (ix2 R L)) := by
  unfold iblk
  entry_read
  blk_simp
  pointwise [val_main_v2]
  rw [dif_neg (show ¬ (R : ℕ) < 8192 by omega)]
  pointwise [val_main_v1]
  blk_ext [place t]

/-- The reference's result at a point. -/
theorem sum_at (a g : FVec Ideal S8320x2048 .bf16) (w : FVec Ideal S1x4096x4096 .f32) (p : FVec Ideal S4x2048x4096 .f32) (s : FVec Ideal S128x1x4096 .f32) (i : S8320x4096.Idx) :
    (show EReal from val_main_v7 (F := Ideal) a g w p s i) = (show EReal from val_main_v2 (F := Ideal) p s i) + (show EReal from val_main_v6 (F := Ideal) a g w i) := by
  pointwise [val_main_v7]

/-- The products formed at a point are those of the reference. -/
theorem products_at (c : Dev nD) (t : Fin cfg0.N) (r : Fin 1040) (R : Fin 8320) (hR : R.val = t.val / 8 * 1040 + r.val)
    (l : Fin 512) (L : Fin 4096) (hL : L.val = t.val % 8 * 512 + l.val) :
    (show EReal from k0_pay1 (F := Ideal) (iblk m c 0 t) (iblk m c 2 t) (iblk m c 1 t) (iblk m c 3 t) (ix2 r l))
      = (show EReal from val_main_v6 (F := Ideal) (m ((c : Thread nD τ).loc main_arg0)) (m ((c : Thread nD τ).loc main_arg1)) (m ((c : Thread nD τ).loc main_arg2)) (ix2 R L)) :=
  product_at _ _ _ _ _ _ _ r R l L (attn_at m c t r R hR) (gate_at m c t r R hR) (upper_at m c t l L hL) (lower_at m c t l L hL)

/-- The last row block's prompt rows: the residual's rows and the products'. -/
theorem upper_rows (A G : FVec Ideal S1040x2048 .bf16) (U D : FVec Ideal S2048x512 .f32) (X : FVec Ideal S912x512 .f32) (n : Fin 912) (q : Fin 512)
    (y : S1040x512.Idx) (h0 : (y 0).val = n.val) (h1 : (y 1).val = q.val) :
    (show EReal from k0_pay3 (F := Ideal) A U G D X (ix2 n q)) = (show EReal from X (ix2 n q)) + (show EReal from k0_pay1 (F := Ideal) A U G D y) := by
  rw [show y = ix2 ⟨n.val, by omega⟩ q from funext fun a => Fin.ext (by match a with | ⟨0, _⟩ => exact h0 | ⟨1, _⟩ => exact h1)]
  generalize hk : k0_pay1 (F := Ideal) A U G D = K
  pointwise [k0_pay3]
  rw [hk]
  blk_ext

/-- The last row block's sample rows: the samples' residual and the products' rows from 912 on. -/
theorem lower_rows (A G : FVec Ideal S1040x2048 .bf16) (U D : FVec Ideal S2048x512 .f32) (X : FVec Ideal S128x512 .f32) (n : Fin 128) (q : Fin 512)
    (y : S1040x512.Idx) (h0 : (y 0).val = 912 + n.val) (h1 : (y 1).val = q.val) :
    (show EReal from k0_pay4 (F := Ideal) A U G D X (ix2 n q)) = (show EReal from X (ix2 n q)) + (show EReal from k0_pay1 (F := Ideal) A U G D y) := by
  rw [show y = ix2 ⟨912 + n.val, by omega⟩ q from funext fun a => Fin.ext (by match a with | ⟨0, _⟩ => exact h0 | ⟨1, _⟩ => exact h1)]
  generalize hk : k0_pay1 (F := Ideal) A U G D = K
  pointwise [k0_pay4]
  rw [hk]
  blk_ext

/-- A block before the last row block. -/
theorem inner_at (c : Dev nD) (t : Fin cfg0.N) (ht : t.val < 56) (r : Fin 1040) (R : Fin 8320) (hR : R.val = t.val / 8 * 1040 + r.val)
    (l : Fin 512) (L : Fin 4096) (hL : L.val = t.val % 8 * 512 + l.val) :
    (show EReal from outInner (F := Ideal) (iblk m c 0 t) (iblk m c 1 t) (iblk m c 2 t) (iblk m c 3 t) (resid m c t) (ix2 r l))
      = (show EReal from val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R L)) := by
  rw [sum_at]
  unfold outInner; frame_out
  pointwise [k0_pay2]
  exact congrArg₂ (· + ·) (prompt_at m c t r R hR (by omega) l L hL) (products_at m c t r R hR l L hL)

/-- A block of the last row block: 912 prompt rows and 128 sample rows. -/
theorem last_at (c : Dev nD) (t : Fin cfg0.N) (ht : ¬ t.val < 56) (r : Fin 1040) (R : Fin 8320) (hR : R.val = t.val / 8 * 1040 + r.val)
    (l : Fin 512) (L : Fin 4096) (hL : L.val = t.val % 8 * 512 + l.val) :
    (show EReal from outLast (F := Ideal) (iblk m c 0 t) (iblk m c 1 t) (iblk m c 2 t) (iblk m c 3 t) (resid m c t) (iblk m c 5 t) (ix2 r l))
      = (show EReal from val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R L)) := by
  have hN : t.val < 64 := N_0 ▸ t.isLt
  have ht7 : t.val / 8 = 7 := by omega
  rw [sum_at, ← products_at m c t r R hR l L hL]
  have hp := prompt_at m c t r R hR
  unfold outLast lastPieces; frame_out
  generalize hy : (ix2 r l : S1040x512.Idx) = y
  have hr : (y 0).val = r.val := by rw [← hy]; rfl
  have hl : (y 1).val = l.val := by rw [← hy]; rfl
  canon_tiles y h using cover_last _ _ y
  · rename_i y'
    obtain ⟨n, q, rfl⟩ : ∃ (n : Fin 128) (q : Fin 512), y = ix2 n q := ⟨y 0, y 1, by ext a; fin_cases a <;> rfl⟩
    have e0 : (y' 0).val = 912 + n.val := h0
    have e1 : (y' 1).val = q.val := h1
    refine (lower_rows _ _ _ _ _ n q y' e0 e1).trans (congrArg (· + _) ?_)
    exact sample_at m c t n R (by omega) q L (by omega)
  · rename_i y'
    obtain ⟨n, q, rfl⟩ : ∃ (n : Fin 912) (q : Fin 512), y = ix2 n q := ⟨y 0, y 1, by ext a; fin_cases a <;> rfl⟩
    have e0 : (y' 0).val = n.val := h0
    have e1 : (y' 1).val = q.val := h1
    refine (upper_rows _ _ _ _ _ n q y' e0 e1).trans (congrArg (· + _) ?_)
    refine Eq.trans ?_ (hp (by omega) l L hL)
    rw [View.ld_apply]
    refine congrArg (resid m c t) (funext fun a => Fin.ext ?_)
    match a with
    | ⟨0, _⟩ => show 0 + 1 * n.val = r.val; omega
    | ⟨1, _⟩ => show 0 + 1 * q.val = l.val; omega

/-- The kernel's result is the reference's. -/
theorem result (c : Dev nD) : (dats m 0 c).arrAt 6 (cfgs 0).N
    = (val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S8320x4096.Idx → EReal) := by
  refine (dats m 0 c).arrAt_eq_of_covers 6 _ (by decide +kernel) fun t hf y => ?_
  have hN : t.val < 64 := N_0 ▸ t.isLt
  blk_simp
  obtain ⟨r, l, rfl⟩ : ∃ (r : Fin 1040) (l : Fin 512), y = ix2 r l := ⟨y 0, y 1, by ext a; fin_cases a <;> rfl⟩
  have hi : ∀ j : S8320x4096.Idx, (j 0).val = t.val / 8 * 1040 + r.val → (j 1).val = t.val % 8 * 512 + l.val →
      (dats m 0 c).after 6 t (ix2 r l) = (val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S8320x4096.Idx → EReal) j := fun j h0 h1 => by
    rw [show j = ix2 (j 0) (j 1) from by ext a; fin_cases a <;> rfl]
    by_cases ht : t.val < 56
    · rw [after0_6_inner m c t ht]; exact inner_at m c t ht r (j 0) h0 l (j 1) h1
    · rw [after0_6_last m c t ht]; exact last_at m c t ht r (j 0) h0 l (j 1) h1
  refine hi _ ?_ ?_
  · blk_simp [place t]
  · blk_simp [place t]

end Cert.Proof.OutProj

end
-- ==== Proof.WriteTailValue.lean ====
/-
  The samples' rows written below the prompt's: the kernel writes the last row block of its array and keeps the other rows.
-/
module

public import proofs.«01_k».proof.Proof.Gen.WriteTailIdeal.Value
public import proofs.«01_k».proof.Proof.Gen.WriteTailRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.WriteTail

open Cert.WriteTailIdeal Cert.WriteTailIdeal.Gen Cert.WriteTailRefIdeal.Read

variable (m : (ℓ : Loc nD τ sig) → Buf (Elt Ideal) ℓ)

/-- The result's block is the one of the last 128 rows, the input's the whole of it. -/
theorem place : ∀ t : Fin cfg0.N, win0_0.index t = ![0, 0] ∧ win0_1.index t = ![64, 0] :=
  (by decide +kernel : ∀ t : Fin grid0.N, _)

/-- The kernel's result is the reference's: the array's first 8192 rows, and the samples' below them. -/
theorem result (c : Dev nD) : (dats m 0 c).arrAt 1 (cfgs 0).N
    = (val_main_v2 (F := Ideal) (m ((c : Thread nD τ).loc main_arg0)) (m ((c : Thread nD τ).loc main_arg1)) : S8320x2048.Idx → EReal) := by
  refine (dats m 0 c).arrAt_eq_of_coversWhere_of_agree 1 _ (fun β => 64 ≤ β 0) (by decide +kernel) (fun t hf y => ?_) (fun j hj => ?_)
  rotate_left
  · blk_simp [Pipeline.Window.cell_apply] at hj
    blk_simp
    rw [A_eq]
    entry_read
    pointwise [val_main_v2]
    rw [dif_pos (show (j 0 : ℕ) < 8192 by omega)]
    pointwise [val_main_v0]
    blk_ext
  blk_simp
  rw [after0_1]; unfold outsAt0; frame_out
  obtain ⟨n, l, rfl⟩ : ∃ (n : Fin 128) (l : Fin 2048), y = ix2 n l := ⟨y 0, y 1, by ext a; fin_cases a <;> rfl⟩
  pointwise [k0_pay1, val_main_v2]
  unfold iblk; entry_read
  blk_simp [place t]
  rw [dif_neg (by omega)]
  pointwise [val_main_v1]
  blk_ext [place t]

end Cert.Proof.WriteTail

end
-- ==== Proof.StackNormIdealRun.lean ====
/-
  The run of the program `StackNormIdeal` (hand-written): the first normalisation's one pallas_call, a grid of seventeen points
  over blocks of 512 rows of one result. The first sixteen points normalise the prompt's rows, the last one the samples' 128
  rows. The result's block overhangs the array at the last point: there the body writes the first 128 rows of its buffer, the
  others stay unspecified, and only the 128 are written back.
  Everything is over any float values, so the frame serves the program and its idealisation, which have the same text.
  `run_main` is the run with every array of the pipeline named, `run_blocks` the same read at the result and arguments,
  `frame` the frame claim.
-/
module

public import proofs.«01_k».proof.Proof.Gen.StackNormIdeal.Launch
public import proofs.«01_k».proof.Proof.Gen.StackNormIdeal.Skeleton
public import proofs.«01_k».proof.Proof.Gen.StackNormIdeal.Points
public import Idealize.ShloMosaic.Lib.Pipeline.FrameBody
public import Idealize.ShloMosaic.Lib.Pipeline.Value
public import Idealize.ShloMosaic.Lib.Pipeline.ValueKit.Tiles
public import Idealize.ShloMosaic.Lib.Claim
public import Idealize.ShloMosaic.Lib.Tactic

@[expose] public section

set_option maxRecDepth 16384

noncomputable section

namespace Cert.StackNormIdeal.Run

open Cert.StackNormIdeal Cert.StackNormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the call -/

/-- The buffers of core `c` when the call is entered: after the host's four reshapes. -/
abbrev V (c : Dev nD) (b : Ref sig .tc) : Buf (Elt F) ((c : Thread nD τ).loc b) :=
  StableHlo.after hostOps0 (fun b => m (c, b)) b

/-- The host's operations allocate nothing. -/
theorem fresh_none : (hostOps0 : List (HloOp τ sig (Elt F))).Forall fun op => op.fresh = ∅ := by
  simp only [List.Forall]; repeat' constructor

/-- The program up to the call. -/
theorem to_call : Pipeline.HMain (Ix := Unit) (Name := ℕ) (U := UR sig nD τ) (Lvl := ℕ) cfgs 0 defs₀ Variants.none m
    (main (F := F)) (V m) :=
  Pipeline.hmain_prefix cfgs 0 defs₀ Variants.none m main hostOps0 hostOps0_sub fresh_none main_chain

/-- A buffer other than the reshaped ones is at the call as launched. -/
theorem V_kept (c : Dev nD) (b : Ref sig .tc) (h : b ≠ main_v0 ∧ b ≠ main_v1 ∧ b ≠ main_v2 ∧ b ≠ main_v3) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2⟩))

/-- Window `w`'s block at point `t`: its part inside the array, read at the call. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What the body leaves -/

abbrev rAll : Rect S512x4096 := Rect.unit (s := S512x4096) ![0, 0] S512x4096.size inb_S512x4096_S512x4096_0_0
abbrev rTop : Rect S512x4096 := Rect.unit (s := S512x4096) ![0, 0] S128x4096.size inb_S512x4096_S128x4096_0_0
abbrev rGain : Rect S1x4096 := Rect.unit (s := S1x4096) ![0, 0] S1x4096.size inb_S1x4096_S1x4096_0_0
abbrev rTail : Rect S128x4096 := Rect.unit (s := S128x4096) ![0, 0] S128x4096.size inb_S128x4096_S128x4096_0_0

/-- A prompt block's result, from the block and the weight. -/
def outPrompt (x : Vec F S512x4096 .f32) (g : Vec F S1x4096 .f32) : Vec F S512x4096 .bf16 :=
  View.canon [⟨rAll, k0_pay1 (View.ld x rAll) (View.ld g rGain)⟩]

/-- The samples' result, from the block and the weight: its first 128 rows are stored, the others are of no account. -/
def outSample (x : Vec F S128x4096 .f32) (g : Vec F S1x4096 .f32) : Vec F S512x4096 .bf16 :=
  View.canon [⟨rTop, k0_pay2 (View.ld x rTail) (View.ld g rGain)⟩]

/-- The store of a prompt block covers the buffer. -/
theorem cover_prompt (p : Vec F S512x4096 .bf16) (y : S512x4096.Idx) :
    ∃ pc ∈ ([⟨rAll, p⟩] : List (View.Piece (Elt F) S512x4096 .bf16)), y ∈ pc.1.set :=
  View.cover_of_tiled [⟨rAll, p⟩] S512x4096.size (by rfl) y

/-- The store of the samples' block covers the first 128 rows. -/
theorem cover_sample (p : Vec F S128x4096 .bf16) (y : S512x4096.Idx) (h : (y 0).val < 128) :
    ∃ pc ∈ ([⟨rTop, p⟩] : List (View.Piece (Elt F) S512x4096 .bf16)), y ∈ pc.1.set :=
  ⟨_, List.mem_cons_self, (Rect.mem_set_unit (inb := inb_S512x4096_S128x4096_0_0)).mpr
    (Fin.forall_fin_two.mpr ⟨⟨Nat.zero_le _, by simpa using h⟩, ⟨Nat.zero_le _, by simpa using (y 1).isLt⟩⟩)⟩

/-! ## The schedule -/

/-- Which branch the body takes at a point. -/
theorem sched : ∀ t : Fin cfg0.N,
    (t.val < 16 → k0_cond1 (grid0.coords t) = 1#1 ∧ ¬ k0_cond2 (grid0.coords t) = 1#1)
    ∧ (¬ t.val < 16 → ¬ k0_cond1 (grid0.coords t) = 1#1 ∧ k0_cond2 (grid0.coords t) = 1#1) :=
  (by decide +kernel : ∀ t : Fin grid0.N, _)

/-- The body stores into the result's buffer at every point. -/
theorem stores (t : Fin cfg0.N) : (!(k0_cond1 (grid0.coords t) == 1#1) && !(k0_cond2 (grid0.coords t) == 1#1)) = false := by
  by_cases ht : t.val < 16
  · simp [((sched t).1 ht).1]
  · simp [((sched t).2 ht).2]

/-- How much of the result's block lies inside the array: all of it but at the last point, where 128 rows do. -/
theorem inside : ∀ t : Fin cfg0.N, win0_3.xsize (grid0.coords t) 0 = (if t.val < 16 then 512 else 128) :=
  (by decide +kernel : ∀ t : Fin grid0.N, _)

/-! ## The body's triples -/

set_option maxHeartbeats 1000000 in
/-- The body at a prompt point, the samples' buffer not touched. -/
theorem prompt_triple (c : Dev nD) (E : Set ℕ) (i : grid0.Coords) (h1 : k0_cond1 i = 1#1) (h2 : ¬ k0_cond2 i = 1#1)
    (arg1 : Memref sig .tc .vmem S512x4096 .f32) (harg1 : arg1.IsWhole) (arg2 : Memref sig .tc .vmem S128x4096 .f32) (harg2 : arg2.IsWhole)
    (arg3 : Memref sig .tc .vmem S1x4096 .f32) (harg3 : arg3.IsWhole) (arg4 : Memref sig .tc .vmem S512x4096 .bf16) (harg4 : arg4.IsWhole)
    (x : Vec F S512x4096 .f32) (g : Vec F S1x4096 .f32) (K : PUnit → sProp 𝕄) :
    iprop(owns (c : Thread nD τ) arg1 fullShare x ∗ owns (c : Thread nD τ) arg3 fullShare g ∗ (∃ d, owns (c : Thread nD τ) arg4 fullShare d)
        ∗ (iprop(owns (c : Thread nD τ) arg1 fullShare x ∗ owns (c : Thread nD τ) arg3 fullShare g
            ∗ owns (c : Thread nD τ) arg4 fullShare (outPrompt x g)) -∗ K ⟨⟩))
      ⊢ wp frame (wpE (defs₀ (F := F)) Variants.none c none) E (cc0_stack_norm i arg1 harg1 arg2 harg2 arg3 harg3 arg4 harg4) K := by
  simp only [cc0_stack_norm_eq_skeleton]; unfold cc0_stack_norm_skel
  simp only [dif_pos h1, dif_neg h2]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prompt _)

set_option maxHeartbeats 1000000 in
/-- The body at the last point, the prompt's buffer not touched: the first 128 rows of the result's buffer are named. -/
theorem sample_triple (c : Dev nD) (E : Set ℕ) (i : grid0.Coords) (h1 : ¬ k0_cond1 i = 1#1) (h2 : k0_cond2 i = 1#1)
    (arg1 : Memref sig .tc .vmem S512x4096 .f32) (harg1 : arg1.IsWhole) (arg2 : Memref sig .tc .vmem S128x4096 .f32) (harg2 : arg2.IsWhole)
    (arg3 : Memref sig .tc .vmem S1x4096 .f32) (harg3 : arg3.IsWhole) (arg4 : Memref sig .tc .vmem S512x4096 .bf16) (harg4 : arg4.IsWhole)
    (x : Vec F S128x4096 .f32) (g : Vec F S1x4096 .f32) (K : PUnit → sProp 𝕄) :
    iprop(owns (c : Thread nD τ) arg2 fullShare x ∗ owns (c : Thread nD τ) arg3 fullShare g ∗ (∃ d, owns (c : Thread nD τ) arg4 fullShare d)
        ∗ (iprop(owns (c : Thread nD τ) arg2 fullShare x ∗ owns (c : Thread nD τ) arg3 fullShare g
            ∗ ∃ X : Vec F S512x4096 .bf16, ⌜∀ y : S512x4096.Idx, (y 0).val < 128 → X y = outSample x g y⌝ ∗ owns (c : Thread nD τ) arg4 fullShare X) -∗ K ⟨⟩))
      ⊢ wp frame (wpE (defs₀ (F := F)) Variants.none c none) E (cc0_stack_norm i arg1 harg1 arg2 harg2 arg3 harg3 arg4 harg4) K := by
  simp only [cc0_stack_norm_eq_skeleton]; unfold cc0_stack_norm_skel
  simp only [dif_neg h1, dif_pos h2]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap
  · iexists _; isplitr
    swap; · iexact H2
    ipureintro; rfl
  ipureintro
  exact fun y hy => View.read_writes_apply_eq_canon _ _ y _ (cover_sample _ y hy)

/-! ## The pipeline's proof data -/

/-- After the body: the inputs' buffers at their blocks, the result's at the normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => if t.val < 16 then outPrompt (iblk m c 0 t) (iblk m c 2 t) else outSample (iblk m c 1 t) (iblk m c 2 t)
  Φ _ := Pipeline.ΦA spec0 c
  q _ := fullShare
  owed _ := 0

/-- The proof data's arrays are those at the call. -/
theorem A_eq (c : Dev nD) (w : Fin cfg0.W) : (dats m 0 c).A w = V m c (Pipeline.arrRef spec0 w) := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3_prompt (c : Dev nD) (t : Fin cfg0.N) (ht : t.val < 16) :
    (dats m 0 c).after 3 t = outPrompt (iblk m c 0 t) (iblk m c 2 t) := by dsimp only [dats]; exact if_pos ht
theorem after0_3_sample (c : Dev nD) (t : Fin cfg0.N) (ht : ¬ t.val < 16) :
    (dats m 0 c).after 3 t = outSample (iblk m c 1 t) (iblk m c 2 t) := by dsimp only [dats]; exact if_neg ht

/-- The body finds each input's block, whether it was fetched at this point or an earlier one. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's obligation -/

/-- The body's row of the table. -/
theorem body_row (t : Fin cfg0.N) : defs₀ (F := F) .tc cfg0.body (cfg0.bodyArgs t (cfg0.slots t)) = bodyAt0 t := by
  unfold defs₀; rw [Defs.onTc_tc]

set_option maxHeartbeats 1000000 in
/-- The library's obligation of the body, at every point. -/
theorem body_obligation (c : Dev nD) :
    BodyObligationLoose (dats (F := F) m 0 c) (defs₀ (F := F)) Variants.none () Set.univ := fun t => by
  show iprop((dats m 0 c).Φ t.castSucc ∗ (dats m 0 c).owesAt () t.castSucc ∗ bigSep Finset.univ fun w : Fin 4 =>
      iprop(∃ d, owns (c : Thread nD τ) ((cfg0.win w).stage (cfg0.slots t w)) fullShare ((dats m 0 c).before w t d)))
    ⊢ wp frame (wpE (defs₀ (F := F)) Variants.none c none) Set.univ (defs₀ .tc cfg0.body (cfg0.bodyArgs t (cfg0.slots t))) fun _ =>
      iprop((dats m 0 c).Φ t.succ ∗ (dats m 0 c).owesAt () t.succ ∗ bigSep Finset.univ fun w : Fin 4 => (dats m 0 c).leaves w t)
  rw [bigSep_W0, bigSep_W0, body_row]
  have e0 : (dats m 0 c).leaves 0 t = owns (c : Thread nD τ) (win0_0.stage (cfg0.slots t 0)) fullShare ((dats m 0 c).after 0 t) := rfl
  have e1 : (dats m 0 c).leaves 1 t = owns (c : Thread nD τ) (win0_1.stage (cfg0.slots t 1)) fullShare ((dats m 0 c).after 1 t) := rfl
  have e2 : (dats m 0 c).leaves 2 t = owns (c : Thread nD τ) (win0_2.stage (cfg0.slots t 2)) fullShare ((dats m 0 c).after 2 t) := rfl
  have e3 : (dats m 0 c).leaves 3 t = iprop(∃ d, owns (c : Thread nD τ) (win0_3.stage (cfg0.slots t 3)) fullShare
      (win0_3.fill (grid0.coords t) d (win0_3.cut (grid0.coords t) ((dats m 0 c).after 3 t)))) := by
    unfold Dat.leaves
    rw [show cfg0.idle 3 (cfg0.grid.coords t) = false from stores t]
  rw [e0, e1, e2, e3, after0_0, after0_1, after0_2,
    show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  by_cases ht : t.val < 16
  · obtain ⟨h1, h2⟩ := (sched t).1 ht
    rw [after0_3_prompt m c t ht]
    iapply (prompt_triple c Set.univ (grid0.coords t) h1 h2 _ _ _ _ _ _ _ _ (iblk m c 0 t) (iblk m c 2 t) _)
    isplitl [H0]; · iexact H0
    isplitl [H2]; · iexact H2
    isplitl [H3]; · iexists _; iexact H3
    iintro ⟨H0, H2, H3⟩
    isplitl [HΦ]; · iexact HΦ
    isplitl [Ho]; · iexact Ho
    isplitl [H0]; · iexact H0
    isplitl [H1]; · iexact H1
    isplitl [H2]; · iexact H2
    iexists outPrompt (iblk m c 0 t) (iblk m c 2 t)
    rw [win0_3.fill_cut]
    iexact H3
  · obtain ⟨h1, h2⟩ := (sched t).2 ht
    rw [after0_3_sample m c t ht]
    iapply (sample_triple c Set.univ (grid0.coords t) h1 h2 _ _ _ _ _ _ _ _ (iblk m c 1 t) (iblk m c 2 t) _)
    isplitl [H1]; · iexact H1
    isplitl [H2]; · iexact H2
    isplitl [H3]; · iexists _; iexact H3
    iintro ⟨H1, H2, ⟨%X, %hX, H3⟩⟩
    isplitl [HΦ]; · iexact HΦ
    isplitl [Ho]; · iexact Ho
    isplitl [H0]; · iexact H0
    isplitl [H1]; · iexact H1
    isplitl [H2]; · iexact H2
    iexists X
    rw [win0_3.fill_congr_cut (grid0.coords t) (X := X) (Y := outSample (iblk m c 1 t) (iblk m c 2 t)) (funext fun j =>
      hX _ (lt_of_lt_of_eq (j 0).isLt ((inside t).trans (if_neg ht))))]
    iexact H3

/-! ## The run -/

set_option backward.isDefEq.respectTransparency.types false in
set_option maxHeartbeats 800000 in
/-- Every weakly fair execution terminates with every array of the pipeline at what the proof data computes, every other
    buffer as at the call, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := to_call m) (hA := A_eq m) (hΦ := fun _ _ => rfl)

/-- The arguments end as launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans (V_kept m c main_arg0 (by decide)),
    ((h c).2 main_arg1 (Pipeline.mem_restRefs_of main_arg1 (by decide) (by decide))).trans (V_kept m c main_arg1 (by decide)),
    ((h c).2 main_arg2 (Pipeline.mem_restRefs_of main_arg2 (by decide) (by decide))).trans (V_kept m c main_arg2 (by decide))⟩

/-- The run with the result named. -/
theorem run_blocks : θ_run defs (onTc (τ := τ) (main (F := F))) ⟨m, fun _ => 0, ρ⟩ fun r => ∀ c : Dev nD,
      r.2.mem ((c : Thread nD τ).loc main_v4) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, kept m r h.1 c⟩) (run_main m ρ)

/-- The frame claim: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨kept m r h.1, h.2⟩) (run_main m ρ)

end Cert.StackNormIdeal.Run

end
-- ==== Proof.StackNormValue.lean ====
/-
  The first normalisation: the rows that the kernel leaves, the prompt's and below them the samples', are the reference's.
-/
module

public import proofs.«01_k».proof.Proof.StackNormIdealRun
public import proofs.«01_k».proof.Proof.Gen.StackNormRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.StackNorm

open Cert.StackNormIdeal Cert.StackNormIdeal.Gen Cert.StackNormIdeal.Run Cert.StackNormRefIdeal.Read

variable (m : (ℓ : Loc nD τ sig) → Buf (Elt Ideal) ℓ)

/-- Where each window's block lies: the prompt's rows at the point's row block, staying at the last one, the samples' and the
    weight whole, the result at the point's row block. -/
theorem place : ∀ t : Fin cfg0.N, win0_0.index t = ![min t.val 15, 0] ∧ win0_1.index t = ![0, 0] ∧ win0_2.index t = ![0, 0]
    ∧ win0_3.index t = ![t.val, 0] :=
  (by decide +kernel : ∀ t : Fin grid0.N, _)

/-- A normalised prompt row: the kernel's formula on a block's row is the reference's on the array's. -/
theorem prompt_at (X : FVec Ideal S512x4096 .f32) (G : FVec Ideal S1x4096 .f32) (x : FVec Ideal S4x2048x4096 .f32) (g : FVec Ideal S1x4096 .f32)
    (r : Fin 512) (b : Fin 4) (n : Fin 2048) (l : Fin 4096) (hX : ∀ k : Fin 4096, (X (ix2 r k) : EReal) = x (ix3 b n k))
    (hG : (G (ix2 0 l) : EReal) = g (ix2 0 l)) :
    (show EReal from k0_pay1 (F := Ideal) X G (ix2 r l)) = (show EReal from val_main_v13 (F := Ideal) x g (ix3 b n l)) := by
  pointwise [k0_pay1, val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  simp only [hX, hG]

/-- A normalised sample row likewise. -/
theorem sample_at (X : FVec Ideal S128x4096 .f32) (G : FVec Ideal S1x4096 .f32) (x : FVec Ideal S128x1x4096 .f32) (g : FVec Ideal S1x4096 .f32)
    (r : Fin 128) (l : Fin 4096) (hX : ∀ k : Fin 4096, (X (ix2 r k) : EReal) = x (ix3 r 0 k)) (hG : (G (ix2 0 l) : EReal) = g (ix2 0 l)) :
    (show EReal from k0_pay2 (F := Ideal) X G (ix2 r l)) = (show EReal from val_main_v27 (F := Ideal) x g (ix3 r 0 l)) := by
  pointwise [k0_pay2, val_main_v14, val_main_v15, val_main_v16, val_main_v17, val_main_v18, val_main_v19, val_main_v20, val_main_v21, val_main_v22, val_main_v23, val_main_v24, val_main_v25, val_main_v26, val_main_v27, val_main_cst_2, val_main_cst_3, val_main_cst_4]
  simp only [hX, hG]

/-- The prompt's block, by sequence and position. -/
theorem rows_at (c : Dev nD) (t : Fin cfg0.N) (ht : t.val < 16) (r : Fin 512) (b : Fin 4) (n : Fin 2048)
    (h : b.val * 2048 + n.val = t.val * 512 + r.val) (k : Fin 4096) :
    (show EReal from (show FVec Ideal S512x4096 .f32 from iblk m c 0 t) (ix2 r k)) = (m ((c : Thread nD τ).loc main_arg0) : S4x2048x4096.Idx → EReal) (ix3 b n k) := by
  have hm : min t.val 15 = t.val := by omega
  unfold iblk; entry_read; blk_simp; pointwise; blk_ext [place t, hm]

/-- The samples' block. -/
theorem tail_at (c : Dev nD) (t : Fin cfg0.N) (r : Fin 128) (k : Fin 4096) :
    (show EReal from (show FVec Ideal S128x4096 .f32 from iblk m c 1 t) (ix2 r k)) = (m ((c : Thread nD τ).loc main_arg1) : S128x1x4096.Idx → EReal) (ix3 r 0 k) := by
  unfold iblk; entry_read; blk_simp; pointwise; blk_ext [place t]

/-- The weight. -/
theorem gain_at (c : Dev nD) (t : Fin cfg0.N) (l : Fin 4096) :
    (show EReal from (show FVec Ideal S1x4096 .f32 from iblk m c 2 t) (ix2 0 l)) = (m ((c : Thread nD τ).loc main_arg2) : S1x4096.Idx → EReal) (ix2 0 l) := by
  unfold iblk; entry_read; blk_simp; pointwise; blk_ext [place t]

/-- The reference's result in a prompt row. -/
theorem ref_prompt (x : FVec Ideal S4x2048x4096 .f32) (s : FVec Ideal S128x1x4096 .f32) (g : FVec Ideal S1x4096 .f32) (j : S8320x4096.Idx)
    (b : Fin 4) (n : Fin 2048) (l : Fin 4096) (h0 : (j 0).val = b.val * 2048 + n.val) (h1 : (j 1).val = l.val) :
    (show EReal from val_main_v31 (F := Ideal) x s g j) = (show EReal from val_main_v13 (F := Ideal) x g (ix3 b n l)) := by
  rw [show j = ix2 ⟨b.val * 2048 + n.val, by omega⟩ l from funext fun a => Fin.ext (by match a with | ⟨0, _⟩ => exact h0 | ⟨1, _⟩ => exact h1)]
  generalize hv : val_main_v13 (F := Ideal) x g = v
  pointwise [val_main_v31, val_main_v30]
  rw [dif_pos (by omega)]
  pointwise [val_main_v28]
  rw [hv]
  blk_ext

/-- The reference's result in a sample's row. -/
theorem ref_sample (x : FVec Ideal S4x2048x4096 .f32) (s : FVec Ideal S128x1x4096 .f32) (g : FVec Ideal S1x4096 .f32) (j : S8320x4096.Idx)
    (n : Fin 128) (l : Fin 4096) (h0 : (j 0).val = 8192 + n.val) (h1 : (j 1).val = l.val) :
    (show EReal from val_main_v31 (F := Ideal) x s g j) = (show EReal from val_main_v27 (F := Ideal) s g (ix3 n 0 l)) := by
  rw [show j = ix2 ⟨8192 + n.val, by omega⟩ l from funext fun a => Fin.ext (by match a with | ⟨0, _⟩ => exact h0 | ⟨1, _⟩ => exact h1)]
  generalize hv : val_main_v27 (F := Ideal) s g = v
  pointwise [val_main_v31, val_main_v30]
  pointwise [val_main_v29]
  rw [hv]
  blk_ext

/-- A prompt block. -/
theorem prompt_block (c : Dev nD) (t : Fin cfg0.N) (ht : t.val < 16) (r : Fin 512) (l : Fin 4096) (j : S8320x4096.Idx)
    (h0 : (j 0).val = t.val * 512 + r.val) (h1 : (j 1).val = l.val) :
    (show EReal from outPrompt (F := Ideal) (iblk m c 0 t) (iblk m c 2 t) (ix2 r l))
      = (show EReal from val_main_v31 (F := Ideal) (m ((c : Thread nD τ).loc main_arg0)) (m ((c : Thread nD τ).loc main_arg1)) (m ((c : Thread nD τ).loc main_arg2)) j) := by
  refine Eq.trans ?_ (ref_prompt _ _ _ j ⟨(t.val * 512 + r.val) / 2048, by omega⟩ ⟨(t.val * 512 + r.val) % 2048, by omega⟩ l
    (by simp only; omega) h1).symm
  unfold outPrompt; frame_out
  exact prompt_at (iblk m c 0 t) (iblk m c 2 t) _ _ r _ _ l (fun k => rows_at m c t ht r _ _ (by simp only; omega) k) (gain_at m c t l)

/-- The samples' block, in its rows inside the array. -/
theorem sample_block (c : Dev nD) (t : Fin cfg0.N) (y : S512x4096.Idx) (hy : (y 0).val < 128) (j : S8320x4096.Idx)
    (h0 : (j 0).val = 8192 + (y 0).val) (h1 : (j 1).val = (y 1).val) :
    (show EReal from outSample (F := Ideal) (iblk m c 1 t) (iblk m c 2 t) y)
      = (show EReal from val_main_v31 (F := Ideal) (m ((c : Thread nD τ).loc main_arg0)) (m ((c : Thread nD τ).loc main_arg1)) (m ((c : Thread nD τ).loc main_arg2)) j) := by
  have hl : (y 1).val < 4096 := (y 1).isLt
  refine Eq.trans ?_ (ref_sample _ _ _ j ⟨(y 0).val, hy⟩ ⟨(y 1).val, hl⟩ h0 h1).symm
  unfold outSample; frame_out
  refine (congrArg (View.canon _) (show y = rTop.emb (ix2 ⟨(y 0).val, hy⟩ ⟨(y 1).val, hl⟩) from funext fun a => Fin.ext (by
    match a with
    | ⟨0, _⟩ => show (y 0).val = 0 + 1 * (y 0).val; omega
    | ⟨1, _⟩ => show (y 1).val = 0 + 1 * (y 1).val; omega))).trans ?_
  refine (View.canon_cons_emb rTop _ [] _).trans ?_
  exact sample_at (iblk m c 1 t) (iblk m c 2 t) _ _ ⟨(y 0).val, hy⟩ ⟨(y 1).val, hl⟩ (fun k => tail_at m c t _ k) (gain_at m c t _)

/-- The kernel's result is the reference's. -/
theorem result (c : Dev nD) : (dats m 0 c).arrAt 3 (cfgs 0).N
    = (val_main_v31 (F := Ideal) (m ((c : Thread nD τ).loc main_arg0)) (m ((c : Thread nD τ).loc main_arg1)) (m ((c : Thread nD τ).loc main_arg2)) : S8320x4096.Idx → EReal) := by
  refine (dats m 0 c).arrAt_eq_of_covers 3 _ (by decide +kernel) fun t hf y => ?_
  have hN : t.val < 17 := N_0 ▸ t.isLt
  have hi : ∀ (z : S512x4096.Idx) (j : S8320x4096.Idx), (j 0).val = t.val * 512 + (z 0).val → (j 1).val = (z 1).val →
      (¬ t.val < 16 → (z 0).val < 128) →
      (dats m 0 c).after 3 t z = (val_main_v31 (F := Ideal) (m ((c : Thread nD τ).loc main_arg0)) (m ((c : Thread nD τ).loc main_arg1)) (m ((c : Thread nD τ).loc main_arg2)) : S8320x4096.Idx → EReal) j := fun z j h0 h1 hz => by
    by_cases ht : t.val < 16
    · rw [after0_3_prompt m c t ht, show z = ix2 (z 0) (z 1) from by ext a; fin_cases a <;> rfl]
      exact prompt_block m c t ht (z 0) (z 1) j h0 h1
    · rw [after0_3_sample m c t ht]
      exact sample_block m c t z (hz ht) j (by omega) h1
  have hin : ¬ t.val < 16 → (y 0).val < 128 := fun ht =>
    lt_of_lt_of_eq (y 0).isLt ((inside t).trans (if_neg ht))
  blk_simp
  refine hi _ _ ?_ ?_ hin
  · blk_simp [place t]
  · blk_simp [place t]

end Cert.Proof.StackNorm

end
-- ==== Proof.lean ====
/- The certificate's claim, put together: each kernel's frames, its idealisation, and its results equal to those of
   the reference. The mathematics of each call is in the module of that call beside this one. -/
module

public import proofs.«01_k».proof.Defs
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.FfnUpRefIdeal.Read
public import proofs.«01_k».proof.Proof.FfnUpValue
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.FfnDownRefIdeal.Read
public import proofs.«01_k».proof.Proof.FfnDownValue
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.InProjValue
public import proofs.«01_k».proof.Proof.Gen.MemKv.Frame
public import proofs.«01_k».proof.Proof.Gen.MemKvIdeal.Frame
public import proofs.«01_k».proof.Proof.Gen.MemKvRefIdeal.Run
public import proofs.«01_k».proof.Proof.Gen.MemKvRefIdeal.Read
public import proofs.«01_k».proof.Proof.MemKvValue
public import proofs.«01_k».proof.Proof.Gen.SampleGate.Frame
public import proofs.«01_k».proof.Proof.Gen.SampleGateIdeal.Frame
public import proofs.«01_k».proof.Proof.Gen.SampleGateRefIdeal.Run
public import proofs.«01_k».proof.Proof.Gen.SampleGateRefIdeal.Read
public import proofs.«01_k».proof.Proof.SampleGateValue
public import proofs.«01_k».proof.Proof.Gen.SampleAttn.Frame
public import proofs.«01_k».proof.Proof.Gen.SampleAttnIdeal.Frame
public import proofs.«01_k».proof.Proof.Gen.SampleAttnRefIdeal.Run
public import proofs.«01_k».proof.Proof.Gen.SampleAttnRefIdeal.Read
public import proofs.«01_k».proof.Proof.SampleAttnValue
public import proofs.«01_k».proof.Proof.Gen.Pre_finite
public import proofs.«01_k».proof.Proof.Gen.NormProj.Frame
public import proofs.«01_k».proof.Proof.Gen.NormProjIdeal.Frame
public import proofs.«01_k».proof.Proof.Gen.NormProjRefIdeal.Run
public import proofs.«01_k».proof.Proof.Gen.NormProjRefIdeal.Read
public import proofs.«01_k».proof.Proof.NormProjValue
public import proofs.«01_k».proof.Proof.Gen.SampleXattn.Frame
public import proofs.«01_k».proof.Proof.Gen.SampleXattnIdeal.Frame
public import proofs.«01_k».proof.Proof.Gen.SampleXattnRefIdeal.Run
public import proofs.«01_k».proof.Proof.Gen.SampleXattnRefIdeal.Read
public import proofs.«01_k».proof.Proof.SampleXattnValue
public import proofs.«01_k».proof.Proof.Gen.Pre_finite_memory
public import proofs.«01_k».proof.Proof.Gen.ProjResNorm.Frame
public import proofs.«01_k».proof.Proof.Gen.ProjResNormIdeal.Frame
public import proofs.«01_k».proof.Proof.Gen.ProjResNormRefIdeal.Run
public import proofs.«01_k».proof.Proof.Gen.ProjResNormRefIdeal.Read
public import proofs.«01_k».proof.Proof.ProjResNormValue
public import proofs.«01_k».proof.Proof.Gen.FinalNorm
public import proofs.«01_k».proof.Proof.FinalNormIdealRun
public import proofs.«01_k».proof.Proof.Gen.FinalNormRefIdeal.Run
public import proofs.«01_k».proof.Proof.Gen.FinalNormRefIdeal.Read
public import proofs.«01_k».proof.Proof.FinalNormValue
public import proofs.«01_k».proof.Proof.Gen.OutProj
public import proofs.«01_k».proof.Proof.OutProjIdealRun
public import proofs.«01_k».proof.Proof.Gen.OutProjRefIdeal.Run
public import proofs.«01_k».proof.Proof.Gen.OutProjRefIdeal.Read
public import proofs.«01_k».proof.Proof.OutProjValue
public import proofs.«01_k».proof.Proof.Gen.WriteTail.Frame
public import proofs.«01_k».proof.Proof.Gen.WriteTailIdeal.Frame
public import proofs.«01_k».proof.Proof.Gen.WriteTailRefIdeal.Run
public import proofs.«01_k».proof.Proof.Gen.WriteTailRefIdeal.Read
public import proofs.«01_k».proof.Proof.WriteTailValue
public import proofs.«01_k».proof.Proof.Gen.StackNorm
public import proofs.«01_k».proof.Proof.StackNormIdealRun
public import proofs.«01_k».proof.Proof.Gen.StackNormRefIdeal.Run
public import proofs.«01_k».proof.Proof.Gen.StackNormRefIdeal.Read
public import proofs.«01_k».proof.Proof.StackNormValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

section
open Cert.InProjRefIdeal

/-- The reference of the input projection ends with its result at the last of its stages. -/
theorem in_proj_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v156) = Read.val_main_v156 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (Read.val_main_v156_eq m c), (h c).2⟩) (Value.run m ρ)

end

section
open Cert.SampleGateRefIdeal

/-- The reference of the samples' gate ends with its two results at their last stages. -/
theorem sample_gate_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = Read.val_main_v39 (F := Ideal) (m ((c.tc : Thread nD τ).loc main_arg1)) (m ((c.tc : Thread nD τ).loc main_arg2)) (m ((c.tc : Thread nD τ).loc main_arg3))
      ∧ r.2.mem ((c.tc : Thread nD τ).loc main_v42) = Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans (Read.val_main_v39_eq _ _ _), (h c).2.1.trans (Read.val_main_v42_eq _ _ _ _ _ _ _), (h c).2.2⟩) (Value.run m ρ)

end

section
open Cert.SampleAttnRefIdeal

/-- The reference of the samples' attention ends with its result at the last of its stages. -/
theorem sample_attn_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v168) = Read.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (Read.val_main_v168_eq (launchContents m c)), (h c).2⟩) (Value.run m ρ)

end

section
open Cert.OutProjRefIdeal

/-- The reference of the output projection ends with its result at the last of its stages. -/
theorem out_proj_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = Read.val_main_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (Read.val_main_v7_eq _ _ _ _ _), (h c).2⟩) (Value.run m ρ)

end

section
open Cert.WriteTailRefIdeal

/-- The reference of the copy of the samples' rows ends with its result at the last of its stages. -/
theorem write_tail_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Read.val_main_v2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (Read.val_main_v2_eq _ _), (h c).2⟩) (Value.run m ρ)

end

section
open Cert.StackNormRefIdeal

/-- The reference of the first normalisation ends with its result at the last of its stages. -/
theorem stack_norm_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = Read.val_main_v31 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (Read.val_main_v31_eq _ _ _), (h c).2⟩) (Value.run m ρ)

end

/-- The kernel and the reference of the widening product of the feed-forward part leave the same results. -/
theorem algebraic_FfnUp : Cert.algebraic_FfnUpIdeal_FfnUpRefIdeal := by
  pair_intro
  · run_from Cert.FfnUpIdeal.Gen.run_main m g
  · run_from Cert.FfnUpRefIdeal.Value.run m' g'
    exact (Cert.Proof.FfnUp.result m _).symm

/-- The kernel and the reference of the narrowing product of the feed-forward part, with the residual leave the same results. -/
theorem algebraic_FfnDown : Cert.algebraic_FfnDownIdeal_FfnDownRefIdeal := by
  pair_intro
  · run_from Cert.FfnDownIdeal.Gen.run_main m g
  · run_from Cert.FfnDownRefIdeal.Value.run m' g'
    exact (Cert.Proof.FfnDown.result m _).symm

/-- The kernel and the reference of the input projection with rotated queries and keys leave the same results. -/
theorem algebraic_InProj : Cert.algebraic_InProjIdeal_InProjRefIdeal := by
  pair_intro
  · run_from Cert.InProjIdeal.Gen.run_main m g
  · run_from in_proj_reference_run m' g'
    exact (Cert.Proof.InProj.result m _).symm

/-- The kernel and the reference of the projections of the memory leave the same results. -/
theorem algebraic_MemKv : Cert.algebraic_MemKvIdeal_MemKvRefIdeal := by
  pair_intro
  · run_from Cert.MemKvIdeal.Gen.run_main m g
  · run_from Cert.MemKvRefIdeal.Value.run m' g'
    · exact (Cert.Proof.MemKv.result_k m _).symm
    · exact (Cert.Proof.MemKv.result_v m _).symm

/-- The kernel and the reference of the gate of the samples leave the same results. -/
theorem algebraic_SampleGate : Cert.algebraic_SampleGateIdeal_SampleGateRefIdeal := by
  pair_intro
  · run_from Cert.SampleGateIdeal.Gen.run_main m g
  · run_from sample_gate_reference_run m' g'
    · exact (Cert.Proof.SampleGate.result_v m _).symm
    · exact (Cert.Proof.SampleGate.result_o m _).symm

/-- The kernel and the reference of the attention of the samples leave the same results. -/
theorem algebraic_SampleAttn : Cert.algebraic_SampleAttnIdeal_SampleAttnRefIdeal_pre_finite := by
  pair_intro
  · run_from Cert.SampleAttnIdeal.Gen.run_main m g
  · run_from sample_attn_reference_run m' g'
    exact (Cert.Proof.SampleAttn.result m hpre _).symm

/-- The kernel and the reference of the query projection of the cross-attention, with its norm leave the same results. -/
theorem algebraic_NormProj : Cert.algebraic_NormProjIdeal_NormProjRefIdeal := by
  pair_intro
  · run_from Cert.NormProjIdeal.Gen.run_main m g
  · run_from Cert.NormProjRefIdeal.Value.run m' g'
    exact (Cert.Proof.NormProj.result m _).symm

/-- The kernel and the reference of the cross-attention of the samples leave the same results. -/
theorem algebraic_SampleXattn : Cert.algebraic_SampleXattnIdeal_SampleXattnRefIdeal_pre_finite_memory := by
  pair_intro
  · run_from Cert.SampleXattnIdeal.Gen.run_main m g
  · run_from Cert.SampleXattnRefIdeal.Value.run m' g'
    exact (Cert.Proof.SampleXattn.result m hpre _).symm

/-- The kernel and the reference of the projection after the cross-attention, with residual and norm leave the same results. -/
theorem algebraic_ProjResNorm : Cert.algebraic_ProjResNormIdeal_ProjResNormRefIdeal := by
  pair_intro
  · run_from Cert.ProjResNormIdeal.Gen.run_main m g
  · run_from Cert.ProjResNormRefIdeal.Value.run m' g'
    · exact (Cert.Proof.ProjResNorm.result_x m _).symm
    · exact (Cert.Proof.ProjResNorm.result_h m _).symm

/-- The kernel and the reference of the final normalisation leave the same results. -/
theorem algebraic_FinalNorm : Cert.algebraic_FinalNormIdeal_FinalNormRefIdeal := by
  pair_intro
  · run_from Cert.FinalNormIdeal.Run.run_blocks m g
  · run_from Cert.FinalNormRefIdeal.Value.run m' g'
    · exact (Cert.Proof.FinalNorm.result_prompt m _).symm
    · exact (Cert.Proof.FinalNorm.result_sample m _).symm

/-- The kernel and the reference of the output projection, with the residual leave the same results. -/
theorem algebraic_OutProj : Cert.algebraic_OutProjIdeal_OutProjRefIdeal := by
  pair_intro
  · run_from Cert.OutProjIdeal.Run.run_blocks m g
  · run_from out_proj_reference_run m' g'
    exact (Cert.Proof.OutProj.result m _).symm

/-- The kernel and the reference of the copy of the samples' rows below the prompt's leave the same results. -/
theorem algebraic_WriteTail : Cert.algebraic_WriteTailIdeal_WriteTailRefIdeal := by
  pair_intro
  · run_from Cert.WriteTailIdeal.Gen.run_main m g
  · run_from write_tail_reference_run m' g'
    exact (Cert.Proof.WriteTail.result m _).symm

/-- The kernel and the reference of the first normalisation leave the same results. -/
theorem algebraic_StackNorm : Cert.algebraic_StackNormIdeal_StackNormRefIdeal := by
  pair_intro
  · run_from Cert.StackNormIdeal.Run.run_blocks m g
  · run_from stack_norm_reference_run m' g'
    exact (Cert.Proof.StackNorm.result m _).symm

/-- The reference of the widening product of the feed-forward part runs to its end and leaves its arguments alone. -/
theorem frame_FfnUp_ref : Cert.quiescent_FfnUpRefIdeal := fun m g _ =>
  (θ_run _ _ _).mono (fun r h => ⟨fun c => (h c).2, sem_eq_zero_of_no_sems rfl r.2⟩) (Cert.FfnUpRefIdeal.Value.run m g)

/-- The reference of the narrowing product of the feed-forward part, with the residual runs to its end and leaves its arguments alone. -/
theorem frame_FfnDown_ref : Cert.quiescent_FfnDownRefIdeal := fun m g _ =>
  (θ_run _ _ _).mono (fun r h => ⟨fun c => (h c).2, sem_eq_zero_of_no_sems rfl r.2⟩) (Cert.FfnDownRefIdeal.Value.run m g)

/-- The reference of the input projection with rotated queries and keys runs to its end and leaves its arguments alone. -/
theorem frame_InProj_ref : Cert.quiescent_InProjRefIdeal := fun m g _ =>
  (θ_run _ _ _).mono (fun r h => ⟨fun c => (h c).2, sem_eq_zero_of_no_sems rfl r.2⟩) (Cert.InProjRefIdeal.Value.run m g)

/-- The reference of the projections of the memory runs to its end and leaves its arguments alone. -/
theorem frame_MemKv_ref : Cert.quiescent_MemKvRefIdeal := fun m g _ =>
  (θ_run _ _ _).mono (fun r h => ⟨fun c => (h c).2.2, sem_eq_zero_of_no_sems rfl r.2⟩) (Cert.MemKvRefIdeal.Value.run m g)

/-- The reference of the gate of the samples runs to its end and leaves its arguments alone. -/
theorem frame_SampleGate_ref : Cert.quiescent_SampleGateRefIdeal := fun m g _ =>
  (θ_run _ _ _).mono (fun r h => ⟨fun c => (h c).2.2, sem_eq_zero_of_no_sems rfl r.2⟩) (Cert.SampleGateRefIdeal.Value.run m g)

/-- The reference of the attention of the samples runs to its end and leaves its arguments alone. -/
theorem frame_SampleAttn_ref : Cert.quiescent_SampleAttnRefIdeal := fun m g _ =>
  (θ_run _ _ _).mono (fun r h => ⟨fun c => (h c).2, sem_eq_zero_of_no_sems rfl r.2⟩) (Cert.SampleAttnRefIdeal.Value.run m g)

/-- The reference of the query projection of the cross-attention, with its norm runs to its end and leaves its arguments alone. -/
theorem frame_NormProj_ref : Cert.quiescent_NormProjRefIdeal := fun m g _ =>
  (θ_run _ _ _).mono (fun r h => ⟨fun c => (h c).2, sem_eq_zero_of_no_sems rfl r.2⟩) (Cert.NormProjRefIdeal.Value.run m g)

/-- The reference of the cross-attention of the samples runs to its end and leaves its arguments alone. -/
theorem frame_SampleXattn_ref : Cert.quiescent_SampleXattnRefIdeal := fun m g _ =>
  (θ_run _ _ _).mono (fun r h => ⟨fun c => (h c).2, sem_eq_zero_of_no_sems rfl r.2⟩) (Cert.SampleXattnRefIdeal.Value.run m g)

/-- The reference of the projection after the cross-attention, with residual and norm runs to its end and leaves its arguments alone. -/
theorem frame_ProjResNorm_ref : Cert.quiescent_ProjResNormRefIdeal := fun m g _ =>
  (θ_run _ _ _).mono (fun r h => ⟨fun c => (h c).2.2, sem_eq_zero_of_no_sems rfl r.2⟩) (Cert.ProjResNormRefIdeal.Value.run m g)

/-- The reference of the final normalisation runs to its end and leaves its arguments alone. -/
theorem frame_FinalNorm_ref : Cert.quiescent_FinalNormRefIdeal := fun m g _ =>
  (θ_run _ _ _).mono (fun r h => ⟨fun c => (h c).2.2, sem_eq_zero_of_no_sems rfl r.2⟩) (Cert.FinalNormRefIdeal.Value.run m g)

/-- The reference of the output projection, with the residual runs to its end and leaves its arguments alone. -/
theorem frame_OutProj_ref : Cert.quiescent_OutProjRefIdeal := fun m g _ =>
  (θ_run _ _ _).mono (fun r h => ⟨fun c => (h c).2, sem_eq_zero_of_no_sems rfl r.2⟩) (Cert.OutProjRefIdeal.Value.run m g)

/-- The reference of the copy of the samples' rows below the prompt's runs to its end and leaves its arguments alone. -/
theorem frame_WriteTail_ref : Cert.quiescent_WriteTailRefIdeal := fun m g _ =>
  (θ_run _ _ _).mono (fun r h => ⟨fun c => (h c).2, sem_eq_zero_of_no_sems rfl r.2⟩) (Cert.WriteTailRefIdeal.Value.run m g)

/-- The reference of the first normalisation runs to its end and leaves its arguments alone. -/
theorem frame_StackNorm_ref : Cert.quiescent_StackNormRefIdeal := fun m g _ =>
  (θ_run _ _ _).mono (fun r h => ⟨fun c => (h c).2, sem_eq_zero_of_no_sems rfl r.2⟩) (Cert.StackNormRefIdeal.Value.run m g)

/-- The program of the final normalisation and its idealisation run the same bodies. -/
theorem bodies_FinalNorm : Cert.FinalNorm.defs₀ (F := Bits) = Cert.FinalNormIdeal.defs₀ (F := Bits) := by
  unfold Cert.FinalNorm.defs₀ Cert.FinalNormIdeal.defs₀
  refine congrArg Defs.onTc ?_
  funext l
  match l with
  | 0 => rfl
  | ⟨n + 1, h⟩ => exact absurd h (by omega)

/-- The program of the final normalisation runs to its end and leaves its arguments alone: the run of its idealisation, at the words. -/
theorem frame_FinalNorm : Cert.quiescent_FinalNorm := fun m ρ _ => by
  have h := Cert.FinalNormIdeal.Run.frame (F := Bits) m ρ
  unfold Cert.FinalNormIdeal.defs at h
  unfold Cert.FinalNorm.defs
  rw [bodies_FinalNorm]
  exact h

/-- The program of the output projection, with the residual and its idealisation run the same bodies. -/
theorem bodies_OutProj : Cert.OutProj.defs₀ (F := Bits) = Cert.OutProjIdeal.defs₀ (F := Bits) := by
  unfold Cert.OutProj.defs₀ Cert.OutProjIdeal.defs₀
  refine congrArg Defs.onTc ?_
  funext l
  match l with
  | 0 => rfl
  | ⟨n + 1, h⟩ => exact absurd h (by omega)

/-- The program of the output projection, with the residual runs to its end and leaves its arguments alone: the run of its idealisation, at the words. -/
theorem frame_OutProj : Cert.quiescent_OutProj := fun m ρ _ => by
  have h := Cert.OutProjIdeal.Run.frame (F := Bits) m ρ
  unfold Cert.OutProjIdeal.defs at h
  unfold Cert.OutProj.defs
  rw [bodies_OutProj]
  exact h

/-- The program of the first normalisation and its idealisation run the same bodies. -/
theorem bodies_StackNorm : Cert.StackNorm.defs₀ (F := Bits) = Cert.StackNormIdeal.defs₀ (F := Bits) := by
  unfold Cert.StackNorm.defs₀ Cert.StackNormIdeal.defs₀
  refine congrArg Defs.onTc ?_
  funext l
  match l with
  | 0 => rfl
  | ⟨n + 1, h⟩ => exact absurd h (by omega)

/-- The program of the first normalisation runs to its end and leaves its arguments alone: the run of its idealisation, at the words. -/
theorem frame_StackNorm : Cert.quiescent_StackNorm := fun m ρ _ => by
  have h := Cert.StackNormIdeal.Run.frame (F := Bits) m ρ
  unfold Cert.StackNormIdeal.defs at h
  unfold Cert.StackNorm.defs
  rw [bodies_StackNorm]
  exact h

/-- Everything stated, proved. -/
theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.FfnUp.Gen.frame m ρ,
    fun m ρ _ => Cert.FfnUpIdeal.Gen.frame m ρ,
    frame_FfnUp_ref,
    fun m ρ _ => Cert.FfnDown.Gen.frame m ρ,
    fun m ρ _ => Cert.FfnDownIdeal.Gen.frame m ρ,
    frame_FfnDown_ref,
    fun m ρ _ => Cert.InProj.Gen.frame m ρ,
    fun m ρ _ => Cert.InProjIdeal.Gen.frame m ρ,
    frame_InProj_ref,
    fun m ρ _ => Cert.MemKv.Gen.frame m ρ,
    fun m ρ _ => Cert.MemKvIdeal.Gen.frame m ρ,
    frame_MemKv_ref,
    fun m ρ _ => Cert.SampleGate.Gen.frame m ρ,
    fun m ρ _ => Cert.SampleGateIdeal.Gen.frame m ρ,
    frame_SampleGate_ref,
    fun m ρ _ => Cert.SampleAttn.Gen.frame m ρ,
    fun m ρ _ => Cert.SampleAttnIdeal.Gen.frame m ρ,
    fun m ρ _ => Cert.SampleAttnIdeal.Gen.frame m ρ,
    frame_SampleAttn_ref,
    fun m ρ _ => frame_SampleAttn_ref m ρ trivial,
    fun m ρ _ => Cert.NormProj.Gen.frame m ρ,
    fun m ρ _ => Cert.NormProjIdeal.Gen.frame m ρ,
    frame_NormProj_ref,
    fun m ρ _ => Cert.SampleXattn.Gen.frame m ρ,
    fun m ρ _ => Cert.SampleXattnIdeal.Gen.frame m ρ,
    fun m ρ _ => Cert.SampleXattnIdeal.Gen.frame m ρ,
    frame_SampleXattn_ref,
    fun m ρ _ => frame_SampleXattn_ref m ρ trivial,
    fun m ρ _ => Cert.ProjResNorm.Gen.frame m ρ,
    fun m ρ _ => Cert.ProjResNormIdeal.Gen.frame m ρ,
    frame_ProjResNorm_ref,
    frame_FinalNorm,
    fun m ρ _ => Cert.FinalNormIdeal.Run.frame m ρ,
    frame_FinalNorm_ref,
    frame_OutProj,
    fun m ρ _ => Cert.OutProjIdeal.Run.frame m ρ,
    frame_OutProj_ref,
    fun m ρ _ => Cert.WriteTail.Gen.frame m ρ,
    fun m ρ _ => Cert.WriteTailIdeal.Gen.frame m ρ,
    frame_WriteTail_ref,
    frame_StackNorm,
    fun m ρ _ => Cert.StackNormIdeal.Run.frame m ρ,
    frame_StackNorm_ref,
    trivial,
    algebraic_FfnUp,
    trivial,
    algebraic_FfnDown,
    trivial,
    algebraic_InProj,
    trivial,
    algebraic_MemKv,
    trivial,
    algebraic_SampleGate,
    trivial,
    algebraic_SampleAttn,
    trivial,
    algebraic_NormProj,
    trivial,
    algebraic_SampleXattn,
    trivial,
    algebraic_ProjResNorm,
    trivial,
    algebraic_FinalNorm,
    trivial,
    algebraic_OutProj,
    trivial,
    algebraic_WriteTail,
    trivial,
    algebraic_StackNorm⟩

end Cert.Proof

end
